-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v38)) (v1 : (c : Dev Cert.Kernel2Ideal.nD) → Buf (Elt Ideal) ((c.tc : Thread Cert.Kernel2Ideal.nD Cert.Kernel2Ideal.τ).loc Cert.Kernel2Ideal.main_v39)) (v2 : (c : Dev Cert.Kernel2Ideal.nD) → Buf (Elt Ideal) ((c.tc : Thread Cert.Kernel2Ideal.nD Cert.Kernel2Ideal.τ).loc Cert.Kernel2Ideal.main_v49)) (v3 : (c : Dev Cert.Kernel2Ideal.nD) → Buf (Elt Ideal) ((c.tc : Thread Cert.Kernel2Ideal.nD Cert.Kernel2Ideal.τ).loc Cert.Kernel2Ideal.main_v50)) (v4 : (c : Dev Cert.Kernel2Ideal.nD) → Buf (Elt Ideal) ((c.tc : Thread Cert.Kernel2Ideal.nD Cert.Kernel2Ideal.τ).loc Cert.Kernel2Ideal.main_v51)) (v5 : (c : Dev Cert.Kernel2Ideal.nD) → Buf (Elt Ideal) ((c.tc : Thread Cert.Kernel2Ideal.nD Cert.Kernel2Ideal.τ).loc Cert.Kernel2Ideal.main_v52)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v38) = v0 c
          ∧ r.2.mem ((c.tc : Thread Cert.Kernel2Ideal.nD Cert.Kernel2Ideal.τ).loc Cert.Kernel2Ideal.main_v39) = v1 c
          ∧ r.2.mem ((c.tc : Thread Cert.Kernel2Ideal.nD Cert.Kernel2Ideal.τ).loc Cert.Kernel2Ideal.main_v49) = v2 c
          ∧ r.2.mem ((c.tc : Thread Cert.Kernel2Ideal.nD Cert.Kernel2Ideal.τ).loc Cert.Kernel2Ideal.main_v50) = v3 c
          ∧ r.2.mem ((c.tc : Thread Cert.Kernel2Ideal.nD Cert.Kernel2Ideal.τ).loc Cert.Kernel2Ideal.main_v51) = v4 c
          ∧ r.2.mem ((c.tc : Thread Cert.Kernel2Ideal.nD Cert.Kernel2Ideal.τ).loc Cert.Kernel2Ideal.main_v52) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_v3) = v1 c
          ∧ r.2.mem ((c.tc : Thread Cert.Reference2Ideal.nD Cert.Reference2Ideal.τ).loc Cert.Reference2Ideal.main_v5) = v2 c
          ∧ r.2.mem ((c.tc : Thread Cert.Reference2Ideal.nD Cert.Reference2Ideal.τ).loc Cert.Reference2Ideal.main_v6) = v3 c
          ∧ r.2.mem ((c.tc : Thread Cert.Reference2Ideal.nD Cert.Reference2Ideal.τ).loc Cert.Reference2Ideal.main_v7) = v4 c
          ∧ r.2.mem ((c.tc : Thread Cert.Reference2Ideal.nD Cert.Reference2Ideal.τ).loc Cert.Reference2Ideal.main_v10) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v47) = v0 c
          ∧ r.2.mem ((c.tc : Thread Cert.Reference4Ideal.nD Cert.Reference4Ideal.τ).loc Cert.Reference4Ideal.main_v49) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v72_0)) (v1 : (c : Dev Cert.Kernel5Ideal.nD) → Buf (Elt Ideal) ((c.tc : Thread Cert.Kernel5Ideal.nD Cert.Kernel5Ideal.τ).loc Cert.Kernel5Ideal.main_v72_1)) (v2 : (c : Dev Cert.Kernel5Ideal.nD) → Buf (Elt Ideal) ((c.tc : Thread Cert.Kernel5Ideal.nD Cert.Kernel5Ideal.τ).loc Cert.Kernel5Ideal.main_v72_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v72_0) = v0 c
          ∧ r.2.mem ((c.tc : Thread Cert.Kernel5Ideal.nD Cert.Kernel5Ideal.τ).loc Cert.Kernel5Ideal.main_v72_1) = v1 c
          ∧ r.2.mem ((c.tc : Thread Cert.Kernel5Ideal.nD Cert.Kernel5Ideal.τ).loc Cert.Kernel5Ideal.main_v72_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v88) = v0 c
          ∧ r.2.mem ((c.tc : Thread Cert.Reference5Ideal.nD Cert.Reference5Ideal.τ).loc Cert.Reference5Ideal.main_v92) = v1 c
          ∧ r.2.mem ((c.tc : Thread Cert.Reference5Ideal.nD Cert.Reference5Ideal.τ).loc Cert.Reference5Ideal.main_v95) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== Pre_finite.lean ====
abbrev S16384x1024 : Shape := ⟨2, ![16384, 1024]⟩
abbrev S16384x512 : Shape := ⟨2, ![16384, 512]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .bf16) (main_arg1 : FVec F S16384x1024 .bf16) (main_arg2 : FVec F S16384x512 .bf16) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S16384x1024 .f32 := (extf .f32 · bitsLt_bf16_f32) main_arg1
  let main_v6 : FVec F S16384x1024 .f32 := Host.absf main_v5
  let main_cst_0 : FVec F S_ .f32 := constant S_ .f32 0x7F800000#32
  let main_v7 : FVec F S16384x1024 .f32 := broadcastInDim S16384x1024 ![] bcast_S_S16384x1024 main_cst_0
  let main_v8 : IVec S16384x1024 1 := cmpf .olt main_v6 main_v7
  let main_c_1 : IVec S_ 1 := constantI S_ 1 1#1
  let main_v9 : IVec S_ 1 := (fun x v => Host.reduce IntOp.andi x v reducesTo_S16384x1024_S_d0_1 h_S_) main_v8 main_c_1
  let main_v10 : IVec S_ 1 := andi main_v4 main_v9
  main_v10
-- ==== Pre_finite5.lean ====
abbrev S16384x8704 : Shape := ⟨2, ![16384, 8704]⟩
abbrev S16384x32 : Shape := ⟨2, ![16384, 32]⟩
abbrev S8x2048 : Shape := ⟨2, ![8, 2048]⟩
abbrev S768 : Shape := ⟨1, ![768]⟩
abbrev S256 : Shape := ⟨1, ![256]⟩
abbrev S768x768 : Shape := ⟨2, ![768, 768]⟩
abbrev S256x1024 : Shape := ⟨2, ![256, 1024]⟩
abbrev S_ : Shape := ⟨0, ![]⟩

class Facts : Prop where
  bcast_S_S768 : S_.BroadcastsInDim S768 (![] : Fin 0 → Fin S768.rank)
  reducesTo_S768_S_d0 : S768.ReducesTo [0] S_
  h_S_ : 0 < S_.numel
  bcast_S_S768x768 : S_.BroadcastsInDim S768x768 (![] : Fin 0 → Fin S768x768.rank)
  reducesTo_S768x768_S_d0_1 : S768x768.ReducesTo [0, 1] S_

variable [Facts]

def fn {F : FTy → Type} [FloatOps F] (main_arg0 : FVec F S16384x8704 .bf16) (main_arg1 : FVec F S16384x32 .f32) (main_arg2 : IVec S8x2048 32) (main_arg3 : FVec F S768 .f32) (main_arg4 : FVec F S256 .f32) (main_arg5 : FVec F S768x768 .f32) (main_arg6 : FVec F S256x1024 .f32) : IVec S_ 1 :=
  let main_v0 : FVec F S768 .f32 := Host.absf main_arg3
  let main_cst : FVec F S_ .f32 := constant S_ .f32 0x7F800000#32
  let main_v1 : FVec F S768 .f32 := broadcastInDim S768 ![] bcast_S_S768 main_cst
  let main_v2 : IVec S768 1 := cmpf .olt main_v0 main_v1
  let main_c : IVec S_ 1 := constantI S_ 1 1#1
  let main_v3 : IVec S_ 1 := (fun x v => Host.reduce IntOp.andi x v reducesTo_S768_S_d0 h_S_) main_v2 main_c
  let main_v4 : FVec F S768x768 .f32 := Host.absf main_arg5
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  main_v8
-- ==== Kernel.lean ====
abbrev S16384x1024 : Shape := ⟨2, ![16384, 1024]⟩
abbrev S16384x512 : Shape := ⟨2, ![16384, 512]⟩
abbrev S256x1024 : Shape := ⟨2, ![256, 1024]⟩
abbrev S2048x1024 : Shape := ⟨2, ![2048, 1024]⟩
abbrev S2048x512 : Shape := ⟨2, ![2048, 512]⟩
abbrev S256x512 : Shape := ⟨2, ![256, 512]⟩
abbrev S8x512x256 : Shape := ⟨3, ![8, 512, 256]⟩
abbrev S8x128x256 : Shape := ⟨3, ![8, 128, 256]⟩
abbrev S8x1x256 : Shape := ⟨3, ![8, 1, 256]⟩
abbrev S8x64x256 : Shape := ⟨3, ![8, 64, 256]⟩
abbrev S8x256x256 : Shape := ⟨3, ![8, 256, 256]⟩
abbrev S128x128 : Shape := ⟨2, ![128, 128]⟩
abbrev S1x128x128 : Shape := ⟨3, ![1, 128, 128]⟩
abbrev S256x128 : Shape := ⟨2, ![256, 128]⟩
abbrev S128x256 : Shape := ⟨2, ![128, 256]⟩
abbrev S1x128x256 : Shape := ⟨3, ![1, 128, 256]⟩
abbrev S256x256 : Shape := ⟨2, ![256, 256]⟩
abbrev S1x256x256 : Shape := ⟨3, ![1, 256, 256]⟩
abbrev S1x1x256 : Shape := ⟨3, ![1, 1, 256]⟩
abbrev S1x256 : Shape := ⟨2, ![1, 256]⟩
abbrev S256 : Shape := ⟨1, ![256]⟩
abbrev S1x64x256 : Shape := ⟨3, ![1, 64, 256]⟩
abbrev S64x256 : Shape := ⟨2, ![64, 256]⟩
abbrev S512x256 : Shape := ⟨2, ![512, 256]⟩

abbrev nBuf : Space → Nat
  | .hbm => 4
  | .vmem => 16
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x512, .bf16⟩
  | .hbm, ⟨3, _⟩ => ⟨S16384x512, .f32⟩
  | .local _ .vmem, ⟨0, _⟩ => ⟨S256x1024, .bf16⟩
  | .local _ .vmem, ⟨1, _⟩ => ⟨S256x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x512, .bf16⟩
  | .local _ .vmem, ⟨5, _⟩ => ⟨S2048x512, .bf16⟩
  | .local _ .vmem, ⟨6, _⟩ => ⟨S256x512, .f32⟩
  | .local _ .vmem, ⟨7, _⟩ => ⟨S256x512, .f32⟩
  | .local _ .vmem, ⟨8, _⟩ => ⟨S8x512x256, .bf16⟩
  | .local _ .vmem, ⟨9, _⟩ => ⟨S8x128x256, .bf16⟩
  | .local _ .vmem, ⟨10, _⟩ => ⟨S8x1x256, .f32⟩
  | .local _ .vmem, ⟨11, _⟩ => ⟨S8x1x256, .f32⟩
  | .local _ .vmem, ⟨12, _⟩ => ⟨S8x1x256, .f32⟩
  | .local _ .vmem, ⟨13, _⟩ => ⟨S8x64x256, .f32⟩
  | .local _ .vmem, ⟨14, _⟩ => ⟨S8x256x256, .f32⟩
  | .local _ .vmem, ⟨15, _⟩ => ⟨S8x256x256, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_38 : BitVec 32 := 0#32
  let arg1 : BitVec 32 := BitVec.ofNat 32 (i 1).val
  let v71 : BitVec 32 := Scalar.subi arg1 c0_i32_38
  let c1_i32 : BitVec 32 := 1#32
  let v73 : BitVec 32 := Scalar.divsi v71 c1_i32
  let v74 : BitVec 32 := Scalar.muli v73 c1_i32
  let v75 : BitVec 32 := Scalar.addi c0_i32_38 v74
  let c1_i32_39 : BitVec 32 := 1#32
  ⟨c0_i32_38, v75, c1_i32_39⟩
def k0_mult1 (i : grid0.Coords) (k0_t1 : Fin (k0_t1_loop i).trips) : BitVec 32 :=
  let c0_i32_38 : BitVec 32 := 0#32
  let c1_i32_39 : BitVec 32 := 1#32
  let arg14 : BitVec 32 := Scf.iv c0_i32_38 c1_i32_39 k0_t1
  let c256_i32_471 : BitVec 32 := 256#32
  let v625 : BitVec 32 := Scalar.muli arg14 c256_i32_471
  v625
def k0_off1 (i : grid0.Coords) (k0_t1 : Fin (k0_t1_loop i).trips) : Fin 2 → Nat :=
  let c0_i32_38 : BitVec 32 := 0#32
  let c1_i32_39 : BitVec 32 := 1#32
  let arg14 : BitVec 32 := Scf.iv c0_i32_38 c1_i32_39 k0_t1
  let c256_i32_471 : BitVec 32 := 256#32
  let v625 : BitVec 32 := Scalar.muli arg14 c256_i32_471
  let v626 : BitVec 32 := v625
  let v627 : Index := Scalar.indexCast v626
  let c0_472 : Index := 0#32
  ![v627.toNat, 0]
def k0_off2 (i : grid0.Coords) (k0_t1 : Fin (k0_t1_loop i).trips) : Fin 2 → Nat :=
  let c0_i32_38 : BitVec 32 := 0#32
  let c1_i32_39 : BitVec 32 := 1#32
  let arg14 : BitVec 32 := Scf.iv c0_i32_38 c1_i32_39 k0_t1
  let c256_i32_471 : BitVec 32 := 256#32
  let v625 : BitVec 32 := Scalar.muli arg14 c256_i32_471
  let v626 : BitVec 32 := v625
  let v635 : Index := Scalar.indexCast v626
  let c128_480 : Index := 128#32
  ![v635.toNat, 128]
def k0_off3 (i : grid0.Coords) (k0_t1 : Fin (k0_t1_loop i).trips) : Fin 2 → Nat :=
  let c0_i32_38 : BitVec 32 := 0#32
  let c1_i32_39 : BitVec 32 := 1#32
  let arg14 : BitVec 32 := Scf.iv c0_i32_38 c1_i32_39 k0_t1
  let c256_i32_471 : BitVec 32 := 256#32
  let v625 : BitVec 32 := Scalar.muli arg14 c256_i32_471
  let v626 : BitVec 32 := v625
  let v643 : Index := Scalar.indexCast v626
  let c256_488 : Index := 256#32
  ![v643.toNat, 256]
def k0_off4 (i : grid0.Coords) (k0_t1 : Fin (k0_t1_loop i).trips) : Fin 2 → Nat :=
  let c0_i32_38 : BitVec 32 := 0#32
  let c1_i32_39 : BitVec 32 := 1#32
  let arg14 : BitVec 32 := Scf.iv c0_i32_38 c1_i32_39 k0_t1
  let c256_i32_471 : BitVec 32 := 256#32
  let v625 : BitVec 32 := Scalar.muli arg14 c256_i32_471
  let v626 : BitVec 32 := v625
  let v651 : Index := Scalar.indexCast v626
  let c384_496 : Index := 384#32
  ![v651.toNat, 384]
def k0_off5 (i : grid0.Coords) (k0_t1 : Fin (k0_t1_loop i).trips) : Fin 2 → Nat :=
  let c0_i32_38 : BitVec 32 := 0#32
  let c1_i32_39 : BitVec 32 := 1#32
  let arg14 : BitVec 32 := Scf.iv c0_i32_38 c1_i32_39 k0_t1
  let c256_i32_471 : BitVec 32 := 256#32
  let v625 : BitVec 32 := Scalar.muli arg14 c256_i32_471
  let v626 : BitVec 32 := v625
  let v659 : Index := Scalar.indexCast v626
  let c512_504 : Index := 512#32
  ![v659.toNat, 512]
def k0_off6 (i : grid0.Coords) (k0_t1 : Fin (k0_t1_loop i).trips) : Fin 2 → Nat :=
  let c0_i32_38 : BitVec 32 := 0#32
  let c1_i32_39 : BitVec 32 := 1#32
  let arg14 : BitVec 32 := Scf.iv c0_i32_38 c1_i32_39 k0_t1
  let c256_i32_471 : BitVec 32 := 256#32
  let v625 : BitVec 32 := Scalar.muli arg14 c256_i32_471
  let v626 : BitVec 32 := v625
  let v667 : Index := Scalar.indexCast v626
  let c640_512 : Index := 640#32
  ![v667.toNat, 640]
def k0_off7 (i : grid0.Coords) (k0_t1 : Fin (k0_t1_loop i).trips) : Fin 2 → Nat :=
  let c0_i32_38 : BitVec 32 := 0#32
  let c1_i32_39 : BitVec 32 := 1#32
  let arg14 : BitVec 32 := Scf.iv c0_i32_38 c1_i32_39 k0_t1
  let c256_i32_471 : BitVec 32 := 256#32
  let v625 : BitVec 32 := Scalar.muli arg14 c256_i32_471
  let v626 : BitVec 32 := v625
  let v675 : Index := Scalar.indexCast v626
  let c768_520 : Index := 768#32
  ![v675.toNat, 768]
def k0_off8 (i : grid0.Coords) (k0_t1 : Fin (k0_t1_loop i).trips) : Fin 2 → Nat :=
  let c0_i32_38 : BitVec 32 := 0#32
  let c1_i32_39 : BitVec 32 := 1#32
  let arg14 : BitVec 32 := Scf.iv c0_i32_38 c1_i32_39 k0_t1
  let c256_i32_471 : BitVec 32 := 256#32
  let v625 : BitVec 32 := Scalar.muli arg14 c256_i32_471
  let v626 : BitVec 32 := v625
  let v683 : Index := Scalar.indexCast v626
  let c896_528 : Index := 896#32
  ![v683.toNat, 896]
def k0_off9 (i : grid0.Coords) (k0_t1 : Fin (k0_t1_loop i).trips) : Fin 3 → Nat :=
  let c0_i32_38 : BitVec 32 := 0#32
  let c1_i32_39 : BitVec 32 := 1#32
  let arg14 : BitVec 32 := Scf.iv c0_i32_38 c1_i32_39 k0_t1
  let v945 : Index := Scalar.indexCast arg14
  let c0_726 : Index := 0#32
  let c0_727 : Index := 0#32
  ![v945.toNat, 0, 0]
def k0_off10 (i : grid0.Coords) (k0_t1 : Fin (k0_t1_loop i).trips) : Fin 3 → Nat :=
  let c0_i32_38 : BitVec 32 := 0#32
  let c1_i32_39 : BitVec 32 := 1#32
  let arg14 : BitVec 32 := Scf.iv c0_i32_38 c1_i32_39 k0_t1
  let v961 : Index := Scalar.indexCast arg14
  let c64_741 : Index := 64#32
  let c0_742 : Index := 0#32
  ![v961.toNat, 64, 0]
def k0_off11 (i : grid0.Coords) (k0_t1 : Fin (k0_t1_loop i).trips) : Fin 3 → Nat :=
  let c0_i32_38 : BitVec 32 := 0#32
  let c1_i32_39 : BitVec 32 := 1#32
  let arg14 : BitVec 32 := Scf.iv c0_i32_38 c1_i32_39 k0_t1
  let v977 : Index := Scalar.indexCast arg14
  let c128_756 : Index := 128#32
  let c0_757 : Index := 0#32
  ![v977.toNat, 128, 0]
def k0_off12 (i : grid0.Coords) (k0_t1 : Fin (k0_t1_loop i).trips) : Fin 3 → Nat :=
  let c0_i32_38 : BitVec 32 := 0#32
  let c1_i32_39 : BitVec 32 := 1#32
  let arg14 : BitVec 32 := Scf.iv c0_i32_38 c1_i32_39 k0_t1
  let v993 : Index := Scalar.indexCast arg14
  let c192_771 : Index := 192#32
  let c0_772 : Index := 0#32
  ![v993.toNat, 192, 0]
def k0_off13 (i : grid0.Coords) (k0_t1 : Fin (k0_t1_loop i).trips) : Fin 3 → Nat :=
  let c0_i32_38 : BitVec 32 := 0#32
  let c1_i32_39 : BitVec 32 := 1#32
  let arg14 : BitVec 32 := Scf.iv c0_i32_38 c1_i32_39 k0_t1
  let v1009 : Index := Scalar.indexCast arg14
  let c256_786 : Index := 256#32
  let c0_787 : Index := 0#32
  ![v1009.toNat, 256, 0]
def k0_off14 (i : grid0.Coords) (k0_t1 : Fin (k0_t1_loop i).trips) : Fin 3 → Nat :=
  let c0_i32_38 : BitVec 32 := 0#32
  let c1_i32_39 : BitVec 32 := 1#32
  let arg14 : BitVec 32 := Scf.iv c0_i32_38 c1_i32_39 k0_t1
  let v1025 : Index := Scalar.indexCast arg14
  let c320_801 : Index := 320#32
  let c0_802 : Index := 0#32
  ![v1025.toNat, 320, 0]
def k0_off15 (i : grid0.Coords) (k0_t1 : Fin (k0_t1_loop i).trips) : Fin 3 → Nat :=
  let c0_i32_38 : BitVec 32 := 0#32
  let c1_i32_39 : BitVec 32 := 1#32
  let arg14 : BitVec 32 := Scf.iv c0_i32_38 c1_i32_39 k0_t1
  let v1041 : Index := Scalar.indexCast arg14
  let c384_816 : Index := 384#32
  let c0_817 : Index := 0#32
  ![v1041.toNat, 384, 0]
def k0_off16 (i : grid0.Coords) (k0_t1 : Fin (k0_t1_loop i).trips) : Fin 3 → Nat :=
  let c0_i32_38 : BitVec 32 := 0#32
  let c1_i32_39 : BitVec 32 := 1#32
  let arg14 : BitVec 32 := Scf.iv c0_i32_38 c1_i32_39 k0_t1
  let v1057 : Index := Scalar.indexCast arg14
  let c448_831 : Index := 448#32
  let c0_832 : Index := 0#32
  ![v1057.toNat, 448, 0]
@[reducible] def k0_t2_loop (i : grid0.Coords) : Scf.Loop 32 :=
  let c0_i32_38 : BitVec 32 := 0#32
  let arg1 : BitVec 32 := BitVec.ofNat 32 (i 1).val
  let v71 : BitVec 32 := Scalar.subi arg1 c0_i32_38
  let c1_i32 : BitVec 32 := 1#32
  let v73 : BitVec 32 := Scalar.divsi v71 c1_i32
  let v74 : BitVec 32 := Scalar.muli v73 c1_i32
  let v75 : BitVec 32 := Scalar.addi c0_i32_38 v74
  let v72 : BitVec 32 := Scalar.addi c0_i32_38 v71
  let c1_i32_40 : BitVec 32 := 1#32
  ⟨v75, v72, c1_i32_40⟩
def k0_mult2 (i : grid0.Coords) (k0_t2 : Fin (k0_t2_loop i).trips) : BitVec 32 :=
  let c0_i32_38 : BitVec 32 := 0#32
  let arg1 : BitVec 32 := BitVec.ofNat 32 (i 1).val
  let v71 : BitVec 32 := Scalar.subi arg1 c0_i32_38
  let c1_i32 : BitVec 32 := 1#32
  let v73 : BitVec 32 := Scalar.divsi v71 c1_i32
  let v74 : BitVec 32 := Scalar.muli v73 c1_i32
  let v75 : BitVec 32 := Scalar.addi c0_i32_38 v74
  let c1_i32_40 : BitVec 32 := 1#32
  let arg14 : BitVec 32 := Scf.iv v75 c1_i32_40 k0_t2
  let c256_i32_471 : BitVec 32 := 256#32
  let v625 : BitVec 32 := Scalar.muli arg14 c256_i32_471
  v625
def k0_off17 (i : grid0.Coords) (k0_t2 : Fin (k0_t2_loop i).trips) : Fin 2 → Nat :=
  let c0_i32_38 : BitVec 32 := 0#32
  let arg1 : BitVec 32 := BitVec.ofNat 32 (i 1).val
  let v71 : BitVec 32 := Scalar.subi arg1 c0_i32_38
  let c1_i32 : BitVec 32 := 1#32
  let v73 : BitVec 32 := Scalar.divsi v71 c1_i32
  let v74 : BitVec 32 := Scalar.muli v73 c1_i32
  let v75 : BitVec 32 := Scalar.addi c0_i32_38 v74
  let c1_i32_40 : BitVec 32 := 1#32
  let arg14 : BitVec 32 := Scf.iv v75 c1_i32_40 k0_t2
  let c256_i32_471 : BitVec 32 := 256#32
  let v625 : BitVec 32 := Scalar.muli arg14 c256_i32_471
  let v626 : BitVec 32 := v625
  let v627 : Index := Scalar.indexCast v626
  let c0_472 : Index := 0#32
  ![v627.toNat, 0]
def k0_off18 (i : grid0.Coords) (k0_t2 : Fin (k0_t2_loop i).trips) : Fin 2 → Nat :=
  let c0_i32_38 : BitVec 32 := 0#32
  let arg1 : BitVec 32 := BitVec.ofNat 32 (i 1).val
  let v71 : BitVec 32 := Scalar.subi arg1 c0_i32_38
  let c1_i32 : BitVec 32 := 1#32
  let v73 : BitVec 32 := Scalar.divsi v71 c1_i32
  let v74 : BitVec 32 := Scalar.muli v73 c1_i32
  let v75 : BitVec 32 := Scalar.addi c0_i32_38 v74
  let c1_i32_40 : BitVec 32 := 1#32
  let arg14 : BitVec 32 := Scf.iv v75 c1_i32_40 k0_t2
  let c256_i32_471 : BitVec 32 := 256#32
  let v625 : BitVec 32 := Scalar.muli arg14 c256_i32_471
  let v626 : BitVec 32 := v625
  let v635 : Index := Scalar.indexCast v626
  let c128_480 : Index := 128#32
  ![v635.toNat, 128]
def k0_off19 (i : grid0.Coords) (k0_t2 : Fin (k0_t2_loop i).trips) : Fin 2 → Nat :=
  let c0_i32_38 : BitVec 32 := 0#32
  let arg1 : BitVec 32 := BitVec.ofNat 32 (i 1).val
  let v71 : BitVec 32 := Scalar.subi arg1 c0_i32_38
  let c1_i32 : BitVec 32 := 1#32
  let v73 : BitVec 32 := Scalar.divsi v71 c1_i32
  let v74 : BitVec 32 := Scalar.muli v73 c1_i32
  let v75 : BitVec 32 := Scalar.addi c0_i32_38 v74
  let c1_i32_40 : BitVec 32 := 1#32
  let arg14 : BitVec 32 := Scf.iv v75 c1_i32_40 k0_t2
  let c256_i32_471 : BitVec 32 := 256#32
  let v625 : BitVec 32 := Scalar.muli arg14 c256_i32_471
  let v626 : BitVec 32 := v625
  let v643 : Index := Scalar.indexCast v626
  let c256_488 : Index := 256#32
  ![v643.toNat, 256]
def k0_off20 (i : grid0.Coords) (k0_t2 : Fin (k0_t2_loop i).trips) : Fin 2 → Nat :=
  let c0_i32_38 : BitVec 32 := 0#32
  let arg1 : BitVec 32 := BitVec.ofNat 32 (i 1).val
  let v71 : BitVec 32 := Scalar.subi arg1 c0_i32_38
  let c1_i32 : BitVec 32 := 1#32
  let v73 : BitVec 32 := Scalar.divsi v71 c1_i32
  let v74 : BitVec 32 := Scalar.muli v73 c1_i32
  let v75 : BitVec 32 := Scalar.addi c0_i32_38 v74
  let c1_i32_40 : BitVec 32 := 1#32
  let arg14 : BitVec 32 := Scf.iv v75 c1_i32_40 k0_t2
  let c256_i32_471 : BitVec 32 := 256#32
  let v625 : BitVec 32 := Scalar.muli arg14 c256_i32_471
  let v626 : BitVec 32 := v625
  let v651 : Index := Scalar.indexCast v626
  let c384_496 : Index := 384#32
  ![v651.toNat, 384]
def k0_off21 (i : grid0.Coords) (k0_t2 : Fin (k0_t2_loop i).trips) : Fin 2 → Nat :=
  let c0_i32_38 : BitVec 32 := 0#32
  let arg1 : BitVec 32 := BitVec.ofNat 32 (i 1).val
  let v71 : BitVec 32 := Scalar.subi arg1 c0_i32_38
  let c1_i32 : BitVec 32 := 1#32
  let v73 : BitVec 32 := Scalar.divsi v71 c1_i32
  let v74 : BitVec 32 := Scalar.muli v73 c1_i32
  let v75 : BitVec 32 := Scalar.addi c0_i32_38 v74
  let c1_i32_40 : BitVec 32 := 1#32
  let arg14 : BitVec 32 := Scf.iv v75 c1_i32_40 k0_t2
  let c256_i32_471 : BitVec 32 := 256#32
  let v625 : BitVec 32 := Scalar.muli arg14 c256_i32_471
  let v626 : BitVec 32 := v625
  let v659 : Index := Scalar.indexCast v626
  let c512_504 : Index := 512#32
  ![v659.toNat, 512]
def k0_off22 (i : grid0.Coords) (k0_t2 : Fin (k0_t2_loop i).trips) : Fin 2 → Nat :=
  let c0_i32_38 : BitVec 32 := 0#32
  let arg1 : BitVec 32 := BitVec.ofNat 32 (i 1).val
  let v71 : BitVec 32 := Scalar.subi arg1 c0_i32_38
  let c1_i32 : BitVec 32 := 1#32
  let v73 : BitVec 32 := Scalar.divsi v71 c1_i32
  let v74 : BitVec 32 := Scalar.muli v73 c1_i32
  let v75 : BitVec 32 := Scalar.addi c0_i32_38 v74
  let c1_i32_40 : BitVec 32 := 1#32
  let arg14 : BitVec 32 := Scf.iv v75 c1_i32_40 k0_t2
  let c256_i32_471 : BitVec 32 := 256#32
  let v625 : BitVec 32 := Scalar.muli arg14 c256_i32_471
  let v626 : BitVec 32 := v625
  let v667 : Index := Scalar.indexCast v626
  let c640_512 : Index := 640#32
  ![v667.toNat, 640]
def k0_off23 (i : grid0.Coords) (k0_t2 : Fin (k0_t2_loop i).trips) : Fin 2 → Nat :=
  let c0_i32_38 : BitVec 32 := 0#32
  let arg1 : BitVec 32 := BitVec.ofNat 32 (i 1).val
  let v71 : BitVec 32 := Scalar.subi arg1 c0_i32_38
  let c1_i32 : BitVec 32 := 1#32
  let v73 : BitVec 32 := Scalar.divsi v71 c1_i32
  let v74 : BitVec 32 := Scalar.muli v73 c1_i32
  let v75 : BitVec 32 := Scalar.addi c0_i32_38 v74
  let c1_i32_40 : BitVec 32 := 1#32
  let arg14 : BitVec 32 := Scf.iv v75 c1_i32_40 k0_t2
  let c256_i32_471 : BitVec 32 := 256#32
  let v625 : BitVec 32 := Scalar.muli arg14 c256_i32_471
  let v626 : BitVec 32 := v625
  let v675 : Index := Scalar.indexCast v626
  let c768_520 : Index := 768#32
  ![v675.toNat, 768]
def k0_off24 (i : grid0.Coords) (k0_t2 : Fin (k0_t2_loop i).trips) : Fin 2 → Nat :=
  let c0_i32_38 : BitVec 32 := 0#32
  let arg1 : BitVec 32 := BitVec.ofNat 32 (i 1).val
  let v71 : BitVec 32 := Scalar.subi arg1 c0_i32_38
  let c1_i32 : BitVec 32 := 1#32
  let v73 : BitVec 32 := Scalar.divsi v71 c1_i32
  let v74 : BitVec 32 := Scalar.muli v73 c1_i32
  let v75 : BitVec 32 := Scalar.addi c0_i32_38 v74
  let c1_i32_40 : BitVec 32 := 1#32
  let arg14 : BitVec 32 := Scf.iv v75 c1_i32_40 k0_t2
  let c256_i32_471 : BitVec 32 := 256#32
  let v625 : BitVec 32 := Scalar.muli arg14 c256_i32_471
  let v626 : BitVec 32 := v625
  let v683 : Index := Scalar.indexCast v626
  let c896_528 : Index := 896#32
  ![v683.toNat, 896]
def k0_off25 (i : grid0.Coords) (k0_t2 : Fin (k0_t2_loop i).trips) : Fin 3 → Nat :=
  let c0_i32_38 : BitVec 32 := 0#32
  let arg1 : BitVec 32 := BitVec.ofNat 32 (i 1).val
  let v71 : BitVec 32 := Scalar.subi arg1 c0_i32_38
  let c1_i32 : BitVec 32 := 1#32
  let v73 : BitVec 32 := Scalar.divsi v71 c1_i32
  let v74 : BitVec 32 := Scalar.muli v73 c1_i32
  let v75 : BitVec 32 := Scalar.addi c0_i32_38 v74
  let c1_i32_40 : BitVec 32 := 1#32
  let arg14 : BitVec 32 := Scf.iv v75 c1_i32_40 k0_t2
  let v945 : Index := Scalar.indexCast arg14
  let c0_726 : Index := 0#32
  let c0_727 : Index := 0#32
  ![v945.toNat, 0, 0]
def k0_off26 (i : grid0.Coords) (k0_t2 : Fin (k0_t2_loop i).trips) : Fin 3 → Nat :=
  let c0_i32_38 : BitVec 32 := 0#32
  let arg1 : BitVec 32 := BitVec.ofNat 32 (i 1).val
  let v71 : BitVec 32 := Scalar.subi arg1 c0_i32_38
  let c1_i32 : BitVec 32 := 1#32
  let v73 : BitVec 32 := Scalar.divsi v71 c1_i32
  let v74 : BitVec 32 := Scalar.muli v73 c1_i32
  let v75 : BitVec 32 := Scalar.addi c0_i32_38 v74
  let c1_i32_40 : BitVec 32 := 1#32
  let arg14 : BitVec 32 := Scf.iv v75 c1_i32_40 k0_t2
  let v961 : Index := Scalar.indexCast arg14
  let c64_741 : Index := 64#32
  let c0_742 : Index := 0#32
  ![v961.toNat, 64, 0]
def k0_off27 (i : grid0.Coords) (k0_t2 : Fin (k0_t2_loop i).trips) : Fin 3 → Nat :=
  let c0_i32_38 : BitVec 32 := 0#32
  let arg1 : BitVec 32 := BitVec.ofNat 32 (i 1).val
  let v71 : BitVec 32 := Scalar.subi arg1 c0_i32_38
  let c1_i32 : BitVec 32 := 1#32
  let v73 : BitVec 32 := Scalar.divsi v71 c1_i32
  let v74 : BitVec 32 := Scalar.muli v73 c1_i32
  let v75 : BitVec 32 := Scalar.addi c0_i32_38 v74
  let c1_i32_40 : BitVec 32 := 1#32
  let arg14 : BitVec 32 := Scf.iv v75 c1_i32_40 k0_t2
  let v977 : Index := Scalar.indexCast arg14
  let c128_756 : Index := 128#32
  let c0_757 : Index := 0#32
  ![v977.toNat, 128, 0]
def k0_off28 (i : grid0.Coords) (k0_t2 : Fin (k0_t2_loop i).trips) : Fin 3 → Nat :=
  let c0_i32_38 : BitVec 32 := 0#32
  let arg1 : BitVec 32 := BitVec.ofNat 32 (i 1).val
  let v71 : BitVec 32 := Scalar.subi arg1 c0_i32_38
  let c1_i32 : BitVec 32 := 1#32
  let v73 : BitVec 32 := Scalar.divsi v71 c1_i32
  let v74 : BitVec 32 := Scalar.muli v73 c1_i32
  let v75 : BitVec 32 := Scalar.addi c0_i32_38 v74
  let c1_i32_40 : BitVec 32 := 1#32
  let arg14 : BitVec 32 := Scf.iv v75 c1_i32_40 k0_t2
  let v993 : Index := Scalar.indexCast arg14
  let c192_771 : Index := 192#32
  let c0_772 : Index := 0#32
  ![v993.toNat, 192, 0]
def k0_off29 (i : grid0.Coords) (k0_t2 : Fin (k0_t2_loop i).trips) : Fin 3 → Nat :=
  let c0_i32_38 : BitVec 32 := 0#32
  let arg1 : BitVec 32 := BitVec.ofNat 32 (i 1).val
  let v71 : BitVec 32 := Scalar.subi arg1 c0_i32_38
  let c1_i32 : BitVec 32 := 1#32
  let v73 : BitVec 32 := Scalar.divsi v71 c1_i32
  let v74 : BitVec 32 := Scalar.muli v73 c1_i32
  let v75 : BitVec 32 := Scalar.addi c0_i32_38 v74
  let c1_i32_40 : BitVec 32 := 1#32
  let arg14 : BitVec 32 := Scf.iv v75 c1_i32_40 k0_t2
  let v1009 : Index := Scalar.indexCast arg14
  let c256_786 : Index := 256#32
  let c0_787 : Index := 0#32
  ![v1009.toNat, 256, 0]
def k0_off30 (i : grid0.Coords) (k0_t2 : Fin (k0_t2_loop i).trips) : Fin 3 → Nat :=
  let c0_i32_38 : BitVec 32 := 0#32
  let arg1 : BitVec 32 := BitVec.ofNat 32 (i 1).val
  let v71 : BitVec 32 := Scalar.subi arg1 c0_i32_38
  let c1_i32 : BitVec 32 := 1#32
  let v73 : BitVec 32 := Scalar.divsi v71 c1_i32
  let v74 : BitVec 32 := Scalar.muli v73 c1_i32
  let v75 : BitVec 32 := Scalar.addi c0_i32_38 v74
  let c1_i32_40 : BitVec 32 := 1#32
  let arg14 : BitVec 32 := Scf.iv v75 c1_i32_40 k0_t2
  let v1025 : Index := Scalar.indexCast arg14
  let c320_801 : Index := 320#32
  let c0_802 : Index := 0#32
  ![v1025.toNat, 320, 0]
def k0_off31 (i : grid0.Coords) (k0_t2 : Fin (k0_t2_loop i).trips) : Fin 3 → Nat :=
  let c0_i32_38 : BitVec 32 := 0#32
  let arg1 : BitVec 32 := BitVec.ofNat 32 (i 1).val
  let v71 : BitVec 32 := Scalar.subi arg1 c0_i32_38
  let c1_i32 : BitVec 32 := 1#32
  let v73 : BitVec 32 := Scalar.divsi v71 c1_i32
  let v74 : BitVec 32 := Scalar.muli v73 c1_i32
  let v75 : BitVec 32 := Scalar.addi c0_i32_38 v74
  let c1_i32_40 : BitVec 32 := 1#32
  let arg14 : BitVec 32 := Scf.iv v75 c1_i32_40 k0_t2
  let v1041 : Index := Scalar.indexCast arg14
  let c384_816 : Index := 384#32
  let c0_817 : Index := 0#32
  ![v1041.toNat, 384, 0]
def k0_off32 (i : grid0.Coords) (k0_t2 : Fin (k0_t2_loop i).trips) : Fin 3 → Nat :=
  let c0_i32_38 : BitVec 32 := 0#32
  let arg1 : BitVec 32 := BitVec.ofNat 32 (i 1).val
  let v71 : BitVec 32 := Scalar.subi arg1 c0_i32_38
  let c1_i32 : BitVec 32 := 1#32
  let v73 : BitVec 32 := Scalar.divsi v71 c1_i32
  let v74 : BitVec 32 := Scalar.muli v73 c1_i32
  let v75 : BitVec 32 := Scalar.addi c0_i32_38 v74
  let c1_i32_40 : BitVec 32 := 1#32
  let arg14 : BitVec 32 := Scf.iv v75 c1_i32_40 k0_t2
  let v1057 : Index := Scalar.indexCast arg14
  let c448_831 : Index := 448#32
  let c0_832 : Index := 0#32
  ![v1057.toNat, 448, 0]
def k0_mult3 (i : grid0.Coords) : BitVec 32 :=
  let arg1 : BitVec 32 := BitVec.ofNat 32 (i 1).val
  let c256_i32 : BitVec 32 := 256#32
  let v76 : BitVec 32 := Scalar.muli arg1 c256_i32
  v76
def k0_off33 (i : grid0.Coords) : Fin 2 → Nat :=
  let arg1 : BitVec 32 := BitVec.ofNat 32 (i 1).val
  let c256_i32 : BitVec 32 := 256#32
  let v76 : BitVec 32 := Scalar.muli arg1 c256_i32
  let v77 : BitVec 32 := v76
  let v78 : Index := Scalar.indexCast v77
  let c0_41 : Index := 0#32
  ![v78.toNat, 0]
def k0_off34 (i : grid0.Coords) : Fin 2 → Nat :=
  let arg1 : BitVec 32 := BitVec.ofNat 32 (i 1).val
  let c256_i32 : BitVec 32 := 256#32
  let v76 : BitVec 32 := Scalar.muli arg1 c256_i32
  let v77 : BitVec 32 := v76
  let v91 : Index := Scalar.indexCast v77
  let c128_50 : Index := 128#32
  ![v91.toNat, 128]
def k0_off35 (i : grid0.Coords) : Fin 2 → Nat :=
  let arg1 : BitVec 32 := BitVec.ofNat 32 (i 1).val
  let c256_i32 : BitVec 32 := 256#32
  let v76 : BitVec 32 := Scalar.muli arg1 c256_i32
  let v77 : BitVec 32 := v76
  let v104 : Index := Scalar.indexCast v77
  let c256_59 : Index := 256#32
  ![v104.toNat, 256]
def k0_off36 (i : grid0.Coords) : Fin 2 → Nat :=
  let arg1 : BitVec 32 := BitVec.ofNat 32 (i 1).val
  let c256_i32 : BitVec 32 := 256#32
  let v76 : BitVec 32 := Scalar.muli arg1 c256_i32
  let v77 : BitVec 32 := v76
  let v117 : Index := Scalar.indexCast v77
  let c384_68 : Index := 384#32
  ![v117.toNat, 384]
def k0_off37 (i : grid0.Coords) : Fin 2 → Nat :=
  let arg1 : BitVec 32 := BitVec.ofNat 32 (i 1).val
  let c256_i32 : BitVec 32 := 256#32
  let v76 : BitVec 32 := Scalar.muli arg1 c256_i32
  let v77 : BitVec 32 := v76
  let v130 : Index := Scalar.indexCast v77
  let c512_77 : Index := 512#32
  ![v130.toNat, 512]
def k0_off38 (i : grid0.Coords) : Fin 2 → Nat :=
  let arg1 : BitVec 32 := BitVec.ofNat 32 (i 1).val
  let c256_i32 : BitVec 32 := 256#32
  let v76 : BitVec 32 := Scalar.muli arg1 c256_i32
  let v77 : BitVec 32 := v76
  let v143 : Index := Scalar.indexCast v77
  let c640_86 : Index := 640#32
  ![v143.toNat, 640]
def k0_off39 (i : grid0.Coords) : Fin 2 → Nat :=
  let arg1 : BitVec 32 := BitVec.ofNat 32 (i 1).val
  let c256_i32 : BitVec 32 := 256#32
  let v76 : BitVec 32 := Scalar.muli arg1 c256_i32
  let v77 : BitVec 32 := v76
  let v156 : Index := Scalar.indexCast v77
  let c768_95 : Index := 768#32
  ![v156.toNat, 768]
def k0_off40 (i : grid0.Coords) : Fin 2 → Nat :=
  let arg1 : BitVec 32 := BitVec.ofNat 32 (i 1).val
  let c256_i32 : BitVec 32 := 256#32
  let v76 : BitVec 32 := Scalar.muli arg1 c256_i32
  let v77 : BitVec 32 := v76
  let v169 : Index := Scalar.indexCast v77
  let c896_104 : Index := 896#32
  ![v169.toNat, 896]
def k0_off41 (i : grid0.Coords) : Fin 3 → Nat :=
  let arg1 : BitVec 32 := BitVec.ofNat 32 (i 1).val
  let v436 : Index := Scalar.indexCast arg1
  let c0_303 : Index := 0#32
  let c0_304 : Index := 0#32
  ![v436.toNat, 0, 0]
def k0_off42 (i : grid0.Coords) : Fin 3 → Nat :=
  let arg1 : BitVec 32 := BitVec.ofNat 32 (i 1).val
  let v452 : Index := Scalar.indexCast arg1
  let c64 : Index := 64#32
  let c0_318 : Index := 0#32
  ![v452.toNat, 64, 0]
def k0_off43 (i : grid0.Coords) : Fin 3 → Nat :=
  let arg1 : BitVec 32 := BitVec.ofNat 32 (i 1).val
  let v468 : Index := Scalar.indexCast arg1
  let c128_332 : Index := 128#32
  let c0_333 : Index := 0#32
  ![v468.toNat, 128, 0]
def k0_off44 (i : grid0.Coords) : Fin 3 → Nat :=
  let arg1 : BitVec 32 := BitVec.ofNat 32 (i 1).val
  let v484 : Index := Scalar.indexCast arg1
  let c192 : Index := 192#32
  let c0_347 : Index := 0#32
  ![v484.toNat, 192, 0]
def k0_off45 (i : grid0.Coords) : Fin 3 → Nat :=
  let arg1 : BitVec 32 := BitVec.ofNat 32 (i 1).val
  let v500 : Index := Scalar.indexCast arg1
  let c256_361 : Index := 256#32
  let c0_362 : Index := 0#32
  ![v500.toNat, 256, 0]
def k0_off46 (i : grid0.Coords) : Fin 3 → Nat :=
  let arg1 : BitVec 32 := BitVec.ofNat 32 (i 1).val
  let v516 : Index := Scalar.indexCast arg1
  let c320 : Index := 320#32
  let c0_376 : Index := 0#32
  ![v516.toNat, 320, 0]
def k0_off47 (i : grid0.Coords) : Fin 3 → Nat :=
  let arg1 : BitVec 32 := BitVec.ofNat 32 (i 1).val
  let v532 : Index := Scalar.indexCast arg1
  let c384_390 : Index := 384#32
  let c0_391 : Index := 0#32
  ![v532.toNat, 384, 0]
def k0_off48 (i : grid0.Coords) : Fin 3 → Nat :=
  let arg1 : BitVec 32 := BitVec.ofNat 32 (i 1).val
  let v548 : Index := Scalar.indexCast arg1
  let c448 : Index := 448#32
  let c0_405 : Index := 0#32
  ![v548.toNat, 448, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16384x1024 : Shape := ⟨2, ![16384, 1024]⟩
abbrev S16384x512 : Shape := ⟨2, ![16384, 512]⟩
abbrev S8x2048x8x128 : Shape := ⟨4, ![8, 2048, 8, 128]⟩
abbrev S8x2048x8x64 : Shape := ⟨4, ![8, 2048, 8, 64]⟩
abbrev S8x8x2048x2048 : Shape := ⟨4, ![8, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x8x2048 : Shape := ⟨3, ![8, 8, 2048]⟩
abbrev S8x8x2048x1 : Shape := ⟨4, ![8, 8, 2048, 1]⟩
abbrev S8x8x64x2048 : Shape := ⟨4, ![8, 8, 64, 2048]⟩

abbrev nBuf : Space → Nat
  | .hbm => 42
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x512, .bf16⟩
  | .hbm, ⟨3, _⟩ => ⟨S16384x1024, .f32⟩
  | .hbm, ⟨4, _⟩ => ⟨S8x2048x8x128, .f32⟩
  | .hbm, ⟨5, _⟩ => ⟨S16384x1024, .f32⟩
  | .hbm, ⟨6, _⟩ => ⟨S8x2048x8x128, .f32⟩
  | .hbm, ⟨7, _⟩ => ⟨S16384x512, .f32⟩
  | .hbm, ⟨8, _⟩ => ⟨S8x2048x8x64, .f32⟩
  | .hbm, ⟨9, _⟩ => ⟨S8x8x2048x2048, .f32⟩
  | .hbm, ⟨10, _⟩ => ⟨S_, .f32⟩
  | .hbm, ⟨11, _⟩ => ⟨S_, .f32⟩
  | .hbm, ⟨12, _⟩ => ⟨S8x8x2048x2048, .f32⟩
  | .hbm, ⟨13, _⟩ => ⟨S8x8x2048x2048, .f32⟩
  | .hbm, ⟨14, _⟩ => ⟨S2048, .i32⟩
  | .hbm, ⟨15, _⟩ => ⟨S1x2048, .i32⟩
  | .hbm, ⟨16, _⟩ => ⟨S2048x1, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .f32⟩
  | .hbm, ⟨21, _⟩ => ⟨S_, .f32⟩
  | .hbm, ⟨22, _⟩ => ⟨S8x8x2048x2048, .i1⟩
  | .hbm, ⟨23, _⟩ => ⟨S8x8x2048x2048, .f32⟩
  | .hbm, ⟨24, _⟩ => ⟨S8x8x2048x2048, .f32⟩
  | .hbm, ⟨25, _⟩ => ⟨S_, .f32⟩
  | .hbm, ⟨26, _⟩ => ⟨S8x8x2048, .f32⟩
  | .hbm, ⟨27, _⟩ => ⟨S_, .f32⟩
  | .hbm, ⟨28, _⟩ => ⟨S8x8x2048, .f32⟩
  | .hbm, ⟨29, _⟩ => ⟨S8x8x2048, .f32⟩
  | .hbm, ⟨30, _⟩ => ⟨S8x8x2048x1, .f32⟩
  | .hbm, ⟨31, _⟩ => ⟨S8x8x2048x2048, .f32⟩
  | .hbm, ⟨32, _⟩ => ⟨S8x8x2048x2048, .f32⟩
  | .hbm, ⟨33, _⟩ => ⟨S8x8x2048x2048, .f32⟩
  | .hbm, ⟨34, _⟩ => ⟨S_, .f32⟩
  | .hbm, ⟨35, _⟩ => ⟨S8x8x2048, .f32⟩
  | .hbm, ⟨36, _⟩ => ⟨S8x8x2048x1, .f32⟩
  | .hbm, ⟨37, _⟩ => ⟨S8x8x2048x2048, .f32⟩
  | .hbm, ⟨38, _⟩ => ⟨S8x8x2048x2048, .f32⟩
  | .hbm, ⟨39, _⟩ => ⟨S8x8x64x2048, .f32⟩
  | .hbm, ⟨40, _⟩ => ⟨S8x2048x8x64, .f32⟩
  | .hbm, ⟨41, _⟩ => ⟨S16384x512, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel2.lean ====
abbrev S16384x1024 : Shape := ⟨2, ![16384, 1024]⟩
abbrev S1024x7728 : Shape := ⟨2, ![1024, 7728]⟩
abbrev S1024x768 : Shape := ⟨2, ![1024, 768]⟩
abbrev S1024x256 : Shape := ⟨2, ![1024, 256]⟩
abbrev S1024x32 : Shape := ⟨2, ![1024, 32]⟩
abbrev S1024x1536 : Shape := ⟨2, ![1024, 1536]⟩
abbrev S1024x512 : Shape := ⟨2, ![1024, 512]⟩
abbrev S1024x8 : Shape := ⟨2, ![1024, 8]⟩
abbrev S1024x3072 : Shape := ⟨2, ![1024, 3072]⟩
abbrev S_ : Shape := ⟨0, ![]⟩
abbrev S1024x48 : Shape := ⟨2, ![1024, 48]⟩
abbrev S1024x16 : Shape := ⟨2, ![1024, 16]⟩
abbrev S1024x128 : Shape := ⟨2, ![1024, 128]⟩
abbrev S1024x8x64 : Shape := ⟨3, ![1024, 8, 64]⟩
abbrev S1024x8x48 : Shape := ⟨3, ![1024, 8, 48]⟩
abbrev S1024x8x8 : Shape := ⟨3, ![1024, 8, 8]⟩
abbrev S1024x8x16 : Shape := ⟨3, ![1024, 8, 16]⟩
abbrev S1024x8x128 : Shape := ⟨3, ![1024, 8, 128]⟩
abbrev S1024x1024 : Shape := ⟨2, ![1024, 1024]⟩
abbrev S1024x8704 : Shape := ⟨2, ![1024, 8704]⟩
abbrev S16384x8704 : Shape := ⟨2, ![16384, 8704]⟩
abbrev S512x1024 : Shape := ⟨2, ![512, 1024]⟩
abbrev S1024x4352 : Shape := ⟨2, ![1024, 4352]⟩
abbrev S512x4352 : Shape := ⟨2, ![512, 4352]⟩
abbrev S16384x768 : Shape := ⟨2, ![16384, 768]⟩
abbrev S16384x256 : Shape := ⟨2, ![16384, 256]⟩
abbrev S16384x8x128 : Shape := ⟨3, ![16384, 8, 128]⟩
abbrev S16384x8x64 : Shape := ⟨3, ![16384, 8, 64]⟩
abbrev S16384x512 : Shape := ⟨2, ![16384, 512]⟩
abbrev S16384x1536 : Shape := ⟨2, ![16384, 1536]⟩
abbrev S16384x3072 : Shape := ⟨2, ![16384, 3072]⟩

abbrev nBuf : Space → Nat
  | .hbm => 58
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x7728, .f32⟩
  | .hbm, ⟨2, _⟩ => ⟨S1024x768, .f32⟩
  | .hbm, ⟨3, _⟩ => ⟨S1024x256, .f32⟩
  | .hbm, ⟨4, _⟩ => ⟨S1024x32, .f32⟩
  | .hbm, ⟨5, _⟩ => ⟨S1024x1536, .f32⟩
  | .hbm, ⟨6, _⟩ => ⟨S1024x1536, .f32⟩
  | .hbm, ⟨7, _⟩ => ⟨S1024x512, .f32⟩
  | .hbm, ⟨8, _⟩ => ⟨S1024x8, .f32⟩
  | .hbm, ⟨9, _⟩ => ⟨S1024x8, .f32⟩
  | .hbm, ⟨10, _⟩ => ⟨S1024x3072, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S_, .f32⟩
  | .hbm, ⟨15, _⟩ => ⟨S1024x48, .f32⟩
  | .hbm, ⟨16, _⟩ => ⟨S1024x16, .f32⟩
  | .hbm, ⟨17, _⟩ => ⟨S1024x16, .f32⟩
  | .hbm, ⟨18, _⟩ => ⟨S1024x16, .f32⟩
  | .hbm, ⟨19, _⟩ => ⟨S1024x32, .f32⟩
  | .hbm, ⟨20, _⟩ => ⟨S1024x128, .f32⟩
  | .hbm, ⟨21, _⟩ => ⟨S1024x8x64, .f32⟩
  | .hbm, ⟨22, _⟩ => ⟨S_, .f32⟩
  | .hbm, ⟨23, _⟩ => ⟨S1024x8x48, .f32⟩
  | .hbm, ⟨24, _⟩ => ⟨S1024x8x8, .f32⟩
  | .hbm, ⟨25, _⟩ => ⟨S1024x8x8, .f32⟩
  | .hbm, ⟨26, _⟩ => ⟨S1024x8x8, .f32⟩
  | .hbm, ⟨27, _⟩ => ⟨S1024x8x16, .f32⟩
  | .hbm, ⟨28, _⟩ => ⟨S1024x8x128, .f32⟩
  | .hbm, ⟨29, _⟩ => ⟨S1024x1024, .f32⟩
  | .hbm, ⟨30, _⟩ => ⟨S1024x8x64, .f32⟩
  | .hbm, ⟨31, _⟩ => ⟨S_, .f32⟩
  | .hbm, ⟨32, _⟩ => ⟨S1024x8x48, .f32⟩
  | .hbm, ⟨33, _⟩ => ⟨S1024x8x8, .f32⟩
  | .hbm, ⟨34, _⟩ => ⟨S1024x8x8, .f32⟩
  | .hbm, ⟨35, _⟩ => ⟨S1024x8x8, .f32⟩
  | .hbm, ⟨36, _⟩ => ⟨S1024x8x16, .f32⟩
  | .hbm, ⟨37, _⟩ => ⟨S1024x8x128, .f32⟩
  | .hbm, ⟨38, _⟩ => ⟨S1024x1024, .f32⟩
  | .hbm, ⟨39, _⟩ => ⟨S1024x8704, .f32⟩
  | .hbm, ⟨40, _⟩ => ⟨S1024x8704, .bf16⟩
  | .hbm, ⟨41, _⟩ => ⟨S1024x128, .bf16⟩
  | .hbm, ⟨42, _⟩ => ⟨S16384x8704, .bf16⟩
  | .hbm, ⟨43, _⟩ => ⟨S16384x768, .bf16⟩
  | .hbm, ⟨44, _⟩ => ⟨S16384x256, .bf16⟩
  | .hbm, ⟨45, _⟩ => ⟨S16384x1024, .bf16⟩
  | .hbm, ⟨46, _⟩ => ⟨S16384x8x128, .bf16⟩
  | .hbm, ⟨47, _⟩ => ⟨S16384x8x64, .bf16⟩
  | .hbm, ⟨48, _⟩ => ⟨S16384x512, .bf16⟩
  | .hbm, ⟨49, _⟩ => ⟨S16384x1024, .bf16⟩
  | .hbm, ⟨50, _⟩ => ⟨S16384x8x128, .bf16⟩
  | .hbm, ⟨51, _⟩ => ⟨S16384x8x64, .bf16⟩
  | .hbm, ⟨52, _⟩ => ⟨S16384x512, .bf16⟩
  | .hbm, ⟨53, _⟩ => ⟨S16384x512, .bf16⟩
  | .hbm, ⟨54, _⟩ => ⟨S16384x1536, .bf16⟩
  | .hbm, ⟨55, _⟩ => ⟨S16384x1536, .bf16⟩
  | .hbm, ⟨56, _⟩ => ⟨S16384x512, .bf16⟩
  | .hbm, ⟨57, _⟩ => ⟨S16384x3072, .bf16⟩
  | .local _ .vmem, ⟨0, _⟩ => ⟨S512x1024, .f32⟩
  | .local _ .vmem, ⟨1, _⟩ => ⟨S512x1024, .f32⟩
  | .local _ .vmem, ⟨2, _⟩ => ⟨S1024x4352, .bf16⟩
  | .local _ .vmem, ⟨3, _⟩ => ⟨S1024x4352, .bf16⟩
  | .local _ .vmem, ⟨4, _⟩ => ⟨S512x4352, .bf16⟩
  | .local _ .vmem, ⟨5, _⟩ => ⟨S512x4352, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_1 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4352 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x4352 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S16384x1024 : Shape := ⟨2, ![16384, 1024]⟩
abbrev S1024x7728 : Shape := ⟨2, ![1024, 7728]⟩
abbrev S16384x7728 : Shape := ⟨2, ![16384, 7728]⟩
abbrev S16384x768 : Shape := ⟨2, ![16384, 768]⟩
abbrev S16384x256 : Shape := ⟨2, ![16384, 256]⟩
abbrev S16384x32 : Shape := ⟨2, ![16384, 32]⟩
abbrev S16384x1536 : Shape := ⟨2, ![16384, 1536]⟩
abbrev S16384x512 : Shape := ⟨2, ![16384, 512]⟩
abbrev S16384x8 : Shape := ⟨2, ![16384, 8]⟩
abbrev S16384x3072 : Shape := ⟨2, ![16384, 3072]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x7728, .f32⟩
  | .hbm, ⟨2, _⟩ => ⟨S16384x7728, .f32⟩
  | .hbm, ⟨3, _⟩ => ⟨S16384x7728, .bf16⟩
  | .hbm, ⟨4, _⟩ => ⟨S16384x768, .bf16⟩
  | .hbm, ⟨5, _⟩ => ⟨S16384x256, .bf16⟩
  | .hbm, ⟨6, _⟩ => ⟨S16384x32, .bf16⟩
  | .hbm, ⟨7, _⟩ => ⟨S16384x1536, .bf16⟩
  | .hbm, ⟨8, _⟩ => ⟨S16384x1536, .bf16⟩
  | .hbm, ⟨9, _⟩ => ⟨S16384x512, .bf16⟩
  | .hbm, ⟨10, _⟩ => ⟨S16384x8, .bf16⟩
  | .hbm, ⟨11, _⟩ => ⟨S16384x8, .bf16⟩
  | .hbm, ⟨12, _⟩ => ⟨S16384x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Kernel3.lean ====
abbrev S16384x1024 : Shape := ⟨2, ![16384, 1024]⟩
abbrev S1024x2048 : Shape := ⟨2, ![1024, 2048]⟩
abbrev S2048x1024 : Shape := ⟨2, ![2048, 1024]⟩
abbrev S1024x16384 : Shape := ⟨2, ![1024, 16384]⟩
abbrev S2048x16384 : Shape := ⟨2, ![2048, 16384]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S2048x1024, .f32⟩
  | .hbm, ⟨3, _⟩ => ⟨S2048x1024, .bf16⟩
  | .hbm, ⟨4, _⟩ => ⟨S1024x16384, .f32⟩
  | .hbm, ⟨5, _⟩ => ⟨S1024x16384, .bf16⟩
  | .hbm, ⟨6, _⟩ => ⟨S2048x16384, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16384x1024 : Shape := ⟨2, ![16384, 1024]⟩
abbrev S1024x2048 : Shape := ⟨2, ![1024, 2048]⟩
abbrev S16384x2048 : Shape := ⟨2, ![16384, 2048]⟩
abbrev S2048x16384 : Shape := ⟨2, ![2048, 16384]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S16384x2048, .f32⟩
  | .hbm, ⟨3, _⟩ => ⟨S2048x16384, .f32⟩
  | .hbm, ⟨4, _⟩ => ⟨S2048x16384, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel4.lean ====
abbrev S16384x8704 : Shape := ⟨2, ![16384, 8704]⟩
abbrev S3x1024 : Shape := ⟨2, ![3, 1024]⟩
abbrev S16384x512 : Shape := ⟨2, ![16384, 512]⟩
abbrev S3x512x1024 : Shape := ⟨3, ![3, 512, 1024]⟩
abbrev S1024x1024 : Shape := ⟨2, ![1024, 1024]⟩
abbrev S16384x1024 : Shape := ⟨2, ![16384, 1024]⟩
abbrev S1024 : Shape := ⟨1, ![1024]⟩
abbrev S1x1024 : Shape := ⟨2, ![1, 1024]⟩
abbrev S1024x16384 : Shape := ⟨2, ![1024, 16384]⟩
abbrev S512x1024 : Shape := ⟨2, ![512, 1024]⟩
abbrev S512x512 : Shape := ⟨2, ![512, 512]⟩
abbrev S1024x512 : Shape := ⟨2, ![1024, 512]⟩
abbrev S1x512x1024 : Shape := ⟨3, ![1, 512, 1024]⟩
abbrev S512 : Shape := ⟨1, ![512]⟩
abbrev S512x1 : Shape := ⟨2, ![512, 1]⟩

abbrev nBuf : Space → Nat
  | .hbm => 16
  | .vmem => 23
  | .smem => 0
  | _ => 0

abbrev bufTy : (tb : Table) → Fin (tcTables nBuf tb) → BufTy
  | .hbm, ⟨0, _⟩ => ⟨S16384x8704, .bf16⟩
  | .hbm, ⟨1, _⟩ => ⟨S3x1024, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S3x512x1024, .f32⟩
  | .hbm, ⟨6, _⟩ => ⟨S1024x1024, .f32⟩
  | .hbm, ⟨7, _⟩ => ⟨S16384x1024, .f32⟩
  | .hbm, ⟨8, _⟩ => ⟨S1024, .f32⟩
  | .hbm, ⟨9, _⟩ => ⟨S1024, .f32⟩
  | .hbm, ⟨10, _⟩ => ⟨S3x512x1024, .bf16⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S16384x1024, .f32⟩
  | .hbm, ⟨15, _⟩ => ⟨S1024x16384, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S3x1024, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S3x512x1024, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S1024x512, .bf16⟩
  | .local _ .vmem, ⟨22, _⟩ => ⟨S1024x512, .bf16⟩
  | _, _ => ⟨S16384x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S16384x8704 : Shape := ⟨2, ![16384, 8704]⟩
abbrev S3x1024 : Shape := ⟨2, ![3, 1024]⟩
abbrev S16384x512 : Shape := ⟨2, ![16384, 512]⟩
abbrev S3x512x1024 : Shape := ⟨3, ![3, 512, 1024]⟩
abbrev S1024x1024 : Shape := ⟨2, ![1024, 1024]⟩
abbrev S16384x1024 : Shape := ⟨2, ![16384, 1024]⟩
abbrev S1024 : Shape := ⟨1, ![1024]⟩
abbrev S16384x3072 : Shape := ⟨2, ![16384, 3072]⟩
abbrev S16384x1x512 : Shape := ⟨3, ![16384, 1, 512]⟩
abbrev S16384x3x512 : Shape := ⟨3, ![16384, 3, 512]⟩
abbrev S16384x3x1024 : Shape := ⟨3, ![16384, 3, 1024]⟩
abbrev S1x3x1024 : Shape := ⟨3, ![1, 3, 1024]⟩
abbrev S_ : Shape := ⟨0, ![]⟩
abbrev S3x1024x16384 : Shape := ⟨3, ![3, 1024, 16384]⟩
abbrev S16384 : Shape := ⟨1, ![16384]⟩
abbrev S16384x1 : Shape := ⟨2, ![16384, 1]⟩
abbrev S1x1024 : Shape := ⟨2, ![1, 1024]⟩
abbrev S1024x16384 : Shape := ⟨2, ![1024, 16384]⟩

abbrev nBuf : Space → Nat
  | .hbm => 69
  | .vmem => 0
  | .smem => 0
  | _ => 0

abbrev bufTy : (tb : Table) → Fin (tcTables nBuf tb) → BufTy
  | .hbm, ⟨0, _⟩ => ⟨S16384x8704, .bf16⟩
  | .hbm, ⟨1, _⟩ => ⟨S3x1024, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S3x512x1024, .f32⟩
  | .hbm, ⟨6, _⟩ => ⟨S1024x1024, .f32⟩
  | .hbm, ⟨7, _⟩ => ⟨S16384x1024, .f32⟩
  | .hbm, ⟨8, _⟩ => ⟨S1024, .f32⟩
  | .hbm, ⟨9, _⟩ => ⟨S1024, .f32⟩
  | .hbm, ⟨10, _⟩ => ⟨S16384x3072, .bf16⟩
  | .hbm, ⟨11, _⟩ => ⟨S16384x3072, .f32⟩
  | .hbm, ⟨12, _⟩ => ⟨S16384x1x512, .f32⟩
  | .hbm, ⟨13, _⟩ => ⟨S16384x1x512, .f32⟩
  | .hbm, ⟨14, _⟩ => ⟨S16384x1x512, .f32⟩
  | .hbm, ⟨15, _⟩ => ⟨S16384x3x512, .f32⟩
  | .hbm, ⟨16, _⟩ => ⟨S16384x3x1024, .f32⟩
  | .hbm, ⟨17, _⟩ => ⟨S1x3x1024, .f32⟩
  | .hbm, ⟨18, _⟩ => ⟨S16384x3x1024, .f32⟩
  | .hbm, ⟨19, _⟩ => ⟨S16384x3x1024, .f32⟩
  | .hbm, ⟨20, _⟩ => ⟨S16384x3x1024, .f32⟩
  | .hbm, ⟨21, _⟩ => ⟨S16384x3x1024, .f32⟩
  | .hbm, ⟨22, _⟩ => ⟨S_, .f32⟩
  | .hbm, ⟨23, _⟩ => ⟨S16384x3x1024, .f32⟩
  | .hbm, ⟨24, _⟩ => ⟨S16384x3x1024, .f32⟩
  | .hbm, ⟨25, _⟩ => ⟨S_, .f32⟩
  | .hbm, ⟨26, _⟩ => ⟨S16384x3x1024, .f32⟩
  | .hbm, ⟨27, _⟩ => ⟨S16384x3x1024, .f32⟩
  | .hbm, ⟨28, _⟩ => ⟨S3x1024x16384, .f32⟩
  | .hbm, ⟨29, _⟩ => ⟨S16384x3x1024, .f32⟩
  | .hbm, ⟨30, _⟩ => ⟨S16384x3x1024, .f32⟩
  | .hbm, ⟨31, _⟩ => ⟨S_, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S16384x1, .f32⟩
  | .hbm, ⟨59, _⟩ => ⟨S16384x1024, .f32⟩
  | .hbm, ⟨60, _⟩ => ⟨S16384x1024, .f32⟩
  | .hbm, ⟨61, _⟩ => ⟨S1x1024, .f32⟩
  | .hbm, ⟨62, _⟩ => ⟨S16384x1024, .f32⟩
  | .hbm, ⟨63, _⟩ => ⟨S16384x1024, .f32⟩
  | .hbm, ⟨64, _⟩ => ⟨S1x1024, .f32⟩
  | .hbm, ⟨65, _⟩ => ⟨S16384x1024, .f32⟩
  | .hbm, ⟨66, _⟩ => ⟨S16384x1024, .f32⟩
  | .hbm, ⟨67, _⟩ => ⟨S1024x16384, .f32⟩
  | .hbm, ⟨68, _⟩ => ⟨S1024x16384, .bf16⟩
  | _, _ => ⟨S16384x8704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel5.lean ====
abbrev S16384x8704 : Shape := ⟨2, ![16384, 8704]⟩
abbrev S16384x32 : Shape := ⟨2, ![16384, 32]⟩
abbrev S8x2048 : Shape := ⟨2, ![8, 2048]⟩
abbrev S768 : Shape := ⟨1, ![768]⟩
abbrev S256 : Shape := ⟨1, ![256]⟩
abbrev S768x768 : Shape := ⟨2, ![768, 768]⟩
abbrev S256x1024 : Shape := ⟨2, ![256, 1024]⟩
abbrev S16384 : Shape := ⟨1, ![16384]⟩
abbrev S16384x1 : Shape := ⟨2, ![16384, 1]⟩
abbrev S16 : Shape := ⟨1, ![16]⟩
abbrev S_ : Shape := ⟨0, ![]⟩
abbrev S1x16 : Shape := ⟨2, ![1, 16]⟩
abbrev S16384x16 : Shape := ⟨2, ![16384, 16]⟩
abbrev S8 : Shape := ⟨1, ![8]⟩
abbrev S1x8 : Shape := ⟨2, ![1, 8]⟩
abbrev S16384x8 : Shape := ⟨2, ![16384, 8]⟩
abbrev S16384x64 : Shape := ⟨2, ![16384, 64]⟩
abbrev S16384x128 : Shape := ⟨2, ![16384, 128]⟩
abbrev S16384x48 : Shape := ⟨2, ![16384, 48]⟩
abbrev S16384x112 : Shape := ⟨2, ![16384, 112]⟩
abbrev S768x8x96 : Shape := ⟨3, ![768, 8, 96]⟩
abbrev S768x8x32 : Shape := ⟨3, ![768, 8, 32]⟩
abbrev S768x8x16 : Shape := ⟨3, ![768, 8, 16]⟩
abbrev S768x8x128 : Shape := ⟨3, ![768, 8, 128]⟩
abbrev S768x1024 : Shape := ⟨2, ![768, 1024]⟩
abbrev S256x8x128 : Shape := ⟨3, ![256, 8, 128]⟩
abbrev S256x8x64 : Shape := ⟨3, ![256, 8, 64]⟩
abbrev S256x512 : Shape := ⟨2, ![256, 512]⟩
abbrev S256x1536 : Shape := ⟨2, ![256, 1536]⟩
abbrev S1x768 : Shape := ⟨2, ![1, 768]⟩
abbrev S1x256 : Shape := ⟨2, ![1, 256]⟩
abbrev S16384x1024 : Shape := ⟨2, ![16384, 1024]⟩
abbrev S16384x512 : Shape := ⟨2, ![16384, 512]⟩
abbrev S512x768 : Shape := ⟨2, ![512, 768]⟩
abbrev S512x256 : Shape := ⟨2, ![512, 256]⟩
abbrev S512x128 : Shape := ⟨2, ![512, 128]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x1536 : Shape := ⟨2, ![512, 1536]⟩

abbrev nBuf : Space → Nat
  | .hbm => 99
  | .vmem => 20
  | .smem => 0
  | _ => 0

abbrev bufTy : (tb : Table) → Fin (tcTables nBuf tb) → BufTy
  | .hbm, ⟨0, _⟩ => ⟨S16384x8704, .bf16⟩
  | .hbm, ⟨1, _⟩ => ⟨S16384x32, .f32⟩
  | .hbm, ⟨2, _⟩ => ⟨S8x2048, .i32⟩
  | .hbm, ⟨3, _⟩ => ⟨S768, .f32⟩
  | .hbm, ⟨4, _⟩ => ⟨S256, .f32⟩
  | .hbm, ⟨5, _⟩ => ⟨S768x768, .f32⟩
  | .hbm, ⟨6, _⟩ => ⟨S256x1024, .f32⟩
  | .hbm, ⟨7, _⟩ => ⟨S16384, .i32⟩
  | .hbm, ⟨8, _⟩ => ⟨S16384, .f32⟩
  | .hbm, ⟨9, _⟩ => ⟨S16384x1, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S1x16, .f32⟩
  | .hbm, ⟨25, _⟩ => ⟨S16384x16, .f32⟩
  | .hbm, ⟨26, _⟩ => ⟨S16384x16, .f32⟩
  | .hbm, ⟨27, _⟩ => ⟨S16384x16, .f32⟩
  | .hbm, ⟨28, _⟩ => ⟨S16384x16, .f32⟩
  | .hbm, ⟨29, _⟩ => ⟨S16384x16, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S_, .f32⟩
  | .hbm, ⟨35, _⟩ => ⟨S8, .f32⟩
  | .hbm, ⟨36, _⟩ => ⟨S8, .f32⟩
  | .hbm, ⟨37, _⟩ => ⟨S8, .f32⟩
  | .hbm, ⟨38, _⟩ => ⟨S_, .f32⟩
  | .hbm, ⟨39, _⟩ => ⟨S8, .f32⟩
  | .hbm, ⟨40, _⟩ => ⟨S8, .f32⟩
  | .hbm, ⟨41, _⟩ => ⟨S_, .f32⟩
  | .hbm, ⟨42, _⟩ => ⟨S8, .f32⟩
  | .hbm, ⟨43, _⟩ => ⟨S8, .f32⟩
  | .hbm, ⟨44, _⟩ => ⟨S1x8, .f32⟩
  | .hbm, ⟨45, _⟩ => ⟨S16384x8, .f32⟩
  | .hbm, ⟨46, _⟩ => ⟨S16384x8, .f32⟩
  | .hbm, ⟨47, _⟩ => ⟨S16384x8, .f32⟩
  | .hbm, ⟨48, _⟩ => ⟨S16384x8, .f32⟩
  | .hbm, ⟨49, _⟩ => ⟨S16384x8, .f32⟩
  | .hbm, ⟨50, _⟩ => ⟨S_, .f32⟩
  | .hbm, ⟨51, _⟩ => ⟨S16384x64, .f32⟩
  | .hbm, ⟨52, _⟩ => ⟨S_, .f32⟩
  | .hbm, ⟨53, _⟩ => ⟨S16384x32, .f32⟩
  | .hbm, ⟨54, _⟩ => ⟨S16384x128, .f32⟩
  | .hbm, ⟨55, _⟩ => ⟨S_, .f32⟩
  | .hbm, ⟨56, _⟩ => ⟨S16384x64, .f32⟩
  | .hbm, ⟨57, _⟩ => ⟨S_, .f32⟩
  | .hbm, ⟨58, _⟩ => ⟨S16384x32, .f32⟩
  | .hbm, ⟨59, _⟩ => ⟨S16384x128, .f32⟩
  | .hbm, ⟨60, _⟩ => ⟨S_, .f32⟩
  | .hbm, ⟨61, _⟩ => ⟨S16384x48, .f32⟩
  | .hbm, ⟨62, _⟩ => ⟨S_, .f32⟩
  | .hbm, ⟨63, _⟩ => ⟨S16384x64, .f32⟩
  | .hbm, ⟨64, _⟩ => ⟨S16384x128, .f32⟩
  | .hbm, ⟨65, _⟩ => ⟨S_, .f32⟩
  | .hbm, ⟨66, _⟩ => ⟨S16384x112, .f32⟩
  | .hbm, ⟨67, _⟩ => ⟨S16384x128, .f32⟩
  | .hbm, ⟨68, _⟩ => ⟨S_, .f32⟩
  | .hbm, ⟨69, _⟩ => ⟨S16384x64, .f32⟩
  | .hbm, ⟨70, _⟩ => ⟨S16384x16, .f32⟩
  | .hbm, ⟨71, _⟩ => ⟨S16384x16, .f32⟩
  | .hbm, ⟨72, _⟩ => ⟨S16384x16, .f32⟩
  | .hbm, ⟨73, _⟩ => ⟨S16384x32, .f32⟩
  | .hbm, ⟨74, _⟩ => ⟨S16384x128, .f32⟩
  | .hbm, ⟨75, _⟩ => ⟨S768x8x96, .f32⟩
  | .hbm, ⟨76, _⟩ => ⟨S768x8x32, .f32⟩
  | .hbm, ⟨77, _⟩ => ⟨S768x8x16, .f32⟩
  | .hbm, ⟨78, _⟩ => ⟨S768x8x16, .f32⟩
  | .hbm, ⟨79, _⟩ => ⟨S768x8x16, .f32⟩
  | .hbm, ⟨80, _⟩ => ⟨S768x8x32, .f32⟩
  | .hbm, ⟨81, _⟩ => ⟨S768x8x128, .f32⟩
  | .hbm, ⟨82, _⟩ => ⟨S768x1024, .f32⟩
  | .hbm, ⟨83, _⟩ => ⟨S768x1024, .bf16⟩
  | .hbm, ⟨84, _⟩ => ⟨S256x8x128, .f32⟩
  | .hbm, ⟨85, _⟩ => ⟨S256x8x64, .f32⟩
  | .hbm, ⟨86, _⟩ => ⟨S_, .f32⟩
  | .hbm, ⟨87, _⟩ => ⟨S256x8x64, .f32⟩
  | .hbm, ⟨88, _⟩ => ⟨S256x8x128, .f32⟩
  | .hbm, ⟨89, _⟩ => ⟨S256x1024, .f32⟩
  | .hbm, ⟨90, _⟩ => ⟨S256x8x64, .f32⟩
  | .hbm, ⟨91, _⟩ => ⟨S256x512, .f32⟩
  | .hbm, ⟨92, _⟩ => ⟨S256x1536, .f32⟩
  | .hbm, ⟨93, _⟩ => ⟨S256x1536, .bf16⟩
  | .hbm, ⟨94, _⟩ => ⟨S1x768, .f32⟩
  | .hbm, ⟨95, _⟩ => ⟨S1x256, .f32⟩
  | .hbm, ⟨96, _⟩ => ⟨S16384x1024, .bf16⟩
  | .hbm, ⟨97, _⟩ => ⟨S16384x1024, .bf16⟩
  | .hbm, ⟨98, _⟩ => ⟨S16384x512, .bf16⟩
  | .local _ .vmem, ⟨0, _⟩ => ⟨S512x768, .bf16⟩
  | .local _ .vmem, ⟨1, _⟩ => ⟨S512x768, .bf16⟩
  | .local _ .vmem, ⟨2, _⟩ => ⟨S512x256, .bf16⟩
  | .local _ .vmem, ⟨3, _⟩ => ⟨S512x256, .bf16⟩
  | .local _ .vmem, ⟨4, _⟩ => ⟨S1x768, .f32⟩
  | .local _ .vmem, ⟨5, _⟩ => ⟨S1x256, .f32⟩
  | .local _ .vmem, ⟨6, _⟩ => ⟨S768x1024, .bf16⟩
  | .local _ .vmem, ⟨7, _⟩ => ⟨S256x1536, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x512, .bf16⟩
  | .local _ .vmem, ⟨19, _⟩ => ⟨S512x512, .bf16⟩
  | _, _ => ⟨S16384x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_cst_10 : Ref sig .tc := ⟨.hbm, 57, rfl⟩
abbrev main_v39 : Ref sig .tc := ⟨.hbm, 58, rfl⟩
abbrev main_v40 : Ref sig .tc := ⟨.hbm, 59, rfl⟩
abbrev main_cst_11 : Ref sig .tc := ⟨.hbm, 60, rfl⟩
abbrev main_v41 : Ref sig .tc := ⟨.hbm, 61, rfl⟩
abbrev main_cst_12 : Ref sig .tc := ⟨.hbm, 62, rfl⟩
abbrev main_v42 : Ref sig .tc := ⟨.hbm, 63, rfl⟩
abbrev main_v43 : Ref sig .tc := ⟨.hbm, 64, rfl⟩
abbrev main_cst_13 : Ref sig .tc := ⟨.hbm, 65, rfl⟩
abbrev main_v44 : Ref sig .tc := ⟨.hbm, 66, rfl⟩
abbrev main_v45 : Ref sig .tc := ⟨.hbm, 67, rfl⟩
abbrev main_cst_14 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_15 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72_0 : Ref sig .tc := ⟨.hbm, 96, rfl⟩
abbrev main_v72_1 : Ref sig .tc := ⟨.hbm, 97, rfl⟩
abbrev main_v72_2 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S16384x8704 : Shape := ⟨2, ![16384, 8704]⟩
abbrev S16384x32 : Shape := ⟨2, ![16384, 32]⟩
abbrev S8x2048 : Shape := ⟨2, ![8, 2048]⟩
abbrev S768 : Shape := ⟨1, ![768]⟩
abbrev S256 : Shape := ⟨1, ![256]⟩
abbrev S768x768 : Shape := ⟨2, ![768, 768]⟩
abbrev S256x1024 : Shape := ⟨2, ![256, 1024]⟩
abbrev S16 : Shape := ⟨1, ![16]⟩
abbrev S_ : Shape := ⟨0, ![]⟩
abbrev S16384x1 : Shape := ⟨2, ![16384, 1]⟩
abbrev S1x16 : Shape := ⟨2, ![1, 16]⟩
abbrev S16384x16 : Shape := ⟨2, ![16384, 16]⟩
abbrev S16384x1x16 : Shape := ⟨3, ![16384, 1, 16]⟩
abbrev S16384x768 : Shape := ⟨2, ![16384, 768]⟩
abbrev S16384 : Shape := ⟨1, ![16384]⟩
abbrev S1x768 : Shape := ⟨2, ![1, 768]⟩
abbrev S16384x8x96 : Shape := ⟨3, ![16384, 8, 96]⟩
abbrev S16384x8x64 : Shape := ⟨3, ![16384, 8, 64]⟩
abbrev S16384x8x32 : Shape := ⟨3, ![16384, 8, 32]⟩
abbrev S16384x8x16 : Shape := ⟨3, ![16384, 8, 16]⟩
abbrev S16384x256 : Shape := ⟨2, ![16384, 256]⟩
abbrev S1x256 : Shape := ⟨2, ![1, 256]⟩
abbrev S16384x1024 : Shape := ⟨2, ![16384, 1024]⟩
abbrev S16384x8x128 : Shape := ⟨3, ![16384, 8, 128]⟩
abbrev S16384x1x32 : Shape := ⟨3, ![16384, 1, 32]⟩
abbrev S16384x512 : Shape := ⟨2, ![16384, 512]⟩

abbrev nBuf : Space → Nat
  | .hbm => 116
  | .vmem => 0
  | .smem => 0
  | _ => 0

abbrev bufTy : (tb : Table) → Fin (tcTables nBuf tb) → BufTy
  | .hbm, ⟨0, _⟩ => ⟨S16384x8704, .bf16⟩
  | .hbm, ⟨1, _⟩ => ⟨S16384x32, .f32⟩
  | .hbm, ⟨2, _⟩ => ⟨S8x2048, .i32⟩
  | .hbm, ⟨3, _⟩ => ⟨S768, .f32⟩
  | .hbm, ⟨4, _⟩ => ⟨S256, .f32⟩
  | .hbm, ⟨5, _⟩ => ⟨S768x768, .f32⟩
  | .hbm, ⟨6, _⟩ => ⟨S256x1024, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S8x2048, .f32⟩
  | .hbm, ⟨22, _⟩ => ⟨S16384x1, .f32⟩
  | .hbm, ⟨23, _⟩ => ⟨S1x16, .f32⟩
  | .hbm, ⟨24, _⟩ => ⟨S16384x16, .f32⟩
  | .hbm, ⟨25, _⟩ => ⟨S16384x16, .f32⟩
  | .hbm, ⟨26, _⟩ => ⟨S16384x16, .f32⟩
  | .hbm, ⟨27, _⟩ => ⟨S16384x16, .f32⟩
  | .hbm, ⟨28, _⟩ => ⟨S16384x1x16, .f32⟩
  | .hbm, ⟨29, _⟩ => ⟨S16384x16, .f32⟩
  | .hbm, ⟨30, _⟩ => ⟨S16384x1x16, .f32⟩
  | .hbm, ⟨31, _⟩ => ⟨S16384x768, .bf16⟩
  | .hbm, ⟨32, _⟩ => ⟨S16384x768, .f32⟩
  | .hbm, ⟨33, _⟩ => ⟨S16384x768, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x768, .f32⟩
  | .hbm, ⟨45, _⟩ => ⟨S16384x768, .f32⟩
  | .hbm, ⟨46, _⟩ => ⟨S1x768, .f32⟩
  | .hbm, ⟨47, _⟩ => ⟨S16384x768, .f32⟩
  | .hbm, ⟨48, _⟩ => ⟨S16384x768, .f32⟩
  | .hbm, ⟨49, _⟩ => ⟨S16384x768, .f32⟩
  | .hbm, ⟨50, _⟩ => ⟨S16384x8x96, .f32⟩
  | .hbm, ⟨51, _⟩ => ⟨S16384x8x64, .f32⟩
  | .hbm, ⟨52, _⟩ => ⟨S16384x8x32, .f32⟩
  | .hbm, ⟨53, _⟩ => ⟨S16384x8x16, .f32⟩
  | .hbm, ⟨54, _⟩ => ⟨S16384x8x16, .f32⟩
  | .hbm, ⟨55, _⟩ => ⟨S16384x8x16, .f32⟩
  | .hbm, ⟨56, _⟩ => ⟨S16384x8x16, .f32⟩
  | .hbm, ⟨57, _⟩ => ⟨S16384x8x16, .f32⟩
  | .hbm, ⟨58, _⟩ => ⟨S16384x8x16, .f32⟩
  | .hbm, ⟨59, _⟩ => ⟨S16384x8x16, .f32⟩
  | .hbm, ⟨60, _⟩ => ⟨S16384x8x16, .f32⟩
  | .hbm, ⟨61, _⟩ => ⟨S16384x8x16, .f32⟩
  | .hbm, ⟨62, _⟩ => ⟨S16384x8x16, .f32⟩
  | .hbm, ⟨63, _⟩ => ⟨S16384x8x16, .f32⟩
  | .hbm, ⟨64, _⟩ => ⟨S16384x8x16, .f32⟩
  | .hbm, ⟨65, _⟩ => ⟨S16384x8x32, .f32⟩
  | .hbm, ⟨66, _⟩ => ⟨S16384x8x96, .f32⟩
  | .hbm, ⟨67, _⟩ => ⟨S16384x256, .bf16⟩
  | .hbm, ⟨68, _⟩ => ⟨S16384x256, .f32⟩
  | .hbm, ⟨69, _⟩ => ⟨S16384x256, .f32⟩
  | .hbm, ⟨70, _⟩ => ⟨S_, .f32⟩
  | .hbm, ⟨71, _⟩ => ⟨S16384, .f32⟩
  | .hbm, ⟨72, _⟩ => ⟨S16384x1, .f32⟩
  | .hbm, ⟨73, _⟩ => ⟨S_, .f32⟩
  | .hbm, ⟨74, _⟩ => ⟨S16384x1, .f32⟩
  | .hbm, ⟨75, _⟩ => ⟨S16384x1, .f32⟩
  | .hbm, ⟨76, _⟩ => ⟨S_, .f32⟩
  | .hbm, ⟨77, _⟩ => ⟨S16384x1, .f32⟩
  | .hbm, ⟨78, _⟩ => ⟨S16384x1, .f32⟩
  | .hbm, ⟨79, _⟩ => ⟨S16384x1, .f32⟩
  | .hbm, ⟨80, _⟩ => ⟨S16384x256, .f32⟩
  | .hbm, ⟨81, _⟩ => ⟨S16384x256, .f32⟩
  | .hbm, ⟨82, _⟩ => ⟨S1x256, .f32⟩
  | .hbm, ⟨83, _⟩ => ⟨S16384x256, .f32⟩
  | .hbm, ⟨84, _⟩ => ⟨S16384x256, .f32⟩
  | .hbm, ⟨85, _⟩ => ⟨S16384x1024, .f32⟩
  | .hbm, ⟨86, _⟩ => ⟨S16384x8x128, .f32⟩
  | .hbm, ⟨87, _⟩ => ⟨S16384x8x64, .f32⟩
  | .hbm, ⟨88, _⟩ => ⟨S16384x1x32, .f32⟩
  | .hbm, ⟨89, _⟩ => ⟨S16384x1x16, .f32⟩
  | .hbm, ⟨90, _⟩ => ⟨S16384x1x16, .f32⟩
  | .hbm, ⟨91, _⟩ => ⟨S16384x1x16, .f32⟩
  | .hbm, ⟨92, _⟩ => ⟨S16384x1x16, .f32⟩
  | .hbm, ⟨93, _⟩ => ⟨S16384x1x16, .f32⟩
  | .hbm, ⟨94, _⟩ => ⟨S16384x1x16, .f32⟩
  | .hbm, ⟨95, _⟩ => ⟨S16384x1x16, .f32⟩
  | .hbm, ⟨96, _⟩ => ⟨S16384x1x16, .f32⟩
  | .hbm, ⟨97, _⟩ => ⟨S16384x1x32, .f32⟩
  | .hbm, ⟨98, _⟩ => ⟨S16384x8x32, .f32⟩
  | .hbm, ⟨99, _⟩ => ⟨S16384x8x96, .f32⟩
  | .hbm, ⟨100, _⟩ => ⟨S_, .f32⟩
  | .hbm, ⟨101, _⟩ => ⟨S16384x8x96, .f32⟩
  | .hbm, ⟨102, _⟩ => ⟨S16384x8x96, .f32⟩
  | .hbm, ⟨103, _⟩ => ⟨S_, .f32⟩
  | .hbm, ⟨104, _⟩ => ⟨S16384x8x32, .f32⟩
  | .hbm, ⟨105, _⟩ => ⟨S16384x8x128, .f32⟩
  | .hbm, ⟨106, _⟩ => ⟨S16384x1024, .f32⟩
  | .hbm, ⟨107, _⟩ => ⟨S16384x1024, .bf16⟩
  | .hbm, ⟨108, _⟩ => ⟨S_, .f32⟩
  | .hbm, ⟨109, _⟩ => ⟨S16384x8x32, .f32⟩
  | .hbm, ⟨110, _⟩ => ⟨S16384x8x128, .f32⟩
  | .hbm, ⟨111, _⟩ => ⟨S16384x1024, .f32⟩
  | .hbm, ⟨112, _⟩ => ⟨S16384x1024, .bf16⟩
  | .hbm, ⟨113, _⟩ => ⟨S16384x8x64, .f32⟩
  | .hbm, ⟨114, _⟩ => ⟨S16384x512, .f32⟩
  | .hbm, ⟨115, _⟩ => ⟨S16384x512, .bf16⟩
  | _, _ => ⟨S16384x8704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_6 : Ref sig .tc := ⟨.hbm, 70, rfl⟩
abbrev main_v56 : Ref sig .tc := ⟨.hbm, 71, rfl⟩
abbrev main_v57 : Ref sig .tc := ⟨.hbm, 72, rfl⟩
abbrev main_cst_7 : Ref sig .tc := ⟨.hbm, 73, rfl⟩
abbrev main_v58 : Ref sig .tc := ⟨.hbm, 74, rfl⟩
abbrev main_v59 : Ref sig .tc := ⟨.hbm, 75, rfl⟩
abbrev main_cst_8 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_cst_9 : Ref sig .tc := ⟨.hbm, 100, rfl⟩
abbrev main_v83 : Ref sig .tc := ⟨.hbm, 101, rfl⟩
abbrev main_v84 : Ref sig .tc := ⟨.hbm, 102, rfl⟩
abbrev main_cst_10 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_cst_11 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩

abbrev nD : Nat := 1
abbrev τ : Topo := Topo.v7x

variable {F : FTy → Type} [FloatOps F]
-- ==== Proof.Step.lean ====
/- One key block's update of the online softmax, head by head: the scores of a key block, the running maximum, the
   running sum of the exponentials and the running weighted sum of the values, as functions of what they are
   computed from, and what the buffers that hold the eight heads side by side hold after it. -/
module

public import proofs.«01_k».proof.Proof.Gen.KernelIdeal.Frame
public import proofs.«01_k».proof.Proof.Gen.KernelIdeal.Loops
public import Idealize.ShloMosaic.Lib.Pipeline.FrameBody
public import Idealize.ShloMosaic.Lib.Pipeline.ReadBack
public import Idealize.ShloMosaic.Lib.Pipeline.ValueKit.Stack
public import Idealize.ShloMosaic.Lib.WholeRead
public import Idealize.ShloMosaic.Lib.Tactic
public import Idealize.ShloMosaic.Lib.LoopRemainder

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.ShloMosaic.StackMember

variable {F : FTy → Type} [FloatOps F]

/-! ## One head, one key block -/

/-- The scores of a key block against a query block, a key to a row. -/
def score (kb : Vec F S256x128 .bf16) (qt : Vec F S128x256 .bf16) : FVec F S256x256 .f32 :=
  matmul dot_S256x128_S128x256_S256x256_1_0_0_1_n_n none kb qt (constant S256x256 .f32 0x00000000#32)

/-- The running maximum after the block with scores `s`. -/
def mNew (s : FVec F S256x256 .f32) (m : FVec F S1x256 .f32) : FVec F S1x256 .f32 :=
  maximumf m (shapeCast S1x256 (multiReduction .maximumf [0] S256 s 0xFF800000#32 reduces_S256x256_S256 (.inl rfl) rfl) shapeCasts_S256_S1x256)

/-- The factor by which what was summed before the block is rescaled. -/
def alpha (s : FVec F S256x256 .f32) (m : FVec F S1x256 .f32) : FVec F S1x256 .f32 := exp2 (subf m (mNew s m))

/-- The block's weights: powers of two of the scores above the running maximum. -/
def prob (s : FVec F S256x256 .f32) (m : FVec F S1x256 .f32) : FVec F S256x256 .f32 :=
  exp2 (subf s (broadcastTo S256x256 (mNew s m) broadcasts_S1x256_S256x256))

/-- The running sum of weights after the block. -/
def lNew (s : FVec F S256x256 .f32) (m l : FVec F S1x256 .f32) : FVec F S1x256 .f32 :=
  addf (mulf (alpha s m) l)
    (shapeCast S1x256 (multiReduction .add [0] S256 (prob s m) 0x00000000#32 reduces_S256x256_S256 (.inl rfl) rfl) shapeCasts_S256_S1x256)

/-- The running weighted sum of the values after the block, whose values (transposed) are `v`. -/
def accNew (s : FVec F S256x256 .f32) (m : FVec F S1x256 .f32) (acc : FVec F S64x256 .f32) (v : Vec F S64x256 .bf16) : FVec F S64x256 .f32 :=
  addf (mulf (broadcastTo S64x256 (alpha s m) broadcasts_S1x256_S64x256) acc)
    (matmul dot_S64x256_S256x256_S64x256_1_0_0_1_n_n none v (truncf .bf16 (prob s m) bitsLt_bf16_f32) (constant S64x256 .f32 0x00000000#32))

/-! ## The eight heads -/

/-- Key block `j` of head `h`: rows `256 j …` and columns `128 h …` of the keys. -/
def kSl (K : Vec F S2048x1024 .bf16) (j : ℕ) (h : Fin 8) : Vec F S256x128 .bf16 := fun x =>
  K (fun a => match a with
    | ⟨0, _⟩ => ⟨(256 * j + (x 0).val) % 2048, Nat.mod_lt _ (by decide)⟩
    | ⟨1, _⟩ => ⟨(128 * h.val + (x 1).val) % 1024, Nat.mod_lt _ (by decide)⟩
    | ⟨_ + 2, h⟩ => absurd h (Nat.not_lt.2 (Nat.le_add_left _ _)))

/-- Value block `j` of head `h`, transposed: rows `64 h …` of member `j` of the transposed values. -/
def vSl (V : Vec F S8x512x256 .bf16) (j : ℕ) (h : Fin 8) : Vec F S64x256 .bf16 := fun x =>
  V (fun a => match a with
    | ⟨0, _⟩ => ⟨j % 8, Nat.mod_lt _ (by decide)⟩
    | ⟨1, _⟩ => ⟨(64 * h.val + (x 0).val) % 512, Nat.mod_lt _ (by decide)⟩
    | ⟨2, _⟩ => x 1
    | ⟨_ + 3, h⟩ => absurd h (Nat.not_lt.2 (Nat.le_add_left _ _)))

/-- The scores of key block `j` in head `h`. -/
def sAt (K : Vec F S2048x1024 .bf16) (Q : Vec F S8x128x256 .bf16) (j : ℕ) (h : Fin 8) : FVec F S256x256 .f32 :=
  score (kSl K j h) (memberAt Q h)

/-- The running maxima of the eight heads after a block with scores `s`. -/
def stepM (s : Fin 8 → FVec F S256x256 .f32) (M : Vec F S8x1x256 .f32) : Vec F S8x1x256 .f32 :=
  stackAlong0 fun h : Fin 8 => mNew (s h) (memberAt M h)
/-- The running sums of weights after it. -/
def stepL (s : Fin 8 → FVec F S256x256 .f32) (M L : Vec F S8x1x256 .f32) : Vec F S8x1x256 .f32 :=
  stackAlong0 fun h : Fin 8 => lNew (s h) (memberAt M h) (memberAt L h)
/-- The running weighted sums of values after it. -/
def stepA (s : Fin 8 → FVec F S256x256 .f32) (v : Fin 8 → Vec F S64x256 .bf16) (M : Vec F S8x1x256 .f32) (A : Vec F S8x64x256 .f32) :
    Vec F S8x64x256 .f32 :=
  stackAlong0 fun h : Fin 8 => accNew (s h) (memberAt M h) (memberAt A h) (v h)

/-- A stack is the stack of its members. -/
theorem stack_members {α : Type} {G r : ℕ} {d : Fin r → ℕ} (X : (⟨r + 1, Matrix.vecCons G d⟩ : Shape).Idx → α) :
    stackAlong0 (memberAt X) = X := by
  funext y
  unfold stackAlong0 memberAt
  congr 1
  funext a
  refine Fin.cases ?_ (fun b => ?_) a <;> rfl

/-- A load of slice `h` of an array with a leading axis is member `h` under a unit axis. -/
theorem ld_member {Val : EltTy → Type} {e : EltTy} {G r : ℕ} {d : Fin r → ℕ} (X : (⟨r + 1, Matrix.vecCons G d⟩ : Shape).Idx → Val e) (g : Fin G)
    (off : Fin (r + 1) → ℕ) (inb : ∀ a, off a + (Matrix.vecCons 1 d : Fin (r + 1) → ℕ) a ≤ (⟨r + 1, Matrix.vecCons G d⟩ : Shape).size a)
    (hc : (⟨r, d⟩ : Shape).ShapeCasts ⟨r + 1, Matrix.vecCons 1 d⟩) (h0 : off 0 = g.val) (hs : ∀ a : Fin r, off a.succ = 0) :
    View.ld (Val := Val) (e' := e) X (Rect.unit (s := ⟨r + 1, Matrix.vecCons G d⟩) off (Matrix.vecCons 1 d) inb)
      = shapeCast ⟨r + 1, Matrix.vecCons 1 d⟩ (memberAt X g) hc := by
  have := ld_stack (Val := Val) (e := e) (memberAt X) g off inb hc h0 hs
  rwa [stack_members] at this

/-- Slice `h` of an array of eight members, loaded and its unit axis dropped, is member `h`. -/
theorem cast_ld_member {Val : EltTy → Type} {e : EltTy} {r : ℕ} {d : Fin r → ℕ} (X : (⟨r + 1, Matrix.vecCons 8 d⟩ : Shape).Idx → Val e) (g : Fin 8)
    (off : Fin (r + 1) → ℕ) (inb : ∀ a, off a + (Matrix.vecCons 1 d : Fin (r + 1) → ℕ) a ≤ (⟨r + 1, Matrix.vecCons 8 d⟩ : Shape).size a)
    (hc : (⟨r + 1, Matrix.vecCons 1 d⟩ : Shape).ShapeCasts ⟨r, d⟩) (h0 : off 0 = g.val) (hs : ∀ a : Fin r, off a.succ = 0) :
    shapeCast (⟨r, d⟩ : Shape) (View.ld (Val := Val) (e' := e) X (Rect.unit (s := ⟨r + 1, Matrix.vecCons 8 d⟩) off (Matrix.vecCons 1 d) inb)) hc
      = memberAt X g := by
  have hc' : (⟨r, d⟩ : Shape).ShapeCasts ⟨r + 1, Matrix.vecCons 1 d⟩ := hc.symm
  rw [ld_member X g off inb hc' h0 hs]
  exact shapeCast_shapeCast _ _ _

/-- The same with the slice's offsets spelt out. -/
theorem cast_ld_lit {Val : EltTy → Type} {e : EltTy} {a b n : ℕ} (X : (⟨3, ![8, a, b]⟩ : Shape).Idx → Val e)
    (inb : ∀ x, (![n, 0, 0] : Fin 3 → ℕ) x + (![1, a, b] : Fin 3 → ℕ) x ≤ (⟨3, ![8, a, b]⟩ : Shape).size x)
    (hc : (⟨3, ![1, a, b]⟩ : Shape).ShapeCasts ⟨2, ![a, b]⟩) :
    shapeCast (⟨2, ![a, b]⟩ : Shape) (View.ld (Val := Val) (e' := e) X (Rect.unit (s := ⟨3, ![8, a, b]⟩) ![n, 0, 0] ![1, a, b] inb)) hc
      = memberAt (G := 8) (d := ![a, b]) X ⟨n, inb 0⟩ :=
  cast_ld_member (d := ![a, b]) X ⟨n, inb 0⟩ ![n, 0, 0] inb hc rfl (fun c => by fin_cases c <;> rfl)

/-- A load from a whole buffer holding `X` reads `X` at the rectangle. -/
theorem readAt_unread' {sig : RefSig} {κ : Kind} {sp : Space} {s : Shape} {e : EltTy} {Val : EltTy → Type} {m : Memref sig κ sp s e}
    (h : m.IsWhole) (X : s.Idx → Val e) (r : Rect s) : m.view.readAt Val r.toLoadRect (h.unread X) = View.ld X r := by
  rw [View.readAt_eq_ld, h.read_unread]

/-- A load of key block `j`'s columns of head `h` is `kSl`. -/
theorem ld_kSl (K : Vec F S2048x1024 .bf16) (j : ℕ) (h : Fin 8) (off : Fin 2 → ℕ) (inb : ∀ a, off a + S256x128.size a ≤ S2048x1024.size a)
    (ho : off = ![256 * j, 128 * h.val]) : View.ld (Val := Elt F) (e' := .bf16) K (Rect.unit (s := S2048x1024) off S256x128.size inb) = kSl K j h := by
  subst ho
  have b0 : 256 * j + 256 ≤ 2048 := inb 0
  have b1 : 128 * h.val + 128 ≤ 1024 := inb 1
  funext x
  have x0 : (x 0).val < 256 := (x 0).isLt
  have x1 : (x 1).val < 128 := (x 1).isLt
  unfold kSl
  show K _ = K _
  congr 1
  funext a
  fin_cases a
  · refine Fin.ext ?_
    show 256 * j + 1 * (x 0).val = (256 * j + (x 0).val) % 2048
    omega
  · refine Fin.ext ?_
    show 128 * h.val + 1 * (x 1).val = (128 * h.val + (x 1).val) % 1024
    omega

/-- A load of value block `j`'s rows of head `h`, its unit axis dropped, is `vSl`. -/
theorem cast_ld_vSl (V : Vec F S8x512x256 .bf16) (j : ℕ) (h : Fin 8) (off : Fin 3 → ℕ) (inb : ∀ a, off a + S1x64x256.size a ≤ S8x512x256.size a)
    (hc : S1x64x256.ShapeCasts S64x256) (ho : off = ![j, 64 * h.val, 0]) :
    shapeCast S64x256 (View.ld (Val := Elt F) (e' := .bf16) V (Rect.unit (s := S8x512x256) off S1x64x256.size inb)) hc = vSl V j h := by
  subst ho
  have b0 : j + 1 ≤ 8 := inb 0
  have b1 : 64 * h.val + 64 ≤ 512 := inb 1
  have hc' : S64x256.ShapeCasts S1x64x256 := hc.symm
  have e : View.ld (Val := Elt F) (e' := .bf16) V (Rect.unit (s := S8x512x256) ![j, 64 * h.val, 0] S1x64x256.size inb)
      = shapeCast S1x64x256 (vSl V j h) hc' := by
    funext x
    have z0 : (x 0).val < 1 := (x 0).isLt
    have x1 : (x 1).val < 64 := (x 1).isLt
    have x2 : (x 2).val < 256 := (x 2).isLt
    refine Eq.trans ?_ (shapeCast_addUnit_apply ![64, 256] _ _ x).symm
    unfold vSl
    show V _ = V _
    congr 1
    funext a
    fin_cases a
    · refine Fin.ext ?_
      show j + 1 * (x 0).val = j % 8
      omega
    · refine Fin.ext ?_
      show 64 * h.val + 1 * (x 1).val = (64 * h.val + (x 1).val) % 512
      omega
    · refine Fin.ext ?_
      show 0 + 1 * (x 2).val = (x 2).val
      omega
  rw [e]
  exact shapeCast_shapeCast _ _ _

section
variable {sig : RefSig} {κ : Kind} {sp : Space} {Val : EltTy → Type} {e : EltTy} {a b : ℕ}

/-- Eight arrays stored under a unit axis each at its own index leave their stack, whatever was there. -/
theorem read_writes8 (v : View sig κ sp ⟨3, ![8, a, b]⟩ e) (f : v.ty.Contents Val) (g : Fin 8 → (⟨2, ![a, b]⟩ : Shape).Idx → Val e)
    (hc : (⟨2, ![a, b]⟩ : Shape).ShapeCasts ⟨3, ![1, a, b]⟩)
    (i0 : ∀ x, (![0, 0, 0] : Fin 3 → ℕ) x + (![1, a, b] : Fin 3 → ℕ) x ≤ (⟨3, ![8, a, b]⟩ : Shape).size x)
    (i1 : ∀ x, (![1, 0, 0] : Fin 3 → ℕ) x + (![1, a, b] : Fin 3 → ℕ) x ≤ (⟨3, ![8, a, b]⟩ : Shape).size x)
    (i2 : ∀ x, (![2, 0, 0] : Fin 3 → ℕ) x + (![1, a, b] : Fin 3 → ℕ) x ≤ (⟨3, ![8, a, b]⟩ : Shape).size x)
    (i3 : ∀ x, (![3, 0, 0] : Fin 3 → ℕ) x + (![1, a, b] : Fin 3 → ℕ) x ≤ (⟨3, ![8, a, b]⟩ : Shape).size x)
    (i4 : ∀ x, (![4, 0, 0] : Fin 3 → ℕ) x + (![1, a, b] : Fin 3 → ℕ) x ≤ (⟨3, ![8, a, b]⟩ : Shape).size x)
    (i5 : ∀ x, (![5, 0, 0] : Fin 3 → ℕ) x + (![1, a, b] : Fin 3 → ℕ) x ≤ (⟨3, ![8, a, b]⟩ : Shape).size x)
    (i6 : ∀ x, (![6, 0, 0] : Fin 3 → ℕ) x + (![1, a, b] : Fin 3 → ℕ) x ≤ (⟨3, ![8, a, b]⟩ : Shape).size x)
    (i7 : ∀ x, (![7, 0, 0] : Fin 3 → ℕ) x + (![1, a, b] : Fin 3 → ℕ) x ≤ (⟨3, ![8, a, b]⟩ : Shape).size x)
    (p0 p1 p2 p3 p4 p5 p6 p7 : (⟨3, ![1, a, b]⟩ : Shape).Idx → Val e)
    (h0 : p0 = shapeCast ⟨3, ![1, a, b]⟩ (g 0) hc) (h1 : p1 = shapeCast ⟨3, ![1, a, b]⟩ (g 1) hc)
    (h2 : p2 = shapeCast ⟨3, ![1, a, b]⟩ (g 2) hc) (h3 : p3 = shapeCast ⟨3, ![1, a, b]⟩ (g 3) hc)
    (h4 : p4 = shapeCast ⟨3, ![1, a, b]⟩ (g 4) hc) (h5 : p5 = shapeCast ⟨3, ![1, a, b]⟩ (g 5) hc)
    (h6 : p6 = shapeCast ⟨3, ![1, a, b]⟩ (g 6) hc) (h7 : p7 = shapeCast ⟨3, ![1, a, b]⟩ (g 7) hc) :
    v.read Val (v.writes Val f
      [⟨Rect.unit (s := ⟨3, ![8, a, b]⟩) ![7, 0, 0] ![1, a, b] i7, p7⟩, ⟨Rect.unit (s := ⟨3, ![8, a, b]⟩) ![6, 0, 0] ![1, a, b] i6, p6⟩,
       ⟨Rect.unit (s := ⟨3, ![8, a, b]⟩) ![5, 0, 0] ![1, a, b] i5, p5⟩, ⟨Rect.unit (s := ⟨3, ![8, a, b]⟩) ![4, 0, 0] ![1, a, b] i4, p4⟩,
       ⟨Rect.unit (s := ⟨3, ![8, a, b]⟩) ![3, 0, 0] ![1, a, b] i3, p3⟩, ⟨Rect.unit (s := ⟨3, ![8, a, b]⟩) ![2, 0, 0] ![1, a, b] i2, p2⟩,
       ⟨Rect.unit (s := ⟨3, ![8, a, b]⟩) ![1, 0, 0] ![1, a, b] i1, p1⟩, ⟨Rect.unit (s := ⟨3, ![8, a, b]⟩) ![0, 0, 0] ![1, a, b] i0, p0⟩])
      = stackAlong0 g := by
  subst h0 h1 h2 h3 h4 h5 h6 h7
  funext y
  refine View.read_writes_apply_of_pieces v f (stackAlong0 g) _ (fun p hp x => ?_) y ?_
  · simp only [List.mem_cons, List.not_mem_nil, or_false] at hp
    rcases hp with rfl | rfl | rfl | rfl | rfl | rfl | rfl | rfl
    · exact stack_piece_emb g 7 hc ![7, 0, 0] i7 rfl (fun c => by fin_cases c <;> rfl) x
    · exact stack_piece_emb g 6 hc ![6, 0, 0] i6 rfl (fun c => by fin_cases c <;> rfl) x
    · exact stack_piece_emb g 5 hc ![5, 0, 0] i5 rfl (fun c => by fin_cases c <;> rfl) x
    · exact stack_piece_emb g 4 hc ![4, 0, 0] i4 rfl (fun c => by fin_cases c <;> rfl) x
    · exact stack_piece_emb g 3 hc ![3, 0, 0] i3 rfl (fun c => by fin_cases c <;> rfl) x
    · exact stack_piece_emb g 2 hc ![2, 0, 0] i2 rfl (fun c => by fin_cases c <;> rfl) x
    · exact stack_piece_emb g 1 hc ![1, 0, 0] i1 rfl (fun c => by fin_cases c <;> rfl) x
    · exact stack_piece_emb g 0 hc ![0, 0, 0] i0 rfl (fun c => by fin_cases c <;> rfl) x
  · have hb : (y 0).val < 8 := (y 0).isLt
    have h1 : (y 1).val < a := (y 1).isLt
    have h2 : (y 2).val < b := (y 2).isLt
    have hm : ∀ (n : ℕ) (i : ∀ x, (![n, 0, 0] : Fin 3 → ℕ) x + (![1, a, b] : Fin 3 → ℕ) x ≤ (⟨3, ![8, a, b]⟩ : Shape).size x), (y 0).val = n →
        y ∈ (Rect.unit (s := ⟨3, ![8, a, b]⟩) ![n, 0, 0] ![1, a, b] i).set := by
      intro n i hn
      refine Rect.mem_set_unit.2 fun c => ?_
      fin_cases c
      · show n ≤ (y 0).val ∧ (y 0).val < n + 1; omega
      · show 0 ≤ (y 1).val ∧ (y 1).val < 0 + a; omega
      · show 0 ≤ (y 2).val ∧ (y 2).val < 0 + b; omega
    have : (y 0).val = 0 ∨ (y 0).val = 1 ∨ (y 0).val = 2 ∨ (y 0).val = 3 ∨ (y 0).val = 4 ∨ (y 0).val = 5 ∨ (y 0).val = 6 ∨ (y 0).val = 7 := by omega
    simp only [List.mem_cons, List.not_mem_nil, or_false, exists_eq_or_imp, exists_eq_left]
    rcases this with h | h | h | h | h | h | h | h
    · exact .inr (.inr (.inr (.inr (.inr (.inr (.inr (hm _ _ h)))))))
    · exact .inr (.inr (.inr (.inr (.inr (.inr (.inl (hm _ _ h)))))))
    · exact .inr (.inr (.inr (.inr (.inr (.inl (hm _ _ h))))))
    · exact .inr (.inr (.inr (.inr (.inl (hm _ _ h)))))
    · exact .inr (.inr (.inr (.inl (hm _ _ h))))
    · exact .inr (.inr (.inl (hm _ _ h)))
    · exact .inr (.inl (hm _ _ h))
    · exact .inl (hm _ _ h)

end

end Cert.KernelIdeal.Attn

end
-- ==== Proof.Trip.lean ====
/- One trip of the loop over the past key blocks: what it leaves in the running maximum, the running sum and the running
   weighted sum, from what they held before it. -/
module

public import proofs.«01_k».proof.Proof.Step

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.ShloMosaic.StackMember
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The contents of a memref's buffer on core `c`, -/
abbrev Bf (c : Dev nD) {S : Shape} {e : EltTy} (M : Memref sig .tc .vmem S e) : Type := Buf (Elt F) (M.view.loc (c : Thread nD τ))
/-- and the buffer held whole at some contents. -/
abbrev pt (c : Dev nD) {S : Shape} {e : EltTy} (M : Memref sig .tc .vmem S e) (f : Bf (F := F) c M) : sProp 𝕄 :=
  M.view.loc (c : Thread nD τ) ↦{fullShare} f

/-- The same, as the pipeline hands a staging buffer over: by its view's own elements. -/
abbrev pts (c : Dev nD) {S : Shape} {e : EltTy} (M : Memref sig .tc .vmem S e) (f : Bf (F := F) c M) : sProp 𝕄 :=
  M.view.loc (c : Thread nD τ) ↦[M.view.set]{fullShare} f

/-- The buffer held whole at contents that read `X`. -/
abbrev hold (c : Dev nD) {S : Shape} {e : EltTy} (M : Memref sig .tc .vmem S e) (X : Vec F S e) : sProp 𝕄 :=
  iprop(∃ f, ⌜M.view.read (Elt F) f = X⌝ ∗ pt c M f)

set_option maxHeartbeats 2000000 in
/-- One trip of the loop: from the keys, the transposed values and queries and the running state, key block `k`'s step. -/
theorem trip (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S2048x512 .bf16) (harg4 : arg4.IsWhole) (arg5 : Memref sig .tc .vmem S256x512 .f32) (harg5 : arg5.IsWhole) (arg6 : Memref sig .tc .vmem S8x512x256 .bf16) (harg6 : arg6.IsWhole) (arg7 : Memref sig .tc .vmem S8x128x256 .bf16) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x64x256 .f32) (harg11 : arg11.IsWhole) (arg12 : Memref sig .tc .vmem S8x256x256 .f32) (harg12 : arg12.IsWhole) (arg13 : Memref sig .tc .vmem S8x256x256 .bf16) (harg13 : arg13.IsWhole) (arg1 : BitVec 32) (v62 : FVec F S8x1x256 .f32)
    (k : Fin (k0_t1_loop i).trips) (K : Vec F S2048x1024 .bf16) (V : Vec F S8x512x256 .bf16) (Q : Vec F S8x128x256 .bf16)
    (M L : Vec F S8x1x256 .f32) (A : Vec F S8x64x256 .f32) (f10 : Bf (F := F) c arg10) (f12 : Bf (F := F) c arg12) (f13 : Bf (F := F) c arg13) :
    iprop(pts c arg3 (harg3.unread K) ∗ pt c arg6 (harg6.unread V) ∗ pt c arg7 (harg7.unread Q) ∗ pt c arg8 (harg8.unread M)
      ∗ pt c arg9 (harg9.unread L) ∗ pt c arg10 f10 ∗ pt c arg11 (harg11.unread A) ∗ pt c arg12 f12 ∗ pt c arg13 f13)
    ⊢ wp frame (wpE (defs₀ (F := F)) Variants.none c none) Set.univ (k0_t1_body (F := F) i arg2 harg2 arg3 harg3 arg4 harg4 arg5 harg5 arg6 harg6 arg7 harg7 arg8 harg8 arg9 harg9 arg10 harg10 arg11 harg11 arg12 harg12 arg13 harg13 arg1 v62 k ())
      (fun _ => iprop(pts c arg3 (harg3.unread K) ∗ pt c arg6 (harg6.unread V) ∗ pt c arg7 (harg7.unread Q)
        ∗ hold c arg8 (stepM (sAt K Q k.val) M)
        ∗ hold c arg9 (stepL (sAt K Q k.val) M L)
        ∗ (∃ f, pt c arg10 f)
        ∗ hold c arg11 (stepA (sAt K Q k.val) (vSl V k.val) M A)
        ∗ (∃ f, pt c arg12 f) ∗ (∃ f, pt c arg13 f))) := by
  unfold k0_t1_body
  iintro ⟨H3, H6, H7, H8, H9, H10, H11, H12, H13⟩
  sl_exec
  sl_step
  isplitl [H3]; · iexact H3
  isplitl [H6]; · iexact H6
  isplitl [H7]; · iexact H7
  isplitl [H8]
  · iexists _; isplitr; swap; · iexact H8
    ipureintro
    unfold stepM
    refine read_writes8 (Val := Elt F) (e := .f32) (a := 1) (b := 256) arg8.view _ (fun h : Fin 8 => mNew (sAt K Q k.val h) (memberAt M h)) shapeCasts_S1x256_S1x1x256
      _ _ _ _ _ _ _ _ _ _ _ _ _ _ _ _ ?_ ?_ ?_ ?_ ?_ ?_ ?_ ?_
    all_goals
      delta trip.sl.H10_8 trip.sl.H12_8 trip.sl.H13_8 trip.sl.cst_476 trip.sl.cst_542 trip.sl.cst_546 trip.sl.cst_731 trip.sl.r trip.sl.r_1
        trip.sl.v1002 trip.sl.v1003 trip.sl.v1004 trip.sl.v1005 trip.sl.v1006 trip.sl.v1007 trip.sl.v1008 trip.sl.v1011 trip.sl.v1012
        trip.sl.v1013 trip.sl.v1014 trip.sl.v1015 trip.sl.v1018 trip.sl.v1019 trip.sl.v1020 trip.sl.v1021 trip.sl.v1022 trip.sl.v1023
        trip.sl.v1024 trip.sl.v1027 trip.sl.v1028 trip.sl.v1029 trip.sl.v1030 trip.sl.v1031 trip.sl.v1034 trip.sl.v1035 trip.sl.v1036
        trip.sl.v1037 trip.sl.v1038 trip.sl.v1039 trip.sl.v1040 trip.sl.v1043 trip.sl.v1044 trip.sl.v1045 trip.sl.v1046 trip.sl.v1047
        trip.sl.v1050 trip.sl.v1051 trip.sl.v1052 trip.sl.v1053 trip.sl.v1054 trip.sl.v1055 trip.sl.v1056 trip.sl.v1060 trip.sl.v630
        trip.sl.v631 trip.sl.v633 trip.sl.v634 trip.sl.v638 trip.sl.v639 trip.sl.v640 trip.sl.v641 trip.sl.v642 trip.sl.v646 trip.sl.v647
        trip.sl.v648 trip.sl.v649 trip.sl.v650 trip.sl.v654 trip.sl.v655 trip.sl.v656 trip.sl.v657 trip.sl.v658 trip.sl.v662 trip.sl.v663
        trip.sl.v664 trip.sl.v665 trip.sl.v666 trip.sl.v670 trip.sl.v671 trip.sl.v672 trip.sl.v673 trip.sl.v674 trip.sl.v678 trip.sl.v679
        trip.sl.v680 trip.sl.v681 trip.sl.v682 trip.sl.v686 trip.sl.v687 trip.sl.v688 trip.sl.v689 trip.sl.v690 trip.sl.v691 trip.sl.v692
        trip.sl.v694 trip.sl.v695 trip.sl.v696 trip.sl.v697 trip.sl.v698 trip.sl.v699 trip.sl.v700 trip.sl.v701 trip.sl.v702 trip.sl.v704
        trip.sl.v705 trip.sl.v706 trip.sl.v707 trip.sl.v708 trip.sl.v711 trip.sl.v712 trip.sl.v714 trip.sl.v715 trip.sl.v717 trip.sl.v718
        trip.sl.v721 trip.sl.v722 trip.sl.v723 trip.sl.v724 trip.sl.v725 trip.sl.v726 trip.sl.v727 trip.sl.v728 trip.sl.v729 trip.sl.v730
        trip.sl.v731 trip.sl.v732 trip.sl.v733 trip.sl.v734 trip.sl.v735 trip.sl.v736 trip.sl.v737 trip.sl.v738 trip.sl.v739 trip.sl.v742
        trip.sl.v743 trip.sl.v744 trip.sl.v745 trip.sl.v746 trip.sl.v747 trip.sl.v748 trip.sl.v749 trip.sl.v752 trip.sl.v753 trip.sl.v754
        trip.sl.v755 trip.sl.v756 trip.sl.v757 trip.sl.v758 trip.sl.v759 trip.sl.v760 trip.sl.v761 trip.sl.v762 trip.sl.v763 trip.sl.v764
        trip.sl.v765 trip.sl.v766 trip.sl.v767 trip.sl.v768 trip.sl.v769 trip.sl.v770 trip.sl.v773 trip.sl.v774 trip.sl.v775 trip.sl.v776
        trip.sl.v777 trip.sl.v778 trip.sl.v779 trip.sl.v780 trip.sl.v783 trip.sl.v784 trip.sl.v785 trip.sl.v786 trip.sl.v787 trip.sl.v788
        trip.sl.v789 trip.sl.v790 trip.sl.v791 trip.sl.v792 trip.sl.v793 trip.sl.v794 trip.sl.v795 trip.sl.v796 trip.sl.v797 trip.sl.v798
        trip.sl.v799 trip.sl.v800 trip.sl.v801 trip.sl.v804 trip.sl.v805 trip.sl.v806 trip.sl.v807 trip.sl.v808 trip.sl.v809 trip.sl.v810
        trip.sl.v811 trip.sl.v814 trip.sl.v815 trip.sl.v816 trip.sl.v817 trip.sl.v818 trip.sl.v819 trip.sl.v820 trip.sl.v821 trip.sl.v822
        trip.sl.v823 trip.sl.v824 trip.sl.v825 trip.sl.v826 trip.sl.v827 trip.sl.v828 trip.sl.v829 trip.sl.v830 trip.sl.v831 trip.sl.v832
        trip.sl.v835 trip.sl.v836 trip.sl.v837 trip.sl.v838 trip.sl.v839 trip.sl.v840 trip.sl.v841 trip.sl.v842 trip.sl.v845 trip.sl.v846
        trip.sl.v847 trip.sl.v848 trip.sl.v849 trip.sl.v850 trip.sl.v851 trip.sl.v852 trip.sl.v853 trip.sl.v854 trip.sl.v855 trip.sl.v856
        trip.sl.v857 trip.sl.v858 trip.sl.v859 trip.sl.v860 trip.sl.v861 trip.sl.v862 trip.sl.v863 trip.sl.v866 trip.sl.v867 trip.sl.v868
        trip.sl.v869 trip.sl.v870 trip.sl.v871 trip.sl.v872 trip.sl.v873 trip.sl.v876 trip.sl.v877 trip.sl.v878 trip.sl.v879 trip.sl.v880
        trip.sl.v881 trip.sl.v882 trip.sl.v883 trip.sl.v884 trip.sl.v885 trip.sl.v886 trip.sl.v887 trip.sl.v888 trip.sl.v889 trip.sl.v890
        trip.sl.v891 trip.sl.v892 trip.sl.v893 trip.sl.v894 trip.sl.v897 trip.sl.v898 trip.sl.v899 trip.sl.v900 trip.sl.v901 trip.sl.v902
        trip.sl.v903 trip.sl.v904 trip.sl.v907 trip.sl.v908 trip.sl.v909 trip.sl.v910 trip.sl.v911 trip.sl.v912 trip.sl.v913 trip.sl.v914
        trip.sl.v915 trip.sl.v916 trip.sl.v917 trip.sl.v918 trip.sl.v919 trip.sl.v920 trip.sl.v921 trip.sl.v922 trip.sl.v923 trip.sl.v924
        trip.sl.v925 trip.sl.v928 trip.sl.v929 trip.sl.v930 trip.sl.v931 trip.sl.v932 trip.sl.v933 trip.sl.v934 trip.sl.v935 trip.sl.v938
        trip.sl.v939 trip.sl.v940 trip.sl.v942 trip.sl.v943 trip.sl.v944 trip.sl.v945 trip.sl.v947 trip.sl.v948 trip.sl.v949 trip.sl.v950
        trip.sl.v951 trip.sl.v954 trip.sl.v955 trip.sl.v956 trip.sl.v957 trip.sl.v958 trip.sl.v959 trip.sl.v960 trip.sl.v963 trip.sl.v964
        trip.sl.v965 trip.sl.v966 trip.sl.v967 trip.sl.v970 trip.sl.v971 trip.sl.v972 trip.sl.v973 trip.sl.v974 trip.sl.v975 trip.sl.v976
        trip.sl.v979 trip.sl.v980 trip.sl.v981 trip.sl.v982 trip.sl.v983 trip.sl.v986 trip.sl.v987 trip.sl.v988 trip.sl.v989 trip.sl.v990
        trip.sl.v991 trip.sl.v992 trip.sl.v995 trip.sl.v996 trip.sl.v997 trip.sl.v998 trip.sl.v999 k0_pay277
      simp (disch := decide) only [↓View.readCov_skip, View.readCov_cons_toLoadRect, readAt_unread', cast_ld_lit, shapeCast_shapeCast,
        ld_kSl K k.val 0 (k0_off1 i k) _ (k0_off1_eq i k), ld_kSl K k.val 1 (k0_off2 i k) _ (k0_off2_eq i k), ld_kSl K k.val 2 (k0_off3 i k) _ (k0_off3_eq i k), ld_kSl K k.val 3 (k0_off4 i k) _ (k0_off4_eq i k), ld_kSl K k.val 4 (k0_off5 i k) _ (k0_off5_eq i k), ld_kSl K k.val 5 (k0_off6 i k) _ (k0_off6_eq i k), ld_kSl K k.val 6 (k0_off7 i k) _ (k0_off7_eq i k), ld_kSl K k.val 7 (k0_off8 i k) _ (k0_off8_eq i k),
        cast_ld_vSl V k.val 0 (k0_off9 i k) _ _ (k0_off9_eq i k), cast_ld_vSl V k.val 1 (k0_off10 i k) _ _ (k0_off10_eq i k), cast_ld_vSl V k.val 2 (k0_off11 i k) _ _ (k0_off11_eq i k), cast_ld_vSl V k.val 3 (k0_off12 i k) _ _ (k0_off12_eq i k), cast_ld_vSl V k.val 4 (k0_off13 i k) _ _ (k0_off13_eq i k), cast_ld_vSl V k.val 5 (k0_off14 i k) _ _ (k0_off14_eq i k), cast_ld_vSl V k.val 6 (k0_off15 i k) _ _ (k0_off15_eq i k), cast_ld_vSl V k.val 7 (k0_off16 i k) _ _ (k0_off16_eq i k)]
      rfl
  isplitl [H9]
  · iexists _; isplitr; swap; · iexact H9
    ipureintro
    unfold stepL
    refine read_writes8 (Val := Elt F) (e := .f32) (a := 1) (b := 256) arg9.view _ (fun h : Fin 8 => lNew (sAt K Q k.val h) (memberAt M h) (memberAt L h)) shapeCasts_S1x256_S1x1x256
      _ _ _ _ _ _ _ _ _ _ _ _ _ _ _ _ ?_ ?_ ?_ ?_ ?_ ?_ ?_ ?_
    all_goals
      delta trip.sl.H10_8 trip.sl.H12_8 trip.sl.H13_8 trip.sl.cst_476 trip.sl.cst_542 trip.sl.cst_546 trip.sl.cst_731 trip.sl.r trip.sl.r_1
        trip.sl.v1002 trip.sl.v1003 trip.sl.v1004 trip.sl.v1005 trip.sl.v1006 trip.sl.v1007 trip.sl.v1008 trip.sl.v1011 trip.sl.v1012
        trip.sl.v1013 trip.sl.v1014 trip.sl.v1015 trip.sl.v1018 trip.sl.v1019 trip.sl.v1020 trip.sl.v1021 trip.sl.v1022 trip.sl.v1023
        trip.sl.v1024 trip.sl.v1027 trip.sl.v1028 trip.sl.v1029 trip.sl.v1030 trip.sl.v1031 trip.sl.v1034 trip.sl.v1035 trip.sl.v1036
        trip.sl.v1037 trip.sl.v1038 trip.sl.v1039 trip.sl.v1040 trip.sl.v1043 trip.sl.v1044 trip.sl.v1045 trip.sl.v1046 trip.sl.v1047
        trip.sl.v1050 trip.sl.v1051 trip.sl.v1052 trip.sl.v1053 trip.sl.v1054 trip.sl.v1055 trip.sl.v1056 trip.sl.v1060 trip.sl.v630
        trip.sl.v631 trip.sl.v633 trip.sl.v634 trip.sl.v638 trip.sl.v639 trip.sl.v640 trip.sl.v641 trip.sl.v642 trip.sl.v646 trip.sl.v647
        trip.sl.v648 trip.sl.v649 trip.sl.v650 trip.sl.v654 trip.sl.v655 trip.sl.v656 trip.sl.v657 trip.sl.v658 trip.sl.v662 trip.sl.v663
        trip.sl.v664 trip.sl.v665 trip.sl.v666 trip.sl.v670 trip.sl.v671 trip.sl.v672 trip.sl.v673 trip.sl.v674 trip.sl.v678 trip.sl.v679
        trip.sl.v680 trip.sl.v681 trip.sl.v682 trip.sl.v686 trip.sl.v687 trip.sl.v688 trip.sl.v689 trip.sl.v690 trip.sl.v691 trip.sl.v692
        trip.sl.v694 trip.sl.v695 trip.sl.v696 trip.sl.v697 trip.sl.v698 trip.sl.v699 trip.sl.v700 trip.sl.v701 trip.sl.v702 trip.sl.v704
        trip.sl.v705 trip.sl.v706 trip.sl.v707 trip.sl.v708 trip.sl.v711 trip.sl.v712 trip.sl.v714 trip.sl.v715 trip.sl.v717 trip.sl.v718
        trip.sl.v721 trip.sl.v722 trip.sl.v723 trip.sl.v724 trip.sl.v725 trip.sl.v726 trip.sl.v727 trip.sl.v728 trip.sl.v729 trip.sl.v730
        trip.sl.v731 trip.sl.v732 trip.sl.v733 trip.sl.v734 trip.sl.v735 trip.sl.v736 trip.sl.v737 trip.sl.v738 trip.sl.v739 trip.sl.v742
        trip.sl.v743 trip.sl.v744 trip.sl.v745 trip.sl.v746 trip.sl.v747 trip.sl.v748 trip.sl.v749 trip.sl.v752 trip.sl.v753 trip.sl.v754
        trip.sl.v755 trip.sl.v756 trip.sl.v757 trip.sl.v758 trip.sl.v759 trip.sl.v760 trip.sl.v761 trip.sl.v762 trip.sl.v763 trip.sl.v764
        trip.sl.v765 trip.sl.v766 trip.sl.v767 trip.sl.v768 trip.sl.v769 trip.sl.v770 trip.sl.v773 trip.sl.v774 trip.sl.v775 trip.sl.v776
        trip.sl.v777 trip.sl.v778 trip.sl.v779 trip.sl.v780 trip.sl.v783 trip.sl.v784 trip.sl.v785 trip.sl.v786 trip.sl.v787 trip.sl.v788
        trip.sl.v789 trip.sl.v790 trip.sl.v791 trip.sl.v792 trip.sl.v793 trip.sl.v794 trip.sl.v795 trip.sl.v796 trip.sl.v797 trip.sl.v798
        trip.sl.v799 trip.sl.v800 trip.sl.v801 trip.sl.v804 trip.sl.v805 trip.sl.v806 trip.sl.v807 trip.sl.v808 trip.sl.v809 trip.sl.v810
        trip.sl.v811 trip.sl.v814 trip.sl.v815 trip.sl.v816 trip.sl.v817 trip.sl.v818 trip.sl.v819 trip.sl.v820 trip.sl.v821 trip.sl.v822
        trip.sl.v823 trip.sl.v824 trip.sl.v825 trip.sl.v826 trip.sl.v827 trip.sl.v828 trip.sl.v829 trip.sl.v830 trip.sl.v831 trip.sl.v832
        trip.sl.v835 trip.sl.v836 trip.sl.v837 trip.sl.v838 trip.sl.v839 trip.sl.v840 trip.sl.v841 trip.sl.v842 trip.sl.v845 trip.sl.v846
        trip.sl.v847 trip.sl.v848 trip.sl.v849 trip.sl.v850 trip.sl.v851 trip.sl.v852 trip.sl.v853 trip.sl.v854 trip.sl.v855 trip.sl.v856
        trip.sl.v857 trip.sl.v858 trip.sl.v859 trip.sl.v860 trip.sl.v861 trip.sl.v862 trip.sl.v863 trip.sl.v866 trip.sl.v867 trip.sl.v868
        trip.sl.v869 trip.sl.v870 trip.sl.v871 trip.sl.v872 trip.sl.v873 trip.sl.v876 trip.sl.v877 trip.sl.v878 trip.sl.v879 trip.sl.v880
        trip.sl.v881 trip.sl.v882 trip.sl.v883 trip.sl.v884 trip.sl.v885 trip.sl.v886 trip.sl.v887 trip.sl.v888 trip.sl.v889 trip.sl.v890
        trip.sl.v891 trip.sl.v892 trip.sl.v893 trip.sl.v894 trip.sl.v897 trip.sl.v898 trip.sl.v899 trip.sl.v900 trip.sl.v901 trip.sl.v902
        trip.sl.v903 trip.sl.v904 trip.sl.v907 trip.sl.v908 trip.sl.v909 trip.sl.v910 trip.sl.v911 trip.sl.v912 trip.sl.v913 trip.sl.v914
        trip.sl.v915 trip.sl.v916 trip.sl.v917 trip.sl.v918 trip.sl.v919 trip.sl.v920 trip.sl.v921 trip.sl.v922 trip.sl.v923 trip.sl.v924
        trip.sl.v925 trip.sl.v928 trip.sl.v929 trip.sl.v930 trip.sl.v931 trip.sl.v932 trip.sl.v933 trip.sl.v934 trip.sl.v935 trip.sl.v938
        trip.sl.v939 trip.sl.v940 trip.sl.v942 trip.sl.v943 trip.sl.v944 trip.sl.v945 trip.sl.v947 trip.sl.v948 trip.sl.v949 trip.sl.v950
        trip.sl.v951 trip.sl.v954 trip.sl.v955 trip.sl.v956 trip.sl.v957 trip.sl.v958 trip.sl.v959 trip.sl.v960 trip.sl.v963 trip.sl.v964
        trip.sl.v965 trip.sl.v966 trip.sl.v967 trip.sl.v970 trip.sl.v971 trip.sl.v972 trip.sl.v973 trip.sl.v974 trip.sl.v975 trip.sl.v976
        trip.sl.v979 trip.sl.v980 trip.sl.v981 trip.sl.v982 trip.sl.v983 trip.sl.v986 trip.sl.v987 trip.sl.v988 trip.sl.v989 trip.sl.v990
        trip.sl.v991 trip.sl.v992 trip.sl.v995 trip.sl.v996 trip.sl.v997 trip.sl.v998 trip.sl.v999 k0_pay277
      simp (disch := decide) only [↓View.readCov_skip, View.readCov_cons_toLoadRect, readAt_unread', cast_ld_lit, shapeCast_shapeCast,
        ld_kSl K k.val 0 (k0_off1 i k) _ (k0_off1_eq i k), ld_kSl K k.val 1 (k0_off2 i k) _ (k0_off2_eq i k), ld_kSl K k.val 2 (k0_off3 i k) _ (k0_off3_eq i k), ld_kSl K k.val 3 (k0_off4 i k) _ (k0_off4_eq i k), ld_kSl K k.val 4 (k0_off5 i k) _ (k0_off5_eq i k), ld_kSl K k.val 5 (k0_off6 i k) _ (k0_off6_eq i k), ld_kSl K k.val 6 (k0_off7 i k) _ (k0_off7_eq i k), ld_kSl K k.val 7 (k0_off8 i k) _ (k0_off8_eq i k),
        cast_ld_vSl V k.val 0 (k0_off9 i k) _ _ (k0_off9_eq i k), cast_ld_vSl V k.val 1 (k0_off10 i k) _ _ (k0_off10_eq i k), cast_ld_vSl V k.val 2 (k0_off11 i k) _ _ (k0_off11_eq i k), cast_ld_vSl V k.val 3 (k0_off12 i k) _ _ (k0_off12_eq i k), cast_ld_vSl V k.val 4 (k0_off13 i k) _ _ (k0_off13_eq i k), cast_ld_vSl V k.val 5 (k0_off14 i k) _ _ (k0_off14_eq i k), cast_ld_vSl V k.val 6 (k0_off15 i k) _ _ (k0_off15_eq i k), cast_ld_vSl V k.val 7 (k0_off16 i k) _ _ (k0_off16_eq i k)]
      rfl
  isplitl [H10]; · iexists _; iexact H10
  isplitl [H11]
  · iexists _; isplitr; swap; · iexact H11
    ipureintro
    unfold stepA
    refine read_writes8 (Val := Elt F) (e := .f32) (a := 64) (b := 256) arg11.view _ (fun h : Fin 8 => accNew (sAt K Q k.val h) (memberAt M h) (memberAt A h) (vSl V k.val h))
      shapeCasts_S64x256_S1x64x256 _ _ _ _ _ _ _ _ _ _ _ _ _ _ _ _ ?_ ?_ ?_ ?_ ?_ ?_ ?_ ?_
    all_goals
      delta trip.sl.H10_8 trip.sl.H12_8 trip.sl.H13_8 trip.sl.cst_476 trip.sl.cst_542 trip.sl.cst_546 trip.sl.cst_731 trip.sl.r trip.sl.r_1
        trip.sl.v1002 trip.sl.v1003 trip.sl.v1004 trip.sl.v1005 trip.sl.v1006 trip.sl.v1007 trip.sl.v1008 trip.sl.v1011 trip.sl.v1012
        trip.sl.v1013 trip.sl.v1014 trip.sl.v1015 trip.sl.v1018 trip.sl.v1019 trip.sl.v1020 trip.sl.v1021 trip.sl.v1022 trip.sl.v1023
        trip.sl.v1024 trip.sl.v1027 trip.sl.v1028 trip.sl.v1029 trip.sl.v1030 trip.sl.v1031 trip.sl.v1034 trip.sl.v1035 trip.sl.v1036
        trip.sl.v1037 trip.sl.v1038 trip.sl.v1039 trip.sl.v1040 trip.sl.v1043 trip.sl.v1044 trip.sl.v1045 trip.sl.v1046 trip.sl.v1047
        trip.sl.v1050 trip.sl.v1051 trip.sl.v1052 trip.sl.v1053 trip.sl.v1054 trip.sl.v1055 trip.sl.v1056 trip.sl.v1060 trip.sl.v630
        trip.sl.v631 trip.sl.v633 trip.sl.v634 trip.sl.v638 trip.sl.v639 trip.sl.v640 trip.sl.v641 trip.sl.v642 trip.sl.v646 trip.sl.v647
        trip.sl.v648 trip.sl.v649 trip.sl.v650 trip.sl.v654 trip.sl.v655 trip.sl.v656 trip.sl.v657 trip.sl.v658 trip.sl.v662 trip.sl.v663
        trip.sl.v664 trip.sl.v665 trip.sl.v666 trip.sl.v670 trip.sl.v671 trip.sl.v672 trip.sl.v673 trip.sl.v674 trip.sl.v678 trip.sl.v679
        trip.sl.v680 trip.sl.v681 trip.sl.v682 trip.sl.v686 trip.sl.v687 trip.sl.v688 trip.sl.v689 trip.sl.v690 trip.sl.v691 trip.sl.v692
        trip.sl.v694 trip.sl.v695 trip.sl.v696 trip.sl.v697 trip.sl.v698 trip.sl.v699 trip.sl.v700 trip.sl.v701 trip.sl.v702 trip.sl.v704
        trip.sl.v705 trip.sl.v706 trip.sl.v707 trip.sl.v708 trip.sl.v711 trip.sl.v712 trip.sl.v714 trip.sl.v715 trip.sl.v717 trip.sl.v718
        trip.sl.v721 trip.sl.v722 trip.sl.v723 trip.sl.v724 trip.sl.v725 trip.sl.v726 trip.sl.v727 trip.sl.v728 trip.sl.v729 trip.sl.v730
        trip.sl.v731 trip.sl.v732 trip.sl.v733 trip.sl.v734 trip.sl.v735 trip.sl.v736 trip.sl.v737 trip.sl.v738 trip.sl.v739 trip.sl.v742
        trip.sl.v743 trip.sl.v744 trip.sl.v745 trip.sl.v746 trip.sl.v747 trip.sl.v748 trip.sl.v749 trip.sl.v752 trip.sl.v753 trip.sl.v754
        trip.sl.v755 trip.sl.v756 trip.sl.v757 trip.sl.v758 trip.sl.v759 trip.sl.v760 trip.sl.v761 trip.sl.v762 trip.sl.v763 trip.sl.v764
        trip.sl.v765 trip.sl.v766 trip.sl.v767 trip.sl.v768 trip.sl.v769 trip.sl.v770 trip.sl.v773 trip.sl.v774 trip.sl.v775 trip.sl.v776
        trip.sl.v777 trip.sl.v778 trip.sl.v779 trip.sl.v780 trip.sl.v783 trip.sl.v784 trip.sl.v785 trip.sl.v786 trip.sl.v787 trip.sl.v788
        trip.sl.v789 trip.sl.v790 trip.sl.v791 trip.sl.v792 trip.sl.v793 trip.sl.v794 trip.sl.v795 trip.sl.v796 trip.sl.v797 trip.sl.v798
        trip.sl.v799 trip.sl.v800 trip.sl.v801 trip.sl.v804 trip.sl.v805 trip.sl.v806 trip.sl.v807 trip.sl.v808 trip.sl.v809 trip.sl.v810
        trip.sl.v811 trip.sl.v814 trip.sl.v815 trip.sl.v816 trip.sl.v817 trip.sl.v818 trip.sl.v819 trip.sl.v820 trip.sl.v821 trip.sl.v822
        trip.sl.v823 trip.sl.v824 trip.sl.v825 trip.sl.v826 trip.sl.v827 trip.sl.v828 trip.sl.v829 trip.sl.v830 trip.sl.v831 trip.sl.v832
        trip.sl.v835 trip.sl.v836 trip.sl.v837 trip.sl.v838 trip.sl.v839 trip.sl.v840 trip.sl.v841 trip.sl.v842 trip.sl.v845 trip.sl.v846
        trip.sl.v847 trip.sl.v848 trip.sl.v849 trip.sl.v850 trip.sl.v851 trip.sl.v852 trip.sl.v853 trip.sl.v854 trip.sl.v855 trip.sl.v856
        trip.sl.v857 trip.sl.v858 trip.sl.v859 trip.sl.v860 trip.sl.v861 trip.sl.v862 trip.sl.v863 trip.sl.v866 trip.sl.v867 trip.sl.v868
        trip.sl.v869 trip.sl.v870 trip.sl.v871 trip.sl.v872 trip.sl.v873 trip.sl.v876 trip.sl.v877 trip.sl.v878 trip.sl.v879 trip.sl.v880
        trip.sl.v881 trip.sl.v882 trip.sl.v883 trip.sl.v884 trip.sl.v885 trip.sl.v886 trip.sl.v887 trip.sl.v888 trip.sl.v889 trip.sl.v890
        trip.sl.v891 trip.sl.v892 trip.sl.v893 trip.sl.v894 trip.sl.v897 trip.sl.v898 trip.sl.v899 trip.sl.v900 trip.sl.v901 trip.sl.v902
        trip.sl.v903 trip.sl.v904 trip.sl.v907 trip.sl.v908 trip.sl.v909 trip.sl.v910 trip.sl.v911 trip.sl.v912 trip.sl.v913 trip.sl.v914
        trip.sl.v915 trip.sl.v916 trip.sl.v917 trip.sl.v918 trip.sl.v919 trip.sl.v920 trip.sl.v921 trip.sl.v922 trip.sl.v923 trip.sl.v924
        trip.sl.v925 trip.sl.v928 trip.sl.v929 trip.sl.v930 trip.sl.v931 trip.sl.v932 trip.sl.v933 trip.sl.v934 trip.sl.v935 trip.sl.v938
        trip.sl.v939 trip.sl.v940 trip.sl.v942 trip.sl.v943 trip.sl.v944 trip.sl.v945 trip.sl.v947 trip.sl.v948 trip.sl.v949 trip.sl.v950
        trip.sl.v951 trip.sl.v954 trip.sl.v955 trip.sl.v956 trip.sl.v957 trip.sl.v958 trip.sl.v959 trip.sl.v960 trip.sl.v963 trip.sl.v964
        trip.sl.v965 trip.sl.v966 trip.sl.v967 trip.sl.v970 trip.sl.v971 trip.sl.v972 trip.sl.v973 trip.sl.v974 trip.sl.v975 trip.sl.v976
        trip.sl.v979 trip.sl.v980 trip.sl.v981 trip.sl.v982 trip.sl.v983 trip.sl.v986 trip.sl.v987 trip.sl.v988 trip.sl.v989 trip.sl.v990
        trip.sl.v991 trip.sl.v992 trip.sl.v995 trip.sl.v996 trip.sl.v997 trip.sl.v998 trip.sl.v999 k0_pay277
      simp (disch := decide) only [↓View.readCov_skip, View.readCov_cons_toLoadRect, readAt_unread', cast_ld_lit, shapeCast_shapeCast,
        ld_kSl K k.val 0 (k0_off1 i k) _ (k0_off1_eq i k), ld_kSl K k.val 1 (k0_off2 i k) _ (k0_off2_eq i k), ld_kSl K k.val 2 (k0_off3 i k) _ (k0_off3_eq i k), ld_kSl K k.val 3 (k0_off4 i k) _ (k0_off4_eq i k), ld_kSl K k.val 4 (k0_off5 i k) _ (k0_off5_eq i k), ld_kSl K k.val 5 (k0_off6 i k) _ (k0_off6_eq i k), ld_kSl K k.val 6 (k0_off7 i k) _ (k0_off7_eq i k), ld_kSl K k.val 7 (k0_off8 i k) _ (k0_off8_eq i k),
        cast_ld_vSl V k.val 0 (k0_off9 i k) _ _ (k0_off9_eq i k), cast_ld_vSl V k.val 1 (k0_off10 i k) _ _ (k0_off10_eq i k), cast_ld_vSl V k.val 2 (k0_off11 i k) _ _ (k0_off11_eq i k), cast_ld_vSl V k.val 3 (k0_off12 i k) _ _ (k0_off12_eq i k), cast_ld_vSl V k.val 4 (k0_off13 i k) _ _ (k0_off13_eq i k), cast_ld_vSl V k.val 5 (k0_off14 i k) _ _ (k0_off14_eq i k), cast_ld_vSl V k.val 6 (k0_off15 i k) _ _ (k0_off15_eq i k), cast_ld_vSl V k.val 7 (k0_off16 i k) _ _ (k0_off16_eq i k)]
      rfl
  isplitl [H12]; · iexists _; iexact H12
  iexists _; iexact H13

end Cert.KernelIdeal.Attn

end
-- ==== Proof.Block.lean ====
/- A query block's outcome: the transposed queries and values, the running state after `k` key blocks, the masked
   block on the diagonal, and the block of the result. -/
module

public import proofs.«01_k».proof.Proof.Step

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.ShloMosaic.StackMember
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The values transposed, key block by key block: entry `(j, a, b)` is value row `256 j + b`, column `a`. -/
def vtOf (V : Vec F S2048x512 .bf16) : Vec F S8x512x256 .bf16 := fun y =>
  truncf .bf16 (extf .f32 V bitsLt_bf16_f32) bitsLt_bf16_f32 (fun a => match a with
    | ⟨0, _⟩ => ⟨(256 * (y 0).val + (y 2).val) % 2048, Nat.mod_lt _ (by decide)⟩
    | ⟨1, _⟩ => y 1
    | ⟨_ + 2, h⟩ => absurd h (Nat.not_lt.2 (Nat.le_add_left _ _)))

/-- The queries of head `h`, transposed: entry `(a, b)` is query row `b`, column `128 h + a`. -/
def qT (q : Vec F S256x1024 .bf16) (h : Fin 8) : Vec F S128x256 .bf16 := fun x =>
  truncf .bf16 (extf .f32 q bitsLt_bf16_f32) bitsLt_bf16_f32 (fun a => match a with
    | ⟨0, _⟩ => x 1
    | ⟨1, _⟩ => ⟨(128 * h.val + (x 0).val) % 1024, Nat.mod_lt _ (by decide)⟩
    | ⟨_ + 2, h⟩ => absurd h (Nat.not_lt.2 (Nat.le_add_left _ _)))

/-- The transposed queries of the eight heads. -/
def qtOf (q : Vec F S256x1024 .bf16) : Vec F S8x128x256 .bf16 := stackAlong0 (qT q)

/-- The mask of the diagonal block: a key of the block after the query scores minus infinity. -/
def maskS (s : FVec F S256x256 .f32) : FVec F S256x256 .f32 :=
  select (cmpi .sle (iota .tc S256x256 32 [0] iota_S256x256_d0_w32) (iota .tc S256x256 32 [1] iota_S256x256_d1_w32)) s
    (broadcast S256x256 (Named.named κ "mask" 0xF149F2CA#32))

/-- The running maxima after `k` key blocks, -/
def mS (K : Vec F S2048x1024 .bf16) (Q : Vec F S8x128x256 .bf16) : ℕ → Vec F S8x1x256 .f32
  | 0 => k0_pay274
  | k + 1 => stepM (sAt K Q k) (mS K Q k)

/-- the running sums of weights, -/
def lS (K : Vec F S2048x1024 .bf16) (Q : Vec F S8x128x256 .bf16) : ℕ → Vec F S8x1x256 .f32
  | 0 => k0_pay275
  | k + 1 => stepL (sAt K Q k) (mS K Q k) (lS K Q k)

/-- and the running weighted sums of values. -/
def aS (K : Vec F S2048x1024 .bf16) (Q : Vec F S8x128x256 .bf16) (V : Vec F S8x512x256 .bf16) : ℕ → Vec F S8x64x256 .f32
  | 0 => k0_pay276
  | k + 1 => stepA (sAt K Q k) (vSl V k) (mS K Q k) (aS K Q V k)

/-- One head's weighted mean. -/
def meanH (l : FVec F S1x256 .f32) (a : FVec F S64x256 .f32) : FVec F S64x256 .f32 :=
  mulf a (broadcastTo S64x256 (divf (broadcast S1x256 (Scalar.ofBits .f32 0x3F800000#32)) l) broadcasts_S1x256_S64x256)

/-- The block of the result: the heads' weighted means side by side, transposed back. -/
def outBlk (L : Fin 8 → FVec F S1x256 .f32) (A : Fin 8 → FVec F S64x256 .f32) : Vec F S256x512 .f32 :=
  transpose S256x512 [1, 0]
    (concatenate S512x256 0 [⟨S64x256, meanH (L 0) (A 0)⟩, ⟨S64x256, meanH (L 1) (A 1)⟩, ⟨S64x256, meanH (L 2) (A 2)⟩,
      ⟨S64x256, meanH (L 3) (A 3)⟩, ⟨S64x256, meanH (L 4) (A 4)⟩, ⟨S64x256, meanH (L 5) (A 5)⟩, ⟨S64x256, meanH (L 6) (A 6)⟩,
      ⟨S64x256, meanH (L 7) (A 7)⟩] concatenates_S64x256_S64x256_S64x256_S64x256_S64x256_S64x256_S64x256_S64x256_S512x256_d0)
    transposes_S512x256_p1_0_S256x512

/-- Eight means side by side, transposed back, are the block. -/
theorem outBlk_congr (L : Fin 8 → FVec F S1x256 .f32) (A : Fin 8 → FVec F S64x256 .f32) (a0 a1 a2 a3 a4 a5 a6 a7 : FVec F S64x256 .f32)
    (h0 : a0 = meanH (L 0) (A 0)) (h1 : a1 = meanH (L 1) (A 1)) (h2 : a2 = meanH (L 2) (A 2)) (h3 : a3 = meanH (L 3) (A 3))
    (h4 : a4 = meanH (L 4) (A 4)) (h5 : a5 = meanH (L 5) (A 5)) (h6 : a6 = meanH (L 6) (A 6)) (h7 : a7 = meanH (L 7) (A 7)) :
    transpose S256x512 [1, 0]
      (concatenate S512x256 0 [⟨S64x256, a0⟩, ⟨S64x256, a1⟩, ⟨S64x256, a2⟩, ⟨S64x256, a3⟩, ⟨S64x256, a4⟩, ⟨S64x256, a5⟩, ⟨S64x256, a6⟩,
        ⟨S64x256, a7⟩] concatenates_S64x256_S64x256_S64x256_S64x256_S64x256_S64x256_S64x256_S64x256_S512x256_d0)
      transposes_S512x256_p1_0_S256x512 = outBlk L A := by
  subst h0 h1 h2 h3 h4 h5 h6 h7
  rfl

/-- What the body computes at a query block, from its queries, the batch's keys and the transposed values. -/
def bodyOut (i : grid0.Coords) (q : Vec F S256x1024 .bf16) (K : Vec F S2048x1024 .bf16) (V : Vec F S8x512x256 .bf16) : Vec F S256x512 .f32 :=
  outBlk
    (fun h => lNew (maskS (sAt K (qtOf q) (i 1).val h)) (memberAt (mS K (qtOf q) (k0_t1_loop i).trips) h) (memberAt (lS K (qtOf q) (k0_t1_loop i).trips) h))
    (fun h => accNew (maskS (sAt K (qtOf q) (i 1).val h)) (memberAt (mS K (qtOf q) (k0_t1_loop i).trips) h)
      (memberAt (aS K (qtOf q) V (k0_t1_loop i).trips) h) (vSl V (i 1).val h))

/-! ## What is stored, slice by slice -/

/-- A transposed slice of the queries, under a unit axis, is head `h`'s. -/
theorem pay_qT (q : Vec F S256x1024 .bf16) (h : Fin 8) (off : Fin 2 → ℕ) (inb : ∀ a, off a + S256x128.size a ≤ S256x1024.size a)
    (ho : off = ![0, 128 * h.val]) :
    shapeCast S1x128x256 (truncf .bf16 (transpose S128x256 [1, 0] (extf .f32 (View.ld (Val := Elt F) (e' := .bf16) q (Rect.unit (s := S256x1024) off S256x128.size inb)) bitsLt_bf16_f32)
        transposes_S256x128_p1_0_S128x256) bitsLt_bf16_f32) shapeCasts_S128x256_S1x128x256
      = shapeCast S1x128x256 (qT q h) shapeCasts_S128x256_S1x128x256 := by
  subst ho
  have b1 : 128 * h.val + 128 ≤ 1024 := inb 1
  congr 1
  funext x
  have x0 : (x 0).val < 128 := (x 0).isLt
  have x1 : (x 1).val < 256 := (x 1).isLt
  unfold qT
  show truncf .bf16 (extf .f32 q bitsLt_bf16_f32) bitsLt_bf16_f32 _ = truncf .bf16 (extf .f32 q bitsLt_bf16_f32) bitsLt_bf16_f32 _
  congr 1
  funext a
  fin_cases a
  · refine Fin.ext ?_
    show 0 + 1 * (x 1).val = (x 1).val
    omega
  · refine Fin.ext ?_
    show 128 * h.val + 1 * (x 0).val = (128 * h.val + (x 0).val) % 1024
    omega

/-- A transposed 128 × 128 tile of the values, under a unit axis, is where it is stored a tile of `vtOf`. -/
theorem pay_vt (V : Vec F S2048x512 .bf16) (r g c : ℕ) (j : ℕ) (inb : ∀ a, (![r, g] : Fin 2 → ℕ) a + S128x128.size a ≤ S2048x512.size a)
    (inb' : ∀ a, (![j, g, c] : Fin 3 → ℕ) a + S1x128x128.size a ≤ S8x512x256.size a) (hr : r = 256 * j + c) (x : S1x128x128.Idx) :
    shapeCast S1x128x128 (truncf .bf16 (transpose S128x128 [1, 0] (extf .f32 (View.ld (Val := Elt F) (e' := .bf16) V (Rect.unit (s := S2048x512) ![r, g] S128x128.size inb)) bitsLt_bf16_f32)
        transposes_S128x128_p1_0_S128x128) bitsLt_bf16_f32) shapeCasts_S128x128_S1x128x128 x
      = vtOf V ((Rect.unit (s := S8x512x256) ![j, g, c] S1x128x128.size inb').emb x) := by
  subst hr
  have b0 : 256 * j + c + 128 ≤ 2048 := inb 0
  have b2 : c + 128 ≤ 256 := inb' 2
  have x0 : (x 0).val < 1 := (x 0).isLt
  have x1 : (x 1).val < 128 := (x 1).isLt
  have x2 : (x 2).val < 128 := (x 2).isLt
  refine (shapeCast_addUnit_apply ![128, 128] _ _ x).trans ?_
  unfold vtOf
  show truncf .bf16 (extf .f32 V bitsLt_bf16_f32) bitsLt_bf16_f32 _ = truncf .bf16 (extf .f32 V bitsLt_bf16_f32) bitsLt_bf16_f32 _
  congr 1
  funext a
  fin_cases a
  · refine Fin.ext ?_
    show 256 * j + c + 1 * (x 2).val = (256 * (j + 1 * (x 0).val) + (c + 1 * (x 2).val)) % 2048
    omega
  · refine Fin.ext ?_
    show g + 1 * (x 1).val = g + 1 * (x 1).val
    rfl

/-- The tiles, one at each member, each row tile and each column tile, cover the transposed values. -/
theorem cover_vt (L : List (View.Piece (Elt F) S8x512x256 .bf16))
    (hL : ∀ (j : Fin 8) (g : Fin 4) (c : Fin 2), ∃ (h : 63 - (8 * j.val + 4 * c.val + g.val) < L.length) (inb : _), (L[63 - (8 * j.val + 4 * c.val + g.val)]).1 = Rect.unit (s := S8x512x256) ![j.val, 128 * g.val, 128 * c.val] S1x128x128.size inb)
    (y : S8x512x256.Idx) : ∃ p ∈ L, y ∈ p.1.set := by
  have y0 : (y 0).val < 8 := (y 0).isLt
  have y1 : (y 1).val < 512 := (y 1).isLt
  have y2 : (y 2).val < 256 := (y 2).isLt
  obtain ⟨hp, inb, e⟩ := hL ⟨(y 0).val, y0⟩ ⟨(y 1).val / 128, by omega⟩ ⟨(y 2).val / 128, by omega⟩
  refine ⟨_, List.getElem_mem hp, ?_⟩
  rw [e, Rect.mem_set_unit]
  intro a
  fin_cases a
  · show (y 0).val ≤ (y 0).val ∧ (y 0).val < (y 0).val + 1
    omega
  · show 128 * ((y 1).val / 128) ≤ (y 1).val ∧ (y 1).val < 128 * ((y 1).val / 128) + 128
    omega
  · show 128 * ((y 2).val / 128) ≤ (y 2).val ∧ (y 2).val < 128 * ((y 2).val / 128) + 128
    omega

/-- What is read back of stores is read of what they leave. -/
theorem readCov_of_read {sig : RefSig} {κ : Kind} {sp : Space} {s : Shape} {e : EltTy} (v : View sig κ sp s e) (L : List (View.Piece (Elt F) s e))
    (X : s.Idx → Elt F e) (h : v.read (Elt F) (v.writes (Elt F) v.junk L) = X) (r : Rect s) : v.readCov L r.toLoadRect = View.ld X r := by
  rw [View.readCov_eq_canon', ← h, View.read_writes_junk_eq_canon]

/-- Writes that are blocks of `G` and cover leave `G`. -/
theorem read_of_pieces {sig : RefSig} {κ : Kind} {sp : Space} {s : Shape} {e : EltTy} (v : View sig κ sp s e) (f : v.ty.Contents (Elt F)) (G : s.Idx → Elt F e)
    (L : List (View.Piece (Elt F) s e)) (h : View.PiecesOf G L) (hc : ∀ y, ∃ p ∈ L, y ∈ p.1.set) : v.read (Elt F) (v.writes (Elt F) f L) = G := by
  funext y
  rw [View.read_writes_eq_canon v f L hc]
  have := View.canon_append_of_piecesOf G [] L h y (hc y)
  rwa [List.append_nil] at this

end Cert.KernelIdeal.Attn

end
-- ==== Proof.Loop.lean ====
/- The loop over the past key blocks: its invariant is the running maximum, sum and weighted sum after `k` blocks. -/
module

public import proofs.«01_k».proof.Proof.Trip
public import proofs.«01_k».proof.Proof.Block

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.ShloMosaic.StackMember
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

section
variable (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S2048x512 .bf16) (harg4 : arg4.IsWhole) (arg5 : Memref sig .tc .vmem S256x512 .f32) (harg5 : arg5.IsWhole) (arg6 : Memref sig .tc .vmem S8x512x256 .bf16) (harg6 : arg6.IsWhole) (arg7 : Memref sig .tc .vmem S8x128x256 .bf16) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x64x256 .f32) (harg11 : arg11.IsWhole) (arg12 : Memref sig .tc .vmem S8x256x256 .f32) (harg12 : arg12.IsWhole) (arg13 : Memref sig .tc .vmem S8x256x256 .bf16) (harg13 : arg13.IsWhole) (arg1 : BitVec 32) (v62 : FVec F S8x1x256 .f32)

theorem exists_unread {S : Shape} {e : EltTy} (A : Memref sig .tc .vmem S e) (hA : A.IsWhole) (f : Bf (F := F) c A) :
    ∃ X, f = hA.unread X := ⟨_, hA.eq_unread rfl⟩

/-- One trip, over the buffers' contents. -/
theorem tripR (k : Fin (k0_t1_loop i).trips) (f3 : Bf (F := F) c arg3) (f6 : Bf (F := F) c arg6) (f7 : Bf (F := F) c arg7) (f8 : Bf (F := F) c arg8)
    (f9 : Bf (F := F) c arg9) (f10 : Bf (F := F) c arg10) (f11 : Bf (F := F) c arg11) (f12 : Bf (F := F) c arg12) (f13 : Bf (F := F) c arg13) :
    iprop(pts c arg3 f3 ∗ pt c arg6 f6 ∗ pt c arg7 f7 ∗ pt c arg8 f8 ∗ pt c arg9 f9 ∗ pt c arg10 f10 ∗ pt c arg11 f11 ∗ pt c arg12 f12 ∗ pt c arg13 f13)
    ⊢ wp frame (wpE (defs₀ (F := F)) Variants.none c none) Set.univ (k0_t1_body (F := F) i arg2 harg2 arg3 harg3 arg4 harg4 arg5 harg5 arg6 harg6 arg7 harg7 arg8 harg8 arg9 harg9 arg10 harg10 arg11 harg11 arg12 harg12 arg13 harg13 arg1 v62 k ())
      (fun _ => iprop(pts c arg3 f3 ∗ pt c arg6 f6 ∗ pt c arg7 f7
        ∗ pt c arg8 (harg8.unread (stepM (sAt (arg3.view.read (Elt F) f3) (arg7.view.read (Elt F) f7) k.val) (arg8.view.read (Elt F) f8)))
        ∗ pt c arg9 (harg9.unread (stepL (sAt (arg3.view.read (Elt F) f3) (arg7.view.read (Elt F) f7) k.val) (arg8.view.read (Elt F) f8) (arg9.view.read (Elt F) f9)))
        ∗ (∃ f, pt c arg10 f)
        ∗ pt c arg11 (harg11.unread (stepA (sAt (arg3.view.read (Elt F) f3) (arg7.view.read (Elt F) f7) k.val) (vSl (arg6.view.read (Elt F) f6) k.val)
            (arg8.view.read (Elt F) f8) (arg11.view.read (Elt F) f11)))
        ∗ (∃ f, pt c arg12 f) ∗ (∃ f, pt c arg13 f))) := by
  obtain ⟨K, rfl⟩ := exists_unread c arg3 harg3 f3
  obtain ⟨V, rfl⟩ := exists_unread c arg6 harg6 f6
  obtain ⟨Q, rfl⟩ := exists_unread c arg7 harg7 f7
  obtain ⟨M, rfl⟩ := exists_unread c arg8 harg8 f8
  obtain ⟨L, rfl⟩ := exists_unread c arg9 harg9 f9
  obtain ⟨A, rfl⟩ := exists_unread c arg11 harg11 f11
  simp only [Memref.IsWhole.read_unread]
  iintro H
  iapply (wp_wand_r Idealize.ShloMosaic.frame (wpE (defs₀ (F := F)) Variants.none (c : Thread nD τ) none) Set.univ)
  isplitl [H]
  · iapply trip c i arg2 harg2 arg3 harg3 arg4 harg4 arg5 harg5 arg6 harg6 arg7 harg7 arg8 harg8 arg9 harg9 arg10 harg10 arg11 harg11 arg12 harg12 arg13 harg13 arg1 v62 k K V Q M L A f10 f12 f13; iexact H
  · iintro %_ ⟨H3, H6, H7, ⟨%g8, %h8, H8⟩, ⟨%g9, %h9, H9⟩, H10, ⟨%g11, %h11, H11⟩, H12, H13⟩
    obtain rfl := harg8.eq_unread h8
    obtain rfl := harg9.eq_unread h9
    obtain rfl := harg11.eq_unread h11
    isplitl [H3]; · iexact H3
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

variable (X3 : Bf (F := F) c arg3) (X6 : Bf (F := F) c arg6) (X7 : Bf (F := F) c arg7) (G8 : Bf (F := F) c arg8) (G9 : Bf (F := F) c arg9) (G11 : Bf (F := F) c arg11)

/-- The running maximum's buffer after `k` blocks, -/
def mB : ℕ → Bf (F := F) c arg8
  | 0 => G8
  | k + 1 => harg8.unread (stepM (sAt (arg3.view.read (Elt F) X3) (arg7.view.read (Elt F) X7) k) (arg8.view.read (Elt F) (mB k)))

/-- the running sum's, -/
def lB : ℕ → Bf (F := F) c arg9
  | 0 => G9
  | k + 1 => harg9.unread (stepL (sAt (arg3.view.read (Elt F) X3) (arg7.view.read (Elt F) X7) k)
      (arg8.view.read (Elt F) (mB c arg3 arg7 arg8 harg8 X3 X7 G8 k)) (arg9.view.read (Elt F) (lB k)))

/-- and the running weighted sum's. -/
def aB : ℕ → Bf (F := F) c arg11
  | 0 => G11
  | k + 1 => harg11.unread (stepA (sAt (arg3.view.read (Elt F) X3) (arg7.view.read (Elt F) X7) k) (vSl (arg6.view.read (Elt F) X6) k)
      (arg8.view.read (Elt F) (mB c arg3 arg7 arg8 harg8 X3 X7 G8 k)) (arg11.view.read (Elt F) (aB k)))

set_option warn.classDefReducibility false in
/-- The loop's invariant. -/
@[sl_loop] def loopInv1 :
    Gen.LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg1 v62 where
  inv k _ := iprop(pts c arg3 X3 ∗ pt c arg6 X6 ∗ pt c arg7 X7 ∗ pt c arg8 (mB c arg3 arg7 arg8 harg8 X3 X7 G8 k)
    ∗ pt c arg9 (lB c arg3 arg7 arg8 harg8 arg9 harg9 X3 X7 G8 G9 k) ∗ (∃ f, pt c arg10 f)
    ∗ pt c arg11 (aB c arg3 arg6 arg7 arg8 harg8 arg11 harg11 X3 X6 X7 G8 G11 k) ∗ (∃ f, pt c arg12 f) ∗ (∃ f, pt c arg13 f))
  step k _ := by
    iintro ⟨H3, H6, H7, H8, H9, ⟨%f10, H10⟩, H11, ⟨%f12, H12⟩, ⟨%f13, H13⟩⟩
    iapply tripR c i arg2 harg2 arg3 harg3 arg4 harg4 arg5 harg5 arg6 harg6 arg7 harg7 arg8 harg8 arg9 harg9 arg10 harg10 arg11 harg11 arg12 harg12 arg13 harg13 arg1 v62 k X3 X6 X7
    isplitl [H3]; · iexact H3
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

theorem read_mB (h8 : arg8.view.read (Elt F) G8 = k0_pay274) (k : ℕ) :
    arg8.view.read (Elt F) (mB c arg3 arg7 arg8 harg8 X3 X7 G8 k) = mS (arg3.view.read (Elt F) X3) (arg7.view.read (Elt F) X7) k := by
  induction k with
  | zero => exact h8
  | succ k ih => rw [mB, harg8.read_unread, ih, mS]

theorem read_lB (h8 : arg8.view.read (Elt F) G8 = k0_pay274) (h9 : arg9.view.read (Elt F) G9 = k0_pay275) (k : ℕ) :
    arg9.view.read (Elt F) (lB c arg3 arg7 arg8 harg8 arg9 harg9 X3 X7 G8 G9 k) = lS (arg3.view.read (Elt F) X3) (arg7.view.read (Elt F) X7) k := by
  induction k with
  | zero => exact h9
  | succ k ih => rw [lB, harg9.read_unread, ih, lS, read_mB c arg3 arg7 arg8 harg8 X3 X7 G8 h8]

theorem read_aB (h8 : arg8.view.read (Elt F) G8 = k0_pay274) (h11 : arg11.view.read (Elt F) G11 = k0_pay276) (k : ℕ) :
    arg11.view.read (Elt F) (aB c arg3 arg6 arg7 arg8 harg8 arg11 harg11 X3 X6 X7 G8 G11 k)
      = aS (arg3.view.read (Elt F) X3) (arg7.view.read (Elt F) X7) (arg6.view.read (Elt F) X6) k := by
  induction k with
  | zero => exact h11
  | succ k ih => rw [aB, harg11.read_unread, ih, aS, read_mB c arg3 arg7 arg8 harg8 X3 X7 G8 h8]

theorem readAt_mB (h8 : arg8.view.read (Elt F) G8 = k0_pay274) (k : ℕ) (r : Rect S8x1x256) :
    arg8.view.readAt (Elt F) r.toLoadRect (mB c arg3 arg7 arg8 harg8 X3 X7 G8 k)
      = View.ld (mS (arg3.view.read (Elt F) X3) (arg7.view.read (Elt F) X7) k) r := by
  rw [View.readAt_eq_ld, read_mB c arg3 arg7 arg8 harg8 X3 X7 G8 h8]

theorem readAt_lB (h8 : arg8.view.read (Elt F) G8 = k0_pay274) (h9 : arg9.view.read (Elt F) G9 = k0_pay275) (k : ℕ) (r : Rect S8x1x256) :
    arg9.view.readAt (Elt F) r.toLoadRect (lB c arg3 arg7 arg8 harg8 arg9 harg9 X3 X7 G8 G9 k)
      = View.ld (lS (arg3.view.read (Elt F) X3) (arg7.view.read (Elt F) X7) k) r := by
  rw [View.readAt_eq_ld, read_lB c arg3 arg7 arg8 harg8 arg9 harg9 X3 X7 G8 G9 h8 h9]

theorem readAt_aB (h8 : arg8.view.read (Elt F) G8 = k0_pay274) (h11 : arg11.view.read (Elt F) G11 = k0_pay276) (k : ℕ) (r : Rect S8x64x256) :
    arg11.view.readAt (Elt F) r.toLoadRect (aB c arg3 arg6 arg7 arg8 harg8 arg11 harg11 X3 X6 X7 G8 G11 k)
      = View.ld (aS (arg3.view.read (Elt F) X3) (arg7.view.read (Elt F) X7) (arg6.view.read (Elt F) X6) k) r := by
  rw [View.readAt_eq_ld, read_aB c arg3 arg6 arg7 arg8 harg8 arg11 harg11 X3 X6 X7 G8 G11 h8 h11]

end

/-- A store of the whole leaves its payload. -/
theorem read_fill {S : Shape} {e : EltTy} {κ : Kind} {sp : Space} (v : View sig κ sp S e) (f : v.ty.Contents (Elt F)) {off : Fin S.rank → ℕ}
    (inb : ∀ a, off a + S.size a ≤ S.size a) (w : S.Idx → Elt F e) (h : ∀ a, off a = 0) :
    v.read (Elt F) (v.writes (Elt F) f [⟨Rect.unit off S.size inb, w⟩]) = w := by
  rw [View.read_writes_eq_canon v f _ (fun y => ⟨_, List.mem_cons_self, View.mem_set_unit_zero (funext h) inb y⟩)]
  exact View.canon_cons_unit_lit inb w [] h

/-- The same, where the store is written out. -/
theorem read_fillW {S : Shape} {e : EltTy} {κ : Kind} {sp : Space} (v : View sig κ sp S e) (f : v.ty.Contents (Elt F)) {off : Fin S.rank → ℕ}
    (inb : ∀ a, off a + S.size a ≤ S.size a) (w : S.Idx → Elt F e) (h : ∀ a, off a = 0) :
    v.read (Elt F) (View.write (Elt F) (v.slice (Rect.unit off S.size inb)) (v.writes (Elt F) f []) w Finset.univ) = w :=
  read_fill v f inb w h

end Cert.KernelIdeal.Attn

end
-- ==== Proof.RunFirst.lean ====
/- The body. -/
module

public import proofs.«01_k».proof.Proof.Loop
public import Idealize.ShloMosaic.Lib.LoopRemainder

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.ShloMosaic.StackMember
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- The body at the first query block of a batch. -/
theorem runFirst (c : Dev nD) (i : grid0.Coords) (hc : Scalar.cmpi .ne (Scalar.extui (Scalar.cmpi .eq (BitVec.ofNat 32 (i 1).val) 0#32)) 0#32 = 1#1) (arg2 : Memref sig .tc .vmem S256x1024 .bf16) (harg2 : arg2.IsWhole) (arg3 : Memref sig .tc .vmem S2048x1024 .bf16) (harg3 : arg3.IsWhole) (arg4 : Memref sig .tc .vmem S2048x512 .bf16) (harg4 : arg4.IsWhole) (arg5 : Memref sig .tc .vmem S256x512 .f32) (harg5 : arg5.IsWhole) (arg6 : Memref sig .tc .vmem S8x512x256 .bf16) (harg6 : arg6.IsWhole) (arg7 : Memref sig .tc .vmem S8x128x256 .bf16) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x64x256 .f32) (harg11 : arg11.IsWhole) (arg12 : Memref sig .tc .vmem S8x256x256 .f32) (harg12 : arg12.IsWhole) (arg13 : Memref sig .tc .vmem S8x256x256 .bf16) (harg13 : arg13.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) :
    iprop(pts c arg2 f2 ∗ pts c arg3 f3 ∗ pts c arg4 f4 ∗ pts c arg5 f5 ∗ pt c arg6 f6 ∗ pt c arg7 f7 ∗ pt c arg8 f8 ∗ pt c arg9 f9 ∗ pt c arg10 f10 ∗ pt c arg11 f11 ∗ pt c arg12 f12 ∗ pt c arg13 f13)
    ⊢ wp frame (wpE (defs₀ (F := F)) Variants.none c none) Set.univ (cc0__attn_kernel (F := F) i arg2 harg2 arg3 harg3 arg4 harg4 arg5 harg5 arg6 harg6 arg7 harg7 arg8 harg8 arg9 harg9 arg10 harg10 arg11 harg11 arg12 harg12 arg13 harg13)
      (fun _ => iprop(pts c arg2 f2 ∗ pts c arg3 f3 ∗ pts c arg4 f4
          ∗ (∃ f, ⌜arg5.view.read (Elt F) f = bodyOut i (arg2.view.read (Elt F) f2) (arg3.view.read (Elt F) f3) (vtOf (arg4.view.read (Elt F) f4))⌝ ∗ pts c arg5 f)
          ∗ hold c arg6 (vtOf (arg4.view.read (Elt F) f4))
          ∗ (∃ f, pt c arg7 f) ∗ (∃ f, pt c arg8 f) ∗ (∃ f, pt c arg9 f) ∗ (∃ f, pt c arg10 f) ∗ (∃ f, pt c arg11 f) ∗ (∃ f, pt c arg12 f) ∗ (∃ f, pt c arg13 f))) := by
  simp only [cc0__attn_kernel_eq_skeleton]; unfold cc0__attn_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton]
  iintro ⟨H2, H3, H4, H5, H6, H7, H8, H9, H10, H11, H12, H13⟩
  sl_exec
  sl_step
  have hV : arg6.view.read (Elt F) (arg6.view.writes (Elt F) arg6.view.junk (runFirst.sl.H6_64 c arg4 f4)) = vtOf (arg4.view.read (Elt F) f4) := by
    refine read_of_pieces _ _ _ _ ?_ ?_
    · delta runFirst.sl.H6_64 runFirst.sl.H10_8 runFirst.sl.H11_1 runFirst.sl.H11_8 runFirst.sl.H12_8 runFirst.sl.H13_8 runFirst.sl.H8_1
          runFirst.sl.H9_1 runFirst.sl.H9_8 runFirst.sl.cst_123 runFirst.sl.cst_142 runFirst.sl.cst_308 runFirst.sl.cst_419 runFirst.sl.r
          runFirst.sl.r_1 runFirst.sl.r_2 runFirst.sl.r_3 runFirst.sl.r_4 runFirst.sl.r_5 runFirst.sl.r_6 runFirst.sl.r_7 runFirst.sl.r_8
          runFirst.sl.v0 runFirst.sl.v1 runFirst.sl.v1000 runFirst.sl.v1001 runFirst.sl.v1002 runFirst.sl.v1004 runFirst.sl.v1005
          runFirst.sl.v1006 runFirst.sl.v1007 runFirst.sl.v1008 runFirst.sl.v1009 runFirst.sl.v1011 runFirst.sl.v1012 runFirst.sl.v1013
          runFirst.sl.v1014 runFirst.sl.v1015 runFirst.sl.v1016 runFirst.sl.v1018 runFirst.sl.v1019 runFirst.sl.v1020 runFirst.sl.v1021
          runFirst.sl.v1022 runFirst.sl.v1023 runFirst.sl.v1025 runFirst.sl.v1026 runFirst.sl.v1027 runFirst.sl.v1028 runFirst.sl.v1029
          runFirst.sl.v1030 runFirst.sl.v1032 runFirst.sl.v1033 runFirst.sl.v1034 runFirst.sl.v1035 runFirst.sl.v1036 runFirst.sl.v1037
          runFirst.sl.v1039 runFirst.sl.v1040 runFirst.sl.v1041 runFirst.sl.v1042 runFirst.sl.v1043 runFirst.sl.v1044 runFirst.sl.v1046
          runFirst.sl.v1047 runFirst.sl.v1048 runFirst.sl.v1049 runFirst.sl.v1050 runFirst.sl.v1051 runFirst.sl.v1053 runFirst.sl.v1054
          runFirst.sl.v1055 runFirst.sl.v1056 runFirst.sl.v1057 runFirst.sl.v1058 runFirst.sl.v106 runFirst.sl.v1060 runFirst.sl.v1061
          runFirst.sl.v1062 runFirst.sl.v1063 runFirst.sl.v1064 runFirst.sl.v1065 runFirst.sl.v1067 runFirst.sl.v1068 runFirst.sl.v1069
          runFirst.sl.v1070 runFirst.sl.v1071 runFirst.sl.v1072 runFirst.sl.v11 runFirst.sl.v119 runFirst.sl.v12 runFirst.sl.v13
          runFirst.sl.v132 runFirst.sl.v14 runFirst.sl.v145 runFirst.sl.v15 runFirst.sl.v158 runFirst.sl.v16 runFirst.sl.v171 runFirst.sl.v18
          runFirst.sl.v182 runFirst.sl.v184 runFirst.sl.v19 runFirst.sl.v194 runFirst.sl.v195 runFirst.sl.v196 runFirst.sl.v197
          runFirst.sl.v198 runFirst.sl.v199 runFirst.sl.v2 runFirst.sl.v20 runFirst.sl.v202 runFirst.sl.v203 runFirst.sl.v205
          runFirst.sl.v206 runFirst.sl.v208 runFirst.sl.v209 runFirst.sl.v21 runFirst.sl.v210 runFirst.sl.v211 runFirst.sl.v212
          runFirst.sl.v213 runFirst.sl.v214 runFirst.sl.v215 runFirst.sl.v216 runFirst.sl.v217 runFirst.sl.v218 runFirst.sl.v219
          runFirst.sl.v22 runFirst.sl.v220 runFirst.sl.v221 runFirst.sl.v222 runFirst.sl.v223 runFirst.sl.v224 runFirst.sl.v225
          runFirst.sl.v226 runFirst.sl.v227 runFirst.sl.v228 runFirst.sl.v229 runFirst.sl.v23 runFirst.sl.v230 runFirst.sl.v233
          runFirst.sl.v234 runFirst.sl.v235 runFirst.sl.v236 runFirst.sl.v237 runFirst.sl.v238 runFirst.sl.v239 runFirst.sl.v240
          runFirst.sl.v243 runFirst.sl.v244 runFirst.sl.v245 runFirst.sl.v246 runFirst.sl.v247 runFirst.sl.v248 runFirst.sl.v249
          runFirst.sl.v25 runFirst.sl.v250 runFirst.sl.v251 runFirst.sl.v252 runFirst.sl.v253 runFirst.sl.v254 runFirst.sl.v255
          runFirst.sl.v256 runFirst.sl.v257 runFirst.sl.v258 runFirst.sl.v259 runFirst.sl.v26 runFirst.sl.v260 runFirst.sl.v261
          runFirst.sl.v264 runFirst.sl.v265 runFirst.sl.v266 runFirst.sl.v267 runFirst.sl.v268 runFirst.sl.v269 runFirst.sl.v27
          runFirst.sl.v270 runFirst.sl.v271 runFirst.sl.v274 runFirst.sl.v275 runFirst.sl.v276 runFirst.sl.v277 runFirst.sl.v278
          runFirst.sl.v279 runFirst.sl.v28 runFirst.sl.v280 runFirst.sl.v281 runFirst.sl.v282 runFirst.sl.v283 runFirst.sl.v284
          runFirst.sl.v285 runFirst.sl.v286 runFirst.sl.v287 runFirst.sl.v288 runFirst.sl.v289 runFirst.sl.v29 runFirst.sl.v290
          runFirst.sl.v291 runFirst.sl.v292 runFirst.sl.v295 runFirst.sl.v296 runFirst.sl.v297 runFirst.sl.v298 runFirst.sl.v299
          runFirst.sl.v30 runFirst.sl.v300 runFirst.sl.v301 runFirst.sl.v302 runFirst.sl.v305 runFirst.sl.v306 runFirst.sl.v307
          runFirst.sl.v308 runFirst.sl.v309 runFirst.sl.v310 runFirst.sl.v311 runFirst.sl.v312 runFirst.sl.v313 runFirst.sl.v314
          runFirst.sl.v315 runFirst.sl.v316 runFirst.sl.v317 runFirst.sl.v318 runFirst.sl.v319 runFirst.sl.v320 runFirst.sl.v321
          runFirst.sl.v322 runFirst.sl.v323 runFirst.sl.v326 runFirst.sl.v327 runFirst.sl.v328 runFirst.sl.v329 runFirst.sl.v330
          runFirst.sl.v331 runFirst.sl.v332 runFirst.sl.v333 runFirst.sl.v336 runFirst.sl.v337 runFirst.sl.v338 runFirst.sl.v339
          runFirst.sl.v340 runFirst.sl.v341 runFirst.sl.v342 runFirst.sl.v343 runFirst.sl.v344 runFirst.sl.v345 runFirst.sl.v346
          runFirst.sl.v347 runFirst.sl.v348 runFirst.sl.v349 runFirst.sl.v350 runFirst.sl.v351 runFirst.sl.v352 runFirst.sl.v353
          runFirst.sl.v354 runFirst.sl.v357 runFirst.sl.v358 runFirst.sl.v359 runFirst.sl.v360 runFirst.sl.v361 runFirst.sl.v362
          runFirst.sl.v363 runFirst.sl.v364 runFirst.sl.v367 runFirst.sl.v368 runFirst.sl.v369 runFirst.sl.v370 runFirst.sl.v371
          runFirst.sl.v372 runFirst.sl.v373 runFirst.sl.v374 runFirst.sl.v375 runFirst.sl.v376 runFirst.sl.v377 runFirst.sl.v378
          runFirst.sl.v379 runFirst.sl.v380 runFirst.sl.v381 runFirst.sl.v382 runFirst.sl.v383 runFirst.sl.v384 runFirst.sl.v385
          runFirst.sl.v388 runFirst.sl.v389 runFirst.sl.v390 runFirst.sl.v391 runFirst.sl.v392 runFirst.sl.v393 runFirst.sl.v394
          runFirst.sl.v395 runFirst.sl.v398 runFirst.sl.v399 runFirst.sl.v4 runFirst.sl.v400 runFirst.sl.v401 runFirst.sl.v402
          runFirst.sl.v403 runFirst.sl.v404 runFirst.sl.v405 runFirst.sl.v406 runFirst.sl.v407 runFirst.sl.v408 runFirst.sl.v409
          runFirst.sl.v410 runFirst.sl.v411 runFirst.sl.v412 runFirst.sl.v413 runFirst.sl.v414 runFirst.sl.v415 runFirst.sl.v416
          runFirst.sl.v419 runFirst.sl.v420 runFirst.sl.v421 runFirst.sl.v422 runFirst.sl.v423 runFirst.sl.v424 runFirst.sl.v425
          runFirst.sl.v426 runFirst.sl.v429 runFirst.sl.v430 runFirst.sl.v431 runFirst.sl.v432 runFirst.sl.v433 runFirst.sl.v434
          runFirst.sl.v435 runFirst.sl.v438 runFirst.sl.v439 runFirst.sl.v440 runFirst.sl.v441 runFirst.sl.v442 runFirst.sl.v445
          runFirst.sl.v446 runFirst.sl.v447 runFirst.sl.v448 runFirst.sl.v449 runFirst.sl.v450 runFirst.sl.v451 runFirst.sl.v454
          runFirst.sl.v455 runFirst.sl.v456 runFirst.sl.v457 runFirst.sl.v458 runFirst.sl.v461 runFirst.sl.v462 runFirst.sl.v463
          runFirst.sl.v464 runFirst.sl.v465 runFirst.sl.v466 runFirst.sl.v467 runFirst.sl.v470 runFirst.sl.v471 runFirst.sl.v472
          runFirst.sl.v473 runFirst.sl.v474 runFirst.sl.v477 runFirst.sl.v478 runFirst.sl.v479 runFirst.sl.v480 runFirst.sl.v481
          runFirst.sl.v482 runFirst.sl.v483 runFirst.sl.v486 runFirst.sl.v487 runFirst.sl.v488 runFirst.sl.v489 runFirst.sl.v490
          runFirst.sl.v493 runFirst.sl.v494 runFirst.sl.v495 runFirst.sl.v496 runFirst.sl.v497 runFirst.sl.v498 runFirst.sl.v499
          runFirst.sl.v5 runFirst.sl.v502 runFirst.sl.v503 runFirst.sl.v504 runFirst.sl.v505 runFirst.sl.v506 runFirst.sl.v509
          runFirst.sl.v510 runFirst.sl.v511 runFirst.sl.v512 runFirst.sl.v513 runFirst.sl.v514 runFirst.sl.v515 runFirst.sl.v518
          runFirst.sl.v519 runFirst.sl.v520 runFirst.sl.v521 runFirst.sl.v522 runFirst.sl.v525 runFirst.sl.v526 runFirst.sl.v527
          runFirst.sl.v528 runFirst.sl.v529 runFirst.sl.v530 runFirst.sl.v531 runFirst.sl.v534 runFirst.sl.v535 runFirst.sl.v536
          runFirst.sl.v537 runFirst.sl.v538 runFirst.sl.v541 runFirst.sl.v542 runFirst.sl.v543 runFirst.sl.v544 runFirst.sl.v545
          runFirst.sl.v546 runFirst.sl.v547 runFirst.sl.v550 runFirst.sl.v551 runFirst.sl.v552 runFirst.sl.v553 runFirst.sl.v554
          runFirst.sl.v557 runFirst.sl.v558 runFirst.sl.v559 runFirst.sl.v560 runFirst.sl.v561 runFirst.sl.v562 runFirst.sl.v563
          runFirst.sl.v564 runFirst.sl.v565 runFirst.sl.v566 runFirst.sl.v567 runFirst.sl.v568 runFirst.sl.v569 runFirst.sl.v571
          runFirst.sl.v572 runFirst.sl.v573 runFirst.sl.v574 runFirst.sl.v575 runFirst.sl.v576 runFirst.sl.v577 runFirst.sl.v579
          runFirst.sl.v580 runFirst.sl.v581 runFirst.sl.v582 runFirst.sl.v583 runFirst.sl.v584 runFirst.sl.v585 runFirst.sl.v587
          runFirst.sl.v588 runFirst.sl.v589 runFirst.sl.v590 runFirst.sl.v591 runFirst.sl.v592 runFirst.sl.v593 runFirst.sl.v595
          runFirst.sl.v596 runFirst.sl.v597 runFirst.sl.v598 runFirst.sl.v599 runFirst.sl.v6 runFirst.sl.v600 runFirst.sl.v606
          runFirst.sl.v608 runFirst.sl.v614 runFirst.sl.v616 runFirst.sl.v626 runFirst.sl.v627 runFirst.sl.v628 runFirst.sl.v630
          runFirst.sl.v631 runFirst.sl.v633 runFirst.sl.v634 runFirst.sl.v635 runFirst.sl.v636 runFirst.sl.v637 runFirst.sl.v638
          runFirst.sl.v640 runFirst.sl.v641 runFirst.sl.v642 runFirst.sl.v643 runFirst.sl.v644 runFirst.sl.v645 runFirst.sl.v647
          runFirst.sl.v648 runFirst.sl.v649 runFirst.sl.v650 runFirst.sl.v651 runFirst.sl.v652 runFirst.sl.v654 runFirst.sl.v655
          runFirst.sl.v656 runFirst.sl.v657 runFirst.sl.v658 runFirst.sl.v659 runFirst.sl.v661 runFirst.sl.v662 runFirst.sl.v663
          runFirst.sl.v664 runFirst.sl.v665 runFirst.sl.v666 runFirst.sl.v668 runFirst.sl.v669 runFirst.sl.v670 runFirst.sl.v671
          runFirst.sl.v672 runFirst.sl.v673 runFirst.sl.v675 runFirst.sl.v676 runFirst.sl.v677 runFirst.sl.v678 runFirst.sl.v679
          runFirst.sl.v680 runFirst.sl.v682 runFirst.sl.v683 runFirst.sl.v684 runFirst.sl.v685 runFirst.sl.v686 runFirst.sl.v687
          runFirst.sl.v689 runFirst.sl.v690 runFirst.sl.v691 runFirst.sl.v692 runFirst.sl.v693 runFirst.sl.v694 runFirst.sl.v696
          runFirst.sl.v697 runFirst.sl.v698 runFirst.sl.v699 runFirst.sl.v700 runFirst.sl.v701 runFirst.sl.v703 runFirst.sl.v704
          runFirst.sl.v705 runFirst.sl.v706 runFirst.sl.v707 runFirst.sl.v708 runFirst.sl.v71 runFirst.sl.v710 runFirst.sl.v711
          runFirst.sl.v712 runFirst.sl.v713 runFirst.sl.v714 runFirst.sl.v715 runFirst.sl.v717 runFirst.sl.v718 runFirst.sl.v719
          runFirst.sl.v720 runFirst.sl.v721 runFirst.sl.v722 runFirst.sl.v724 runFirst.sl.v725 runFirst.sl.v726 runFirst.sl.v727
          runFirst.sl.v728 runFirst.sl.v729 runFirst.sl.v73 runFirst.sl.v731 runFirst.sl.v732 runFirst.sl.v733 runFirst.sl.v734
          runFirst.sl.v735 runFirst.sl.v736 runFirst.sl.v738 runFirst.sl.v739 runFirst.sl.v74 runFirst.sl.v740 runFirst.sl.v741
          runFirst.sl.v742 runFirst.sl.v743 runFirst.sl.v745 runFirst.sl.v746 runFirst.sl.v747 runFirst.sl.v748 runFirst.sl.v749
          runFirst.sl.v75 runFirst.sl.v750 runFirst.sl.v752 runFirst.sl.v753 runFirst.sl.v754 runFirst.sl.v755 runFirst.sl.v756
          runFirst.sl.v757 runFirst.sl.v759 runFirst.sl.v76 runFirst.sl.v760 runFirst.sl.v761 runFirst.sl.v762 runFirst.sl.v763
          runFirst.sl.v764 runFirst.sl.v766 runFirst.sl.v767 runFirst.sl.v768 runFirst.sl.v769 runFirst.sl.v770 runFirst.sl.v771
          runFirst.sl.v773 runFirst.sl.v774 runFirst.sl.v775 runFirst.sl.v776 runFirst.sl.v777 runFirst.sl.v778 runFirst.sl.v780
          runFirst.sl.v781 runFirst.sl.v782 runFirst.sl.v783 runFirst.sl.v784 runFirst.sl.v785 runFirst.sl.v787 runFirst.sl.v788
          runFirst.sl.v789 runFirst.sl.v790 runFirst.sl.v791 runFirst.sl.v792 runFirst.sl.v794 runFirst.sl.v795 runFirst.sl.v796
          runFirst.sl.v797 runFirst.sl.v798 runFirst.sl.v799 runFirst.sl.v8 runFirst.sl.v80 runFirst.sl.v801 runFirst.sl.v802
          runFirst.sl.v803 runFirst.sl.v804 runFirst.sl.v805 runFirst.sl.v806 runFirst.sl.v808 runFirst.sl.v809 runFirst.sl.v810
          runFirst.sl.v811 runFirst.sl.v812 runFirst.sl.v813 runFirst.sl.v815 runFirst.sl.v816 runFirst.sl.v817 runFirst.sl.v818
          runFirst.sl.v819 runFirst.sl.v820 runFirst.sl.v822 runFirst.sl.v823 runFirst.sl.v824 runFirst.sl.v825 runFirst.sl.v826
          runFirst.sl.v827 runFirst.sl.v829 runFirst.sl.v830 runFirst.sl.v831 runFirst.sl.v832 runFirst.sl.v833 runFirst.sl.v834
          runFirst.sl.v836 runFirst.sl.v837 runFirst.sl.v838 runFirst.sl.v839 runFirst.sl.v840 runFirst.sl.v841 runFirst.sl.v843
          runFirst.sl.v844 runFirst.sl.v845 runFirst.sl.v846 runFirst.sl.v847 runFirst.sl.v848 runFirst.sl.v850 runFirst.sl.v851
          runFirst.sl.v852 runFirst.sl.v853 runFirst.sl.v854 runFirst.sl.v855 runFirst.sl.v857 runFirst.sl.v858 runFirst.sl.v859
          runFirst.sl.v860 runFirst.sl.v861 runFirst.sl.v862 runFirst.sl.v864 runFirst.sl.v865 runFirst.sl.v866 runFirst.sl.v867
          runFirst.sl.v868 runFirst.sl.v869 runFirst.sl.v871 runFirst.sl.v872 runFirst.sl.v873 runFirst.sl.v874 runFirst.sl.v875
          runFirst.sl.v876 runFirst.sl.v878 runFirst.sl.v879 runFirst.sl.v880 runFirst.sl.v881 runFirst.sl.v882 runFirst.sl.v883
          runFirst.sl.v885 runFirst.sl.v886 runFirst.sl.v887 runFirst.sl.v888 runFirst.sl.v889 runFirst.sl.v890 runFirst.sl.v892
          runFirst.sl.v893 runFirst.sl.v894 runFirst.sl.v895 runFirst.sl.v896 runFirst.sl.v897 runFirst.sl.v899 runFirst.sl.v9
          runFirst.sl.v900 runFirst.sl.v901 runFirst.sl.v902 runFirst.sl.v903 runFirst.sl.v904 runFirst.sl.v906 runFirst.sl.v907
          runFirst.sl.v908 runFirst.sl.v909 runFirst.sl.v910 runFirst.sl.v911 runFirst.sl.v913 runFirst.sl.v914 runFirst.sl.v915
          runFirst.sl.v916 runFirst.sl.v917 runFirst.sl.v918 runFirst.sl.v920 runFirst.sl.v921 runFirst.sl.v922 runFirst.sl.v923
          runFirst.sl.v924 runFirst.sl.v925 runFirst.sl.v927 runFirst.sl.v928 runFirst.sl.v929 runFirst.sl.v93 runFirst.sl.v930
          runFirst.sl.v931 runFirst.sl.v932 runFirst.sl.v934 runFirst.sl.v935 runFirst.sl.v936 runFirst.sl.v937 runFirst.sl.v938
          runFirst.sl.v939 runFirst.sl.v941 runFirst.sl.v942 runFirst.sl.v943 runFirst.sl.v944 runFirst.sl.v945 runFirst.sl.v946
          runFirst.sl.v948 runFirst.sl.v949 runFirst.sl.v950 runFirst.sl.v951 runFirst.sl.v952 runFirst.sl.v953 runFirst.sl.v955
          runFirst.sl.v956 runFirst.sl.v957 runFirst.sl.v958 runFirst.sl.v959 runFirst.sl.v960 runFirst.sl.v962 runFirst.sl.v963
          runFirst.sl.v964 runFirst.sl.v965 runFirst.sl.v966 runFirst.sl.v967 runFirst.sl.v969 runFirst.sl.v970 runFirst.sl.v971
          runFirst.sl.v972 runFirst.sl.v973 runFirst.sl.v974 runFirst.sl.v976 runFirst.sl.v977 runFirst.sl.v978 runFirst.sl.v979
          runFirst.sl.v980 runFirst.sl.v981 runFirst.sl.v983 runFirst.sl.v984 runFirst.sl.v985 runFirst.sl.v986 runFirst.sl.v987
          runFirst.sl.v988 runFirst.sl.v990 runFirst.sl.v991 runFirst.sl.v992 runFirst.sl.v993 runFirst.sl.v994 runFirst.sl.v995
          runFirst.sl.v997 runFirst.sl.v998 runFirst.sl.v999 k0_pay279 k0_pay280 k0_pay281 k0_pay282 k0_pay283 k0_pay284 k0_pay285
          k0_pay286 k0_pay287 k0_pay288 k0_pay289 k0_pay290 k0_pay291 k0_pay292 k0_pay293 k0_pay386 k0_pay1 k0_pay2 k0_pay3 k0_pay4
          k0_pay5 k0_pay6 k0_pay7 k0_pay8 k0_pay9 k0_pay10 k0_pay11 k0_pay12 k0_pay13 k0_pay14 k0_pay15 k0_pay16 k0_pay17 k0_pay18
          k0_pay19 k0_pay20 k0_pay21 k0_pay22 k0_pay23 k0_pay24 k0_pay25 k0_pay26 k0_pay27 k0_pay28 k0_pay29 k0_pay30 k0_pay31 k0_pay32
          k0_pay33 k0_pay34 k0_pay35 k0_pay36 k0_pay38 k0_pay39 k0_pay40 k0_pay41 k0_pay42 k0_pay43 k0_pay44 k0_pay45 k0_pay46 k0_pay47
          k0_pay48 k0_pay49 k0_pay50 k0_pay51 k0_pay52 k0_pay53 k0_pay54 k0_pay55 k0_pay56 k0_pay57 k0_pay58 k0_pay59 k0_pay60 k0_pay61
          k0_pay62 k0_pay64 k0_pay65 k0_pay66 k0_pay67 k0_pay68 k0_pay69 k0_pay70 k0_pay71 k0_pay72 k0_pay265
      simp only [View.readAt_eq_ld]
      exact ⟨fun x => pay_vt _ 1920 384 128 7 (by decide) (by decide) (by decide) x,
        fun x => pay_vt _ 1920 256 128 7 (by decide) (by decide) (by decide) x,
        fun x => pay_vt _ 1920 128 128 7 (by decide) (by decide) (by decide) x,
        fun x => pay_vt _ 1920 0 128 7 (by decide) (by decide) (by decide) x,
        fun x => pay_vt _ 1792 384 0 7 (by decide) (by decide) (by decide) x,
        fun x => pay_vt _ 1792 256 0 7 (by decide) (by decide) (by decide) x,
        fun x => pay_vt _ 1792 128 0 7 (by decide) (by decide) (by decide) x,
        fun x => pay_vt _ 1792 0 0 7 (by decide) (by decide) (by decide) x,
        fun x => pay_vt _ 1664 384 128 6 (by decide) (by decide) (by decide) x,
        fun x => pay_vt _ 1664 256 128 6 (by decide) (by decide) (by decide) x,
        fun x => pay_vt _ 1664 128 128 6 (by decide) (by decide) (by decide) x,
        fun x => pay_vt _ 1664 0 128 6 (by decide) (by decide) (by decide) x,
        fun x => pay_vt _ 1536 384 0 6 (by decide) (by decide) (by decide) x,
        fun x => pay_vt _ 1536 256 0 6 (by decide) (by decide) (by decide) x,
        fun x => pay_vt _ 1536 128 0 6 (by decide) (by decide) (by decide) x,
        fun x => pay_vt _ 1536 0 0 6 (by decide) (by decide) (by decide) x,
        fun x => pay_vt _ 1408 384 128 5 (by decide) (by decide) (by decide) x,
        fun x => pay_vt _ 1408 256 128 5 (by decide) (by decide) (by decide) x,
        fun x => pay_vt _ 1408 128 128 5 (by decide) (by decide) (by decide) x,
        fun x => pay_vt _ 1408 0 128 5 (by decide) (by decide) (by decide) x,
        fun x => pay_vt _ 1280 384 0 5 (by decide) (by decide) (by decide) x,
        fun x => pay_vt _ 1280 256 0 5 (by decide) (by decide) (by decide) x,
        fun x => pay_vt _ 1280 128 0 5 (by decide) (by decide) (by decide) x,
        fun x => pay_vt _ 1280 0 0 5 (by decide) (by decide) (by decide) x,
        fun x => pay_vt _ 1152 384 128 4 (by decide) (by decide) (by decide) x,
        fun x => pay_vt _ 1152 256 128 4 (by decide) (by decide) (by decide) x,
        fun x => pay_vt _ 1152 128 128 4 (by decide) (by decide) (by decide) x,
        fun x => pay_vt _ 1152 0 128 4 (by decide) (by decide) (by decide) x,
        fun x => pay_vt _ 1024 384 0 4 (by decide) (by decide) (by decide) x,
        fun x => pay_vt _ 1024 256 0 4 (by decide) (by decide) (by decide) x,
        fun x => pay_vt _ 1024 128 0 4 (by decide) (by decide) (by decide) x,
        fun x => pay_vt _ 1024 0 0 4 (by decide) (by decide) (by decide) x,
        fun x => pay_vt _ 896 384 128 3 (by decide) (by decide) (by decide) x,
        fun x => pay_vt _ 896 256 128 3 (by decide) (by decide) (by decide) x,
        fun x => pay_vt _ 896 128 128 3 (by decide) (by decide) (by decide) x,
        fun x => pay_vt _ 896 0 128 3 (by decide) (by decide) (by decide) x,
        fun x => pay_vt _ 768 384 0 3 (by decide) (by decide) (by decide) x,
        fun x => pay_vt _ 768 256 0 3 (by decide) (by decide) (by decide) x,
        fun x => pay_vt _ 768 128 0 3 (by decide) (by decide) (by decide) x,
        fun x => pay_vt _ 768 0 0 3 (by decide) (by decide) (by decide) x,
        fun x => pay_vt _ 640 384 128 2 (by decide) (by decide) (by decide) x,
        fun x => pay_vt _ 640 256 128 2 (by decide) (by decide) (by decide) x,
        fun x => pay_vt _ 640 128 128 2 (by decide) (by decide) (by decide) x,
        fun x => pay_vt _ 640 0 128 2 (by decide) (by decide) (by decide) x,
        fun x => pay_vt _ 512 384 0 2 (by decide) (by decide) (by decide) x,
        fun x => pay_vt _ 512 256 0 2 (by decide) (by decide) (by decide) x,
        fun x => pay_vt _ 512 128 0 2 (by decide) (by decide) (by decide) x,
        fun x => pay_vt _ 512 0 0 2 (by decide) (by decide) (by decide) x,
        fun x => pay_vt _ 384 384 128 1 (by decide) (by decide) (by decide) x,
        fun x => pay_vt _ 384 256 128 1 (by decide) (by decide) (by decide) x,
        fun x => pay_vt _ 384 128 128 1 (by decide) (by decide) (by decide) x,
        fun x => pay_vt _ 384 0 128 1 (by decide) (by decide) (by decide) x,
        fun x => pay_vt _ 256 384 0 1 (by decide) (by decide) (by decide) x,
        fun x => pay_vt _ 256 256 0 1 (by decide) (by decide) (by decide) x,
        fun x => pay_vt _ 256 128 0 1 (by decide) (by decide) (by decide) x,
        fun x => pay_vt _ 256 0 0 1 (by decide) (by decide) (by decide) x,
        fun x => pay_vt _ 128 384 128 0 (by decide) (by decide) (by decide) x,
        fun x => pay_vt _ 128 256 128 0 (by decide) (by decide) (by decide) x,
        fun x => pay_vt _ 128 128 128 0 (by decide) (by decide) (by decide) x,
        fun x => pay_vt _ 128 0 128 0 (by decide) (by decide) (by decide) x,
        fun x => pay_vt _ 0 384 0 0 (by decide) (by decide) (by decide) x,
        fun x => pay_vt _ 0 256 0 0 (by decide) (by decide) (by decide) x,
        fun x => pay_vt _ 0 128 0 0 (by decide) (by decide) (by decide) x,
        fun x => pay_vt _ 0 0 0 0 (by decide) (by decide) (by decide) x, trivial⟩
    · refine cover_vt _ ?_
      intro j g c'
      fin_cases j <;> fin_cases g <;> fin_cases c' <;> exact ⟨by show _ < 64; decide, by decide, rfl⟩
  isplitl [H2]; · iexact H2
  isplitl [H3]; · iexact H3
  isplitl [H4]; · iexact H4
  isplitl [H5]
  · iexists _; isplitr; swap; · iexact H5
    ipureintro
    refine (read_fill arg5.view _ _ _ (by decide)).trans ?_
    have hQ : arg7.view.read (Elt F) (arg7.view.writes (Elt F) arg7.view.junk (runFirst.sl.H7_8 c arg2 f2)) = qtOf (arg2.view.read (Elt F) f2) := by
      unfold qtOf
      refine read_writes8 (Val := Elt F) (e := .bf16) (a := 128) (b := 256) arg7.view _ (qT (arg2.view.read (Elt F) f2)) shapeCasts_S128x256_S1x128x256
        _ _ _ _ _ _ _ _ _ _ _ _ _ _ _ _ ?_ ?_ ?_ ?_ ?_ ?_ ?_ ?_
      all_goals
        delta k0_pay266 k0_pay267 k0_pay268 k0_pay269 k0_pay270 k0_pay271 k0_pay272 k0_pay273 runFirst.sl.H10_8 runFirst.sl.H11_1
          runFirst.sl.H11_8 runFirst.sl.H12_8 runFirst.sl.H13_8 runFirst.sl.H6_64 runFirst.sl.H7_8 runFirst.sl.H8_1 runFirst.sl.H9_1
          runFirst.sl.H9_8 runFirst.sl.cst_123 runFirst.sl.cst_142 runFirst.sl.cst_308 runFirst.sl.cst_419 runFirst.sl.r runFirst.sl.r_1
          runFirst.sl.r_2 runFirst.sl.r_3 runFirst.sl.r_4 runFirst.sl.r_5 runFirst.sl.r_6 runFirst.sl.r_7 runFirst.sl.r_8 runFirst.sl.v0
          runFirst.sl.v1 runFirst.sl.v1000 runFirst.sl.v1001 runFirst.sl.v1002 runFirst.sl.v1004 runFirst.sl.v1005 runFirst.sl.v1006
          runFirst.sl.v1007 runFirst.sl.v1008 runFirst.sl.v1009 runFirst.sl.v1011 runFirst.sl.v1012 runFirst.sl.v1013 runFirst.sl.v1014
          runFirst.sl.v1015 runFirst.sl.v1016 runFirst.sl.v1018 runFirst.sl.v1019 runFirst.sl.v1020 runFirst.sl.v1021 runFirst.sl.v1022
          runFirst.sl.v1023 runFirst.sl.v1025 runFirst.sl.v1026 runFirst.sl.v1027 runFirst.sl.v1028 runFirst.sl.v1029 runFirst.sl.v1030
          runFirst.sl.v1032 runFirst.sl.v1033 runFirst.sl.v1034 runFirst.sl.v1035 runFirst.sl.v1036 runFirst.sl.v1037 runFirst.sl.v1039
          runFirst.sl.v1040 runFirst.sl.v1041 runFirst.sl.v1042 runFirst.sl.v1043 runFirst.sl.v1044 runFirst.sl.v1046 runFirst.sl.v1047
          runFirst.sl.v1048 runFirst.sl.v1049 runFirst.sl.v1050 runFirst.sl.v1051 runFirst.sl.v1053 runFirst.sl.v1054 runFirst.sl.v1055
          runFirst.sl.v1056 runFirst.sl.v1057 runFirst.sl.v1058 runFirst.sl.v106 runFirst.sl.v1060 runFirst.sl.v1061 runFirst.sl.v1062
          runFirst.sl.v1063 runFirst.sl.v1064 runFirst.sl.v1065 runFirst.sl.v1067 runFirst.sl.v1068 runFirst.sl.v1069 runFirst.sl.v1070
          runFirst.sl.v1071 runFirst.sl.v1072 runFirst.sl.v11 runFirst.sl.v119 runFirst.sl.v12 runFirst.sl.v13 runFirst.sl.v132
          runFirst.sl.v14 runFirst.sl.v145 runFirst.sl.v15 runFirst.sl.v158 runFirst.sl.v16 runFirst.sl.v171 runFirst.sl.v18 runFirst.sl.v182
          runFirst.sl.v184 runFirst.sl.v19 runFirst.sl.v194 runFirst.sl.v195 runFirst.sl.v196 runFirst.sl.v197 runFirst.sl.v198
          runFirst.sl.v199 runFirst.sl.v2 runFirst.sl.v20 runFirst.sl.v202 runFirst.sl.v203 runFirst.sl.v205 runFirst.sl.v206
          runFirst.sl.v208 runFirst.sl.v209 runFirst.sl.v21 runFirst.sl.v210 runFirst.sl.v211 runFirst.sl.v212 runFirst.sl.v213
          runFirst.sl.v214 runFirst.sl.v215 runFirst.sl.v216 runFirst.sl.v217 runFirst.sl.v218 runFirst.sl.v219 runFirst.sl.v22
          runFirst.sl.v220 runFirst.sl.v221 runFirst.sl.v222 runFirst.sl.v223 runFirst.sl.v224 runFirst.sl.v225 runFirst.sl.v226
          runFirst.sl.v227 runFirst.sl.v228 runFirst.sl.v229 runFirst.sl.v23 runFirst.sl.v230 runFirst.sl.v233 runFirst.sl.v234
          runFirst.sl.v235 runFirst.sl.v236 runFirst.sl.v237 runFirst.sl.v238 runFirst.sl.v239 runFirst.sl.v240 runFirst.sl.v243
          runFirst.sl.v244 runFirst.sl.v245 runFirst.sl.v246 runFirst.sl.v247 runFirst.sl.v248 runFirst.sl.v249 runFirst.sl.v25
          runFirst.sl.v250 runFirst.sl.v251 runFirst.sl.v252 runFirst.sl.v253 runFirst.sl.v254 runFirst.sl.v255 runFirst.sl.v256
          runFirst.sl.v257 runFirst.sl.v258 runFirst.sl.v259 runFirst.sl.v26 runFirst.sl.v260 runFirst.sl.v261 runFirst.sl.v264
          runFirst.sl.v265 runFirst.sl.v266 runFirst.sl.v267 runFirst.sl.v268 runFirst.sl.v269 runFirst.sl.v27 runFirst.sl.v270
          runFirst.sl.v271 runFirst.sl.v274 runFirst.sl.v275 runFirst.sl.v276 runFirst.sl.v277 runFirst.sl.v278 runFirst.sl.v279
          runFirst.sl.v28 runFirst.sl.v280 runFirst.sl.v281 runFirst.sl.v282 runFirst.sl.v283 runFirst.sl.v284 runFirst.sl.v285
          runFirst.sl.v286 runFirst.sl.v287 runFirst.sl.v288 runFirst.sl.v289 runFirst.sl.v29 runFirst.sl.v290 runFirst.sl.v291
          runFirst.sl.v292 runFirst.sl.v295 runFirst.sl.v296 runFirst.sl.v297 runFirst.sl.v298 runFirst.sl.v299 runFirst.sl.v30
          runFirst.sl.v300 runFirst.sl.v301 runFirst.sl.v302 runFirst.sl.v305 runFirst.sl.v306 runFirst.sl.v307 runFirst.sl.v308
          runFirst.sl.v309 runFirst.sl.v310 runFirst.sl.v311 runFirst.sl.v312 runFirst.sl.v313 runFirst.sl.v314 runFirst.sl.v315
          runFirst.sl.v316 runFirst.sl.v317 runFirst.sl.v318 runFirst.sl.v319 runFirst.sl.v320 runFirst.sl.v321 runFirst.sl.v322
          runFirst.sl.v323 runFirst.sl.v326 runFirst.sl.v327 runFirst.sl.v328 runFirst.sl.v329 runFirst.sl.v330 runFirst.sl.v331
          runFirst.sl.v332 runFirst.sl.v333 runFirst.sl.v336 runFirst.sl.v337 runFirst.sl.v338 runFirst.sl.v339 runFirst.sl.v340
          runFirst.sl.v341 runFirst.sl.v342 runFirst.sl.v343 runFirst.sl.v344 runFirst.sl.v345 runFirst.sl.v346 runFirst.sl.v347
          runFirst.sl.v348 runFirst.sl.v349 runFirst.sl.v350 runFirst.sl.v351 runFirst.sl.v352 runFirst.sl.v353 runFirst.sl.v354
          runFirst.sl.v357 runFirst.sl.v358 runFirst.sl.v359 runFirst.sl.v360 runFirst.sl.v361 runFirst.sl.v362 runFirst.sl.v363
          runFirst.sl.v364 runFirst.sl.v367 runFirst.sl.v368 runFirst.sl.v369 runFirst.sl.v370 runFirst.sl.v371 runFirst.sl.v372
          runFirst.sl.v373 runFirst.sl.v374 runFirst.sl.v375 runFirst.sl.v376 runFirst.sl.v377 runFirst.sl.v378 runFirst.sl.v379
          runFirst.sl.v380 runFirst.sl.v381 runFirst.sl.v382 runFirst.sl.v383 runFirst.sl.v384 runFirst.sl.v385 runFirst.sl.v388
          runFirst.sl.v389 runFirst.sl.v390 runFirst.sl.v391 runFirst.sl.v392 runFirst.sl.v393 runFirst.sl.v394 runFirst.sl.v395
          runFirst.sl.v398 runFirst.sl.v399 runFirst.sl.v4 runFirst.sl.v400 runFirst.sl.v401 runFirst.sl.v402 runFirst.sl.v403
          runFirst.sl.v404 runFirst.sl.v405 runFirst.sl.v406 runFirst.sl.v407 runFirst.sl.v408 runFirst.sl.v409 runFirst.sl.v410
          runFirst.sl.v411 runFirst.sl.v412 runFirst.sl.v413 runFirst.sl.v414 runFirst.sl.v415 runFirst.sl.v416 runFirst.sl.v419
          runFirst.sl.v420 runFirst.sl.v421 runFirst.sl.v422 runFirst.sl.v423 runFirst.sl.v424 runFirst.sl.v425 runFirst.sl.v426
          runFirst.sl.v429 runFirst.sl.v430 runFirst.sl.v431 runFirst.sl.v432 runFirst.sl.v433 runFirst.sl.v434 runFirst.sl.v435
          runFirst.sl.v438 runFirst.sl.v439 runFirst.sl.v440 runFirst.sl.v441 runFirst.sl.v442 runFirst.sl.v445 runFirst.sl.v446
          runFirst.sl.v447 runFirst.sl.v448 runFirst.sl.v449 runFirst.sl.v450 runFirst.sl.v451 runFirst.sl.v454 runFirst.sl.v455
          runFirst.sl.v456 runFirst.sl.v457 runFirst.sl.v458 runFirst.sl.v461 runFirst.sl.v462 runFirst.sl.v463 runFirst.sl.v464
          runFirst.sl.v465 runFirst.sl.v466 runFirst.sl.v467 runFirst.sl.v470 runFirst.sl.v471 runFirst.sl.v472 runFirst.sl.v473
          runFirst.sl.v474 runFirst.sl.v477 runFirst.sl.v478 runFirst.sl.v479 runFirst.sl.v480 runFirst.sl.v481 runFirst.sl.v482
          runFirst.sl.v483 runFirst.sl.v486 runFirst.sl.v487 runFirst.sl.v488 runFirst.sl.v489 runFirst.sl.v490 runFirst.sl.v493
          runFirst.sl.v494 runFirst.sl.v495 runFirst.sl.v496 runFirst.sl.v497 runFirst.sl.v498 runFirst.sl.v499 runFirst.sl.v5
          runFirst.sl.v502 runFirst.sl.v503 runFirst.sl.v504 runFirst.sl.v505 runFirst.sl.v506 runFirst.sl.v509 runFirst.sl.v510
          runFirst.sl.v511 runFirst.sl.v512 runFirst.sl.v513 runFirst.sl.v514 runFirst.sl.v515 runFirst.sl.v518 runFirst.sl.v519
          runFirst.sl.v520 runFirst.sl.v521 runFirst.sl.v522 runFirst.sl.v525 runFirst.sl.v526 runFirst.sl.v527 runFirst.sl.v528
          runFirst.sl.v529 runFirst.sl.v530 runFirst.sl.v531 runFirst.sl.v534 runFirst.sl.v535 runFirst.sl.v536 runFirst.sl.v537
          runFirst.sl.v538 runFirst.sl.v541 runFirst.sl.v542 runFirst.sl.v543 runFirst.sl.v544 runFirst.sl.v545 runFirst.sl.v546
          runFirst.sl.v547 runFirst.sl.v550 runFirst.sl.v551 runFirst.sl.v552 runFirst.sl.v553 runFirst.sl.v554 runFirst.sl.v557
          runFirst.sl.v558 runFirst.sl.v559 runFirst.sl.v560 runFirst.sl.v561 runFirst.sl.v562 runFirst.sl.v563 runFirst.sl.v564
          runFirst.sl.v565 runFirst.sl.v566 runFirst.sl.v567 runFirst.sl.v568 runFirst.sl.v569 runFirst.sl.v571 runFirst.sl.v572
          runFirst.sl.v573 runFirst.sl.v574 runFirst.sl.v575 runFirst.sl.v576 runFirst.sl.v577 runFirst.sl.v579 runFirst.sl.v580
          runFirst.sl.v581 runFirst.sl.v582 runFirst.sl.v583 runFirst.sl.v584 runFirst.sl.v585 runFirst.sl.v587 runFirst.sl.v588
          runFirst.sl.v589 runFirst.sl.v590 runFirst.sl.v591 runFirst.sl.v592 runFirst.sl.v593 runFirst.sl.v595 runFirst.sl.v596
          runFirst.sl.v597 runFirst.sl.v598 runFirst.sl.v599 runFirst.sl.v6 runFirst.sl.v600 runFirst.sl.v606 runFirst.sl.v608
          runFirst.sl.v614 runFirst.sl.v616 runFirst.sl.v626 runFirst.sl.v627 runFirst.sl.v628 runFirst.sl.v630 runFirst.sl.v631
          runFirst.sl.v633 runFirst.sl.v634 runFirst.sl.v635 runFirst.sl.v636 runFirst.sl.v637 runFirst.sl.v638 runFirst.sl.v640
          runFirst.sl.v641 runFirst.sl.v642 runFirst.sl.v643 runFirst.sl.v644 runFirst.sl.v645 runFirst.sl.v647 runFirst.sl.v648
          runFirst.sl.v649 runFirst.sl.v650 runFirst.sl.v651 runFirst.sl.v652 runFirst.sl.v654 runFirst.sl.v655 runFirst.sl.v656
          runFirst.sl.v657 runFirst.sl.v658 runFirst.sl.v659 runFirst.sl.v661 runFirst.sl.v662 runFirst.sl.v663 runFirst.sl.v664
          runFirst.sl.v665 runFirst.sl.v666 runFirst.sl.v668 runFirst.sl.v669 runFirst.sl.v670 runFirst.sl.v671 runFirst.sl.v672
          runFirst.sl.v673 runFirst.sl.v675 runFirst.sl.v676 runFirst.sl.v677 runFirst.sl.v678 runFirst.sl.v679 runFirst.sl.v680
          runFirst.sl.v682 runFirst.sl.v683 runFirst.sl.v684 runFirst.sl.v685 runFirst.sl.v686 runFirst.sl.v687 runFirst.sl.v689
          runFirst.sl.v690 runFirst.sl.v691 runFirst.sl.v692 runFirst.sl.v693 runFirst.sl.v694 runFirst.sl.v696 runFirst.sl.v697
          runFirst.sl.v698 runFirst.sl.v699 runFirst.sl.v700 runFirst.sl.v701 runFirst.sl.v703 runFirst.sl.v704 runFirst.sl.v705
          runFirst.sl.v706 runFirst.sl.v707 runFirst.sl.v708 runFirst.sl.v71 runFirst.sl.v710 runFirst.sl.v711 runFirst.sl.v712
          runFirst.sl.v713 runFirst.sl.v714 runFirst.sl.v715 runFirst.sl.v717 runFirst.sl.v718 runFirst.sl.v719 runFirst.sl.v720
          runFirst.sl.v721 runFirst.sl.v722 runFirst.sl.v724 runFirst.sl.v725 runFirst.sl.v726 runFirst.sl.v727 runFirst.sl.v728
          runFirst.sl.v729 runFirst.sl.v73 runFirst.sl.v731 runFirst.sl.v732 runFirst.sl.v733 runFirst.sl.v734 runFirst.sl.v735
          runFirst.sl.v736 runFirst.sl.v738 runFirst.sl.v739 runFirst.sl.v74 runFirst.sl.v740 runFirst.sl.v741 runFirst.sl.v742
          runFirst.sl.v743 runFirst.sl.v745 runFirst.sl.v746 runFirst.sl.v747 runFirst.sl.v748 runFirst.sl.v749 runFirst.sl.v75
          runFirst.sl.v750 runFirst.sl.v752 runFirst.sl.v753 runFirst.sl.v754 runFirst.sl.v755 runFirst.sl.v756 runFirst.sl.v757
          runFirst.sl.v759 runFirst.sl.v76 runFirst.sl.v760 runFirst.sl.v761 runFirst.sl.v762 runFirst.sl.v763 runFirst.sl.v764
          runFirst.sl.v766 runFirst.sl.v767 runFirst.sl.v768 runFirst.sl.v769 runFirst.sl.v770 runFirst.sl.v771 runFirst.sl.v773
          runFirst.sl.v774 runFirst.sl.v775 runFirst.sl.v776 runFirst.sl.v777 runFirst.sl.v778 runFirst.sl.v780 runFirst.sl.v781
          runFirst.sl.v782 runFirst.sl.v783 runFirst.sl.v784 runFirst.sl.v785 runFirst.sl.v787 runFirst.sl.v788 runFirst.sl.v789
          runFirst.sl.v790 runFirst.sl.v791 runFirst.sl.v792 runFirst.sl.v794 runFirst.sl.v795 runFirst.sl.v796 runFirst.sl.v797
          runFirst.sl.v798 runFirst.sl.v799 runFirst.sl.v8 runFirst.sl.v80 runFirst.sl.v801 runFirst.sl.v802 runFirst.sl.v803
          runFirst.sl.v804 runFirst.sl.v805 runFirst.sl.v806 runFirst.sl.v808 runFirst.sl.v809 runFirst.sl.v810 runFirst.sl.v811
          runFirst.sl.v812 runFirst.sl.v813 runFirst.sl.v815 runFirst.sl.v816 runFirst.sl.v817 runFirst.sl.v818 runFirst.sl.v819
          runFirst.sl.v820 runFirst.sl.v822 runFirst.sl.v823 runFirst.sl.v824 runFirst.sl.v825 runFirst.sl.v826 runFirst.sl.v827
          runFirst.sl.v829 runFirst.sl.v830 runFirst.sl.v831 runFirst.sl.v832 runFirst.sl.v833 runFirst.sl.v834 runFirst.sl.v836
          runFirst.sl.v837 runFirst.sl.v838 runFirst.sl.v839 runFirst.sl.v840 runFirst.sl.v841 runFirst.sl.v843 runFirst.sl.v844
          runFirst.sl.v845 runFirst.sl.v846 runFirst.sl.v847 runFirst.sl.v848 runFirst.sl.v850 runFirst.sl.v851 runFirst.sl.v852
          runFirst.sl.v853 runFirst.sl.v854 runFirst.sl.v855 runFirst.sl.v857 runFirst.sl.v858 runFirst.sl.v859 runFirst.sl.v860
          runFirst.sl.v861 runFirst.sl.v862 runFirst.sl.v864 runFirst.sl.v865 runFirst.sl.v866 runFirst.sl.v867 runFirst.sl.v868
          runFirst.sl.v869 runFirst.sl.v871 runFirst.sl.v872 runFirst.sl.v873 runFirst.sl.v874 runFirst.sl.v875 runFirst.sl.v876
          runFirst.sl.v878 runFirst.sl.v879 runFirst.sl.v880 runFirst.sl.v881 runFirst.sl.v882 runFirst.sl.v883 runFirst.sl.v885
          runFirst.sl.v886 runFirst.sl.v887 runFirst.sl.v888 runFirst.sl.v889 runFirst.sl.v890 runFirst.sl.v892 runFirst.sl.v893
          runFirst.sl.v894 runFirst.sl.v895 runFirst.sl.v896 runFirst.sl.v897 runFirst.sl.v899 runFirst.sl.v9 runFirst.sl.v900
          runFirst.sl.v901 runFirst.sl.v902 runFirst.sl.v903 runFirst.sl.v904 runFirst.sl.v906 runFirst.sl.v907 runFirst.sl.v908
          runFirst.sl.v909 runFirst.sl.v910 runFirst.sl.v911 runFirst.sl.v913 runFirst.sl.v914 runFirst.sl.v915 runFirst.sl.v916
          runFirst.sl.v917 runFirst.sl.v918 runFirst.sl.v920 runFirst.sl.v921 runFirst.sl.v922 runFirst.sl.v923 runFirst.sl.v924
          runFirst.sl.v925 runFirst.sl.v927 runFirst.sl.v928 runFirst.sl.v929 runFirst.sl.v93 runFirst.sl.v930 runFirst.sl.v931
          runFirst.sl.v932 runFirst.sl.v934 runFirst.sl.v935 runFirst.sl.v936 runFirst.sl.v937 runFirst.sl.v938 runFirst.sl.v939
          runFirst.sl.v941 runFirst.sl.v942 runFirst.sl.v943 runFirst.sl.v944 runFirst.sl.v945 runFirst.sl.v946 runFirst.sl.v948
          runFirst.sl.v949 runFirst.sl.v950 runFirst.sl.v951 runFirst.sl.v952 runFirst.sl.v953 runFirst.sl.v955 runFirst.sl.v956
          runFirst.sl.v957 runFirst.sl.v958 runFirst.sl.v959 runFirst.sl.v960 runFirst.sl.v962 runFirst.sl.v963 runFirst.sl.v964
          runFirst.sl.v965 runFirst.sl.v966 runFirst.sl.v967 runFirst.sl.v969 runFirst.sl.v970 runFirst.sl.v971 runFirst.sl.v972
          runFirst.sl.v973 runFirst.sl.v974 runFirst.sl.v976 runFirst.sl.v977 runFirst.sl.v978 runFirst.sl.v979 runFirst.sl.v980
          runFirst.sl.v981 runFirst.sl.v983 runFirst.sl.v984 runFirst.sl.v985 runFirst.sl.v986 runFirst.sl.v987 runFirst.sl.v988
          runFirst.sl.v990 runFirst.sl.v991 runFirst.sl.v992 runFirst.sl.v993 runFirst.sl.v994 runFirst.sl.v995 runFirst.sl.v997
          runFirst.sl.v998 runFirst.sl.v999 k0_pay279 k0_pay280 k0_pay281 k0_pay282 k0_pay283 k0_pay284 k0_pay285 k0_pay286 k0_pay287
          k0_pay288 k0_pay289 k0_pay290 k0_pay291 k0_pay292 k0_pay293 k0_pay386
      all_goals simp only [View.readAt_eq_ld]
      exacts [pay_qT _ 0 _ _ rfl, pay_qT _ 1 _ _ rfl, pay_qT _ 2 _ _ rfl, pay_qT _ 3 _ _ rfl, pay_qT _ 4 _ _ rfl, pay_qT _ 5 _ _ rfl, pay_qT _ 6 _ _ rfl, pay_qT _ 7 _ _ rfl]
    have hQC := readCov_of_read arg7.view _ _ hQ
    have hVC := readCov_of_read arg6.view _ _ hV
    delta runFirst.sl.H10_8 runFirst.sl.H11_8 runFirst.sl.H12_8 runFirst.sl.H13_8 runFirst.sl.H9_8 runFirst.sl.cst_123 runFirst.sl.cst_142
        runFirst.sl.cst_308 runFirst.sl.cst_419 runFirst.sl.r runFirst.sl.r_1 runFirst.sl.r_2 runFirst.sl.r_3 runFirst.sl.r_4 runFirst.sl.r_5
        runFirst.sl.r_6 runFirst.sl.r_7 runFirst.sl.r_8 runFirst.sl.v0 runFirst.sl.v1 runFirst.sl.v1000 runFirst.sl.v1001 runFirst.sl.v1002
        runFirst.sl.v1004 runFirst.sl.v1005 runFirst.sl.v1006 runFirst.sl.v1007 runFirst.sl.v1008 runFirst.sl.v1009 runFirst.sl.v1011
        runFirst.sl.v1012 runFirst.sl.v1013 runFirst.sl.v1014 runFirst.sl.v1015 runFirst.sl.v1016 runFirst.sl.v1018 runFirst.sl.v1019
        runFirst.sl.v1020 runFirst.sl.v1021 runFirst.sl.v1022 runFirst.sl.v1023 runFirst.sl.v1025 runFirst.sl.v1026 runFirst.sl.v1027
        runFirst.sl.v1028 runFirst.sl.v1029 runFirst.sl.v1030 runFirst.sl.v1032 runFirst.sl.v1033 runFirst.sl.v1034 runFirst.sl.v1035
        runFirst.sl.v1036 runFirst.sl.v1037 runFirst.sl.v1039 runFirst.sl.v1040 runFirst.sl.v1041 runFirst.sl.v1042 runFirst.sl.v1043
        runFirst.sl.v1044 runFirst.sl.v1046 runFirst.sl.v1047 runFirst.sl.v1048 runFirst.sl.v1049 runFirst.sl.v1050 runFirst.sl.v1051
        runFirst.sl.v1053 runFirst.sl.v1054 runFirst.sl.v1055 runFirst.sl.v1056 runFirst.sl.v1057 runFirst.sl.v1058 runFirst.sl.v106
        runFirst.sl.v1060 runFirst.sl.v1061 runFirst.sl.v1062 runFirst.sl.v1063 runFirst.sl.v1064 runFirst.sl.v1065 runFirst.sl.v1067
        runFirst.sl.v1068 runFirst.sl.v1069 runFirst.sl.v1070 runFirst.sl.v1071 runFirst.sl.v1072 runFirst.sl.v11 runFirst.sl.v119
        runFirst.sl.v12 runFirst.sl.v13 runFirst.sl.v132 runFirst.sl.v14 runFirst.sl.v145 runFirst.sl.v15 runFirst.sl.v158 runFirst.sl.v16
        runFirst.sl.v171 runFirst.sl.v18 runFirst.sl.v182 runFirst.sl.v184 runFirst.sl.v19 runFirst.sl.v194 runFirst.sl.v195 runFirst.sl.v196
        runFirst.sl.v197 runFirst.sl.v198 runFirst.sl.v199 runFirst.sl.v2 runFirst.sl.v20 runFirst.sl.v202 runFirst.sl.v203 runFirst.sl.v205
        runFirst.sl.v206 runFirst.sl.v208 runFirst.sl.v209 runFirst.sl.v21 runFirst.sl.v210 runFirst.sl.v211 runFirst.sl.v212
        runFirst.sl.v213 runFirst.sl.v214 runFirst.sl.v215 runFirst.sl.v216 runFirst.sl.v217 runFirst.sl.v218 runFirst.sl.v219
        runFirst.sl.v22 runFirst.sl.v220 runFirst.sl.v221 runFirst.sl.v222 runFirst.sl.v223 runFirst.sl.v224 runFirst.sl.v225
        runFirst.sl.v226 runFirst.sl.v227 runFirst.sl.v228 runFirst.sl.v229 runFirst.sl.v23 runFirst.sl.v230 runFirst.sl.v233
        runFirst.sl.v234 runFirst.sl.v235 runFirst.sl.v236 runFirst.sl.v237 runFirst.sl.v238 runFirst.sl.v239 runFirst.sl.v240
        runFirst.sl.v243 runFirst.sl.v244 runFirst.sl.v245 runFirst.sl.v246 runFirst.sl.v247 runFirst.sl.v248 runFirst.sl.v249
        runFirst.sl.v25 runFirst.sl.v250 runFirst.sl.v251 runFirst.sl.v252 runFirst.sl.v253 runFirst.sl.v254 runFirst.sl.v255
        runFirst.sl.v256 runFirst.sl.v257 runFirst.sl.v258 runFirst.sl.v259 runFirst.sl.v26 runFirst.sl.v260 runFirst.sl.v261
        runFirst.sl.v264 runFirst.sl.v265 runFirst.sl.v266 runFirst.sl.v267 runFirst.sl.v268 runFirst.sl.v269 runFirst.sl.v27
        runFirst.sl.v270 runFirst.sl.v271 runFirst.sl.v274 runFirst.sl.v275 runFirst.sl.v276 runFirst.sl.v277 runFirst.sl.v278
        runFirst.sl.v279 runFirst.sl.v28 runFirst.sl.v280 runFirst.sl.v281 runFirst.sl.v282 runFirst.sl.v283 runFirst.sl.v284
        runFirst.sl.v285 runFirst.sl.v286 runFirst.sl.v287 runFirst.sl.v288 runFirst.sl.v289 runFirst.sl.v29 runFirst.sl.v290
        runFirst.sl.v291 runFirst.sl.v292 runFirst.sl.v295 runFirst.sl.v296 runFirst.sl.v297 runFirst.sl.v298 runFirst.sl.v299
        runFirst.sl.v30 runFirst.sl.v300 runFirst.sl.v301 runFirst.sl.v302 runFirst.sl.v305 runFirst.sl.v306 runFirst.sl.v307
        runFirst.sl.v308 runFirst.sl.v309 runFirst.sl.v310 runFirst.sl.v311 runFirst.sl.v312 runFirst.sl.v313 runFirst.sl.v314
        runFirst.sl.v315 runFirst.sl.v316 runFirst.sl.v317 runFirst.sl.v318 runFirst.sl.v319 runFirst.sl.v320 runFirst.sl.v321
        runFirst.sl.v322 runFirst.sl.v323 runFirst.sl.v326 runFirst.sl.v327 runFirst.sl.v328 runFirst.sl.v329 runFirst.sl.v330
        runFirst.sl.v331 runFirst.sl.v332 runFirst.sl.v333 runFirst.sl.v336 runFirst.sl.v337 runFirst.sl.v338 runFirst.sl.v339
        runFirst.sl.v340 runFirst.sl.v341 runFirst.sl.v342 runFirst.sl.v343 runFirst.sl.v344 runFirst.sl.v345 runFirst.sl.v346
        runFirst.sl.v347 runFirst.sl.v348 runFirst.sl.v349 runFirst.sl.v350 runFirst.sl.v351 runFirst.sl.v352 runFirst.sl.v353
        runFirst.sl.v354 runFirst.sl.v357 runFirst.sl.v358 runFirst.sl.v359 runFirst.sl.v360 runFirst.sl.v361 runFirst.sl.v362
        runFirst.sl.v363 runFirst.sl.v364 runFirst.sl.v367 runFirst.sl.v368 runFirst.sl.v369 runFirst.sl.v370 runFirst.sl.v371
        runFirst.sl.v372 runFirst.sl.v373 runFirst.sl.v374 runFirst.sl.v375 runFirst.sl.v376 runFirst.sl.v377 runFirst.sl.v378
        runFirst.sl.v379 runFirst.sl.v380 runFirst.sl.v381 runFirst.sl.v382 runFirst.sl.v383 runFirst.sl.v384 runFirst.sl.v385
        runFirst.sl.v388 runFirst.sl.v389 runFirst.sl.v390 runFirst.sl.v391 runFirst.sl.v392 runFirst.sl.v393 runFirst.sl.v394
        runFirst.sl.v395 runFirst.sl.v398 runFirst.sl.v399 runFirst.sl.v4 runFirst.sl.v400 runFirst.sl.v401 runFirst.sl.v402 runFirst.sl.v403
        runFirst.sl.v404 runFirst.sl.v405 runFirst.sl.v406 runFirst.sl.v407 runFirst.sl.v408 runFirst.sl.v409 runFirst.sl.v410
        runFirst.sl.v411 runFirst.sl.v412 runFirst.sl.v413 runFirst.sl.v414 runFirst.sl.v415 runFirst.sl.v416 runFirst.sl.v419
        runFirst.sl.v420 runFirst.sl.v421 runFirst.sl.v422 runFirst.sl.v423 runFirst.sl.v424 runFirst.sl.v425 runFirst.sl.v426
        runFirst.sl.v429 runFirst.sl.v430 runFirst.sl.v431 runFirst.sl.v432 runFirst.sl.v433 runFirst.sl.v434 runFirst.sl.v435
        runFirst.sl.v438 runFirst.sl.v439 runFirst.sl.v440 runFirst.sl.v441 runFirst.sl.v442 runFirst.sl.v445 runFirst.sl.v446
        runFirst.sl.v447 runFirst.sl.v448 runFirst.sl.v449 runFirst.sl.v450 runFirst.sl.v451 runFirst.sl.v454 runFirst.sl.v455
        runFirst.sl.v456 runFirst.sl.v457 runFirst.sl.v458 runFirst.sl.v461 runFirst.sl.v462 runFirst.sl.v463 runFirst.sl.v464
        runFirst.sl.v465 runFirst.sl.v466 runFirst.sl.v467 runFirst.sl.v470 runFirst.sl.v471 runFirst.sl.v472 runFirst.sl.v473
        runFirst.sl.v474 runFirst.sl.v477 runFirst.sl.v478 runFirst.sl.v479 runFirst.sl.v480 runFirst.sl.v481 runFirst.sl.v482
        runFirst.sl.v483 runFirst.sl.v486 runFirst.sl.v487 runFirst.sl.v488 runFirst.sl.v489 runFirst.sl.v490 runFirst.sl.v493
        runFirst.sl.v494 runFirst.sl.v495 runFirst.sl.v496 runFirst.sl.v497 runFirst.sl.v498 runFirst.sl.v499 runFirst.sl.v5 runFirst.sl.v502
        runFirst.sl.v503 runFirst.sl.v504 runFirst.sl.v505 runFirst.sl.v506 runFirst.sl.v509 runFirst.sl.v510 runFirst.sl.v511
        runFirst.sl.v512 runFirst.sl.v513 runFirst.sl.v514 runFirst.sl.v515 runFirst.sl.v518 runFirst.sl.v519 runFirst.sl.v520
        runFirst.sl.v521 runFirst.sl.v522 runFirst.sl.v525 runFirst.sl.v526 runFirst.sl.v527 runFirst.sl.v528 runFirst.sl.v529
        runFirst.sl.v530 runFirst.sl.v531 runFirst.sl.v534 runFirst.sl.v535 runFirst.sl.v536 runFirst.sl.v537 runFirst.sl.v538
        runFirst.sl.v541 runFirst.sl.v542 runFirst.sl.v543 runFirst.sl.v544 runFirst.sl.v545 runFirst.sl.v546 runFirst.sl.v547
        runFirst.sl.v550 runFirst.sl.v551 runFirst.sl.v552 runFirst.sl.v553 runFirst.sl.v554 runFirst.sl.v557 runFirst.sl.v558
        runFirst.sl.v559 runFirst.sl.v560 runFirst.sl.v561 runFirst.sl.v562 runFirst.sl.v563 runFirst.sl.v564 runFirst.sl.v565
        runFirst.sl.v566 runFirst.sl.v567 runFirst.sl.v568 runFirst.sl.v569 runFirst.sl.v571 runFirst.sl.v572 runFirst.sl.v573
        runFirst.sl.v574 runFirst.sl.v575 runFirst.sl.v576 runFirst.sl.v577 runFirst.sl.v579 runFirst.sl.v580 runFirst.sl.v581
        runFirst.sl.v582 runFirst.sl.v583 runFirst.sl.v584 runFirst.sl.v585 runFirst.sl.v587 runFirst.sl.v588 runFirst.sl.v589
        runFirst.sl.v590 runFirst.sl.v591 runFirst.sl.v592 runFirst.sl.v593 runFirst.sl.v595 runFirst.sl.v596 runFirst.sl.v597
        runFirst.sl.v598 runFirst.sl.v599 runFirst.sl.v6 runFirst.sl.v600 runFirst.sl.v606 runFirst.sl.v608 runFirst.sl.v614 runFirst.sl.v616
        runFirst.sl.v626 runFirst.sl.v627 runFirst.sl.v628 runFirst.sl.v630 runFirst.sl.v631 runFirst.sl.v633 runFirst.sl.v634
        runFirst.sl.v635 runFirst.sl.v636 runFirst.sl.v637 runFirst.sl.v638 runFirst.sl.v640 runFirst.sl.v641 runFirst.sl.v642
        runFirst.sl.v643 runFirst.sl.v644 runFirst.sl.v645 runFirst.sl.v647 runFirst.sl.v648 runFirst.sl.v649 runFirst.sl.v650
        runFirst.sl.v651 runFirst.sl.v652 runFirst.sl.v654 runFirst.sl.v655 runFirst.sl.v656 runFirst.sl.v657 runFirst.sl.v658
        runFirst.sl.v659 runFirst.sl.v661 runFirst.sl.v662 runFirst.sl.v663 runFirst.sl.v664 runFirst.sl.v665 runFirst.sl.v666
        runFirst.sl.v668 runFirst.sl.v669 runFirst.sl.v670 runFirst.sl.v671 runFirst.sl.v672 runFirst.sl.v673 runFirst.sl.v675
        runFirst.sl.v676 runFirst.sl.v677 runFirst.sl.v678 runFirst.sl.v679 runFirst.sl.v680 runFirst.sl.v682 runFirst.sl.v683
        runFirst.sl.v684 runFirst.sl.v685 runFirst.sl.v686 runFirst.sl.v687 runFirst.sl.v689 runFirst.sl.v690 runFirst.sl.v691
        runFirst.sl.v692 runFirst.sl.v693 runFirst.sl.v694 runFirst.sl.v696 runFirst.sl.v697 runFirst.sl.v698 runFirst.sl.v699
        runFirst.sl.v700 runFirst.sl.v701 runFirst.sl.v703 runFirst.sl.v704 runFirst.sl.v705 runFirst.sl.v706 runFirst.sl.v707
        runFirst.sl.v708 runFirst.sl.v71 runFirst.sl.v710 runFirst.sl.v711 runFirst.sl.v712 runFirst.sl.v713 runFirst.sl.v714
        runFirst.sl.v715 runFirst.sl.v717 runFirst.sl.v718 runFirst.sl.v719 runFirst.sl.v720 runFirst.sl.v721 runFirst.sl.v722
        runFirst.sl.v724 runFirst.sl.v725 runFirst.sl.v726 runFirst.sl.v727 runFirst.sl.v728 runFirst.sl.v729 runFirst.sl.v73
        runFirst.sl.v731 runFirst.sl.v732 runFirst.sl.v733 runFirst.sl.v734 runFirst.sl.v735 runFirst.sl.v736 runFirst.sl.v738
        runFirst.sl.v739 runFirst.sl.v74 runFirst.sl.v740 runFirst.sl.v741 runFirst.sl.v742 runFirst.sl.v743 runFirst.sl.v745
        runFirst.sl.v746 runFirst.sl.v747 runFirst.sl.v748 runFirst.sl.v749 runFirst.sl.v75 runFirst.sl.v750 runFirst.sl.v752
        runFirst.sl.v753 runFirst.sl.v754 runFirst.sl.v755 runFirst.sl.v756 runFirst.sl.v757 runFirst.sl.v759 runFirst.sl.v76
        runFirst.sl.v760 runFirst.sl.v761 runFirst.sl.v762 runFirst.sl.v763 runFirst.sl.v764 runFirst.sl.v766 runFirst.sl.v767
        runFirst.sl.v768 runFirst.sl.v769 runFirst.sl.v770 runFirst.sl.v771 runFirst.sl.v773 runFirst.sl.v774 runFirst.sl.v775
        runFirst.sl.v776 runFirst.sl.v777 runFirst.sl.v778 runFirst.sl.v780 runFirst.sl.v781 runFirst.sl.v782 runFirst.sl.v783
        runFirst.sl.v784 runFirst.sl.v785 runFirst.sl.v787 runFirst.sl.v788 runFirst.sl.v789 runFirst.sl.v790 runFirst.sl.v791
        runFirst.sl.v792 runFirst.sl.v794 runFirst.sl.v795 runFirst.sl.v796 runFirst.sl.v797 runFirst.sl.v798 runFirst.sl.v799 runFirst.sl.v8
        runFirst.sl.v80 runFirst.sl.v801 runFirst.sl.v802 runFirst.sl.v803 runFirst.sl.v804 runFirst.sl.v805 runFirst.sl.v806
        runFirst.sl.v808 runFirst.sl.v809 runFirst.sl.v810 runFirst.sl.v811 runFirst.sl.v812 runFirst.sl.v813 runFirst.sl.v815
        runFirst.sl.v816 runFirst.sl.v817 runFirst.sl.v818 runFirst.sl.v819 runFirst.sl.v820 runFirst.sl.v822 runFirst.sl.v823
        runFirst.sl.v824 runFirst.sl.v825 runFirst.sl.v826 runFirst.sl.v827 runFirst.sl.v829 runFirst.sl.v830 runFirst.sl.v831
        runFirst.sl.v832 runFirst.sl.v833 runFirst.sl.v834 runFirst.sl.v836 runFirst.sl.v837 runFirst.sl.v838 runFirst.sl.v839
        runFirst.sl.v840 runFirst.sl.v841 runFirst.sl.v843 runFirst.sl.v844 runFirst.sl.v845 runFirst.sl.v846 runFirst.sl.v847
        runFirst.sl.v848 runFirst.sl.v850 runFirst.sl.v851 runFirst.sl.v852 runFirst.sl.v853 runFirst.sl.v854 runFirst.sl.v855
        runFirst.sl.v857 runFirst.sl.v858 runFirst.sl.v859 runFirst.sl.v860 runFirst.sl.v861 runFirst.sl.v862 runFirst.sl.v864
        runFirst.sl.v865 runFirst.sl.v866 runFirst.sl.v867 runFirst.sl.v868 runFirst.sl.v869 runFirst.sl.v871 runFirst.sl.v872
        runFirst.sl.v873 runFirst.sl.v874 runFirst.sl.v875 runFirst.sl.v876 runFirst.sl.v878 runFirst.sl.v879 runFirst.sl.v880
        runFirst.sl.v881 runFirst.sl.v882 runFirst.sl.v883 runFirst.sl.v885 runFirst.sl.v886 runFirst.sl.v887 runFirst.sl.v888
        runFirst.sl.v889 runFirst.sl.v890 runFirst.sl.v892 runFirst.sl.v893 runFirst.sl.v894 runFirst.sl.v895 runFirst.sl.v896
        runFirst.sl.v897 runFirst.sl.v899 runFirst.sl.v9 runFirst.sl.v900 runFirst.sl.v901 runFirst.sl.v902 runFirst.sl.v903 runFirst.sl.v904
        runFirst.sl.v906 runFirst.sl.v907 runFirst.sl.v908 runFirst.sl.v909 runFirst.sl.v910 runFirst.sl.v911 runFirst.sl.v913
        runFirst.sl.v914 runFirst.sl.v915 runFirst.sl.v916 runFirst.sl.v917 runFirst.sl.v918 runFirst.sl.v920 runFirst.sl.v921
        runFirst.sl.v922 runFirst.sl.v923 runFirst.sl.v924 runFirst.sl.v925 runFirst.sl.v927 runFirst.sl.v928 runFirst.sl.v929
        runFirst.sl.v93 runFirst.sl.v930 runFirst.sl.v931 runFirst.sl.v932 runFirst.sl.v934 runFirst.sl.v935 runFirst.sl.v936
        runFirst.sl.v937 runFirst.sl.v938 runFirst.sl.v939 runFirst.sl.v941 runFirst.sl.v942 runFirst.sl.v943 runFirst.sl.v944
        runFirst.sl.v945 runFirst.sl.v946 runFirst.sl.v948 runFirst.sl.v949 runFirst.sl.v950 runFirst.sl.v951 runFirst.sl.v952
        runFirst.sl.v953 runFirst.sl.v955 runFirst.sl.v956 runFirst.sl.v957 runFirst.sl.v958 runFirst.sl.v959 runFirst.sl.v960
        runFirst.sl.v962 runFirst.sl.v963 runFirst.sl.v964 runFirst.sl.v965 runFirst.sl.v966 runFirst.sl.v967 runFirst.sl.v969
        runFirst.sl.v970 runFirst.sl.v971 runFirst.sl.v972 runFirst.sl.v973 runFirst.sl.v974 runFirst.sl.v976 runFirst.sl.v977
        runFirst.sl.v978 runFirst.sl.v979 runFirst.sl.v980 runFirst.sl.v981 runFirst.sl.v983 runFirst.sl.v984 runFirst.sl.v985
        runFirst.sl.v986 runFirst.sl.v987 runFirst.sl.v988 runFirst.sl.v990 runFirst.sl.v991 runFirst.sl.v992 runFirst.sl.v993
        runFirst.sl.v994 runFirst.sl.v995 runFirst.sl.v997 runFirst.sl.v998 runFirst.sl.v999 k0_pay279 k0_pay280 k0_pay281 k0_pay282
        k0_pay283 k0_pay284 k0_pay285 k0_pay286 k0_pay287 k0_pay288 k0_pay289 k0_pay290 k0_pay291 k0_pay292 k0_pay293 k0_pay386
    refine outBlk_congr (L := fun h => lNew (maskS (sAt (arg3.view.read (Elt F) f3) (qtOf (arg2.view.read (Elt F) f2)) (i 1).val h)) (memberAt (mS (arg3.view.read (Elt F) f3) (qtOf (arg2.view.read (Elt F) f2)) (k0_t1_loop i).trips) h) (memberAt (lS (arg3.view.read (Elt F) f3) (qtOf (arg2.view.read (Elt F) f2)) (k0_t1_loop i).trips) h))
      (A := fun h => accNew (maskS (sAt (arg3.view.read (Elt F) f3) (qtOf (arg2.view.read (Elt F) f2)) (i 1).val h)) (memberAt (mS (arg3.view.read (Elt F) f3) (qtOf (arg2.view.read (Elt F) f2)) (k0_t1_loop i).trips) h)
        (memberAt (aS (arg3.view.read (Elt F) f3) (qtOf (arg2.view.read (Elt F) f2)) (vtOf (arg4.view.read (Elt F) f4)) (k0_t1_loop i).trips) h) (vSl (vtOf (arg4.view.read (Elt F) f4)) (i 1).val h)) _ _ _ _ _ _ _ _ ?_ ?_ ?_ ?_ ?_ ?_ ?_ ?_
    all_goals simp (disch := decide) only [↓View.readCov_skip, View.readCov_cons_toLoadRect, shapeCast_shapeCast]
    all_goals simp (disch := first | exact read_fillW _ _ _ _ (by decide) | exact read_fill _ _ _ _ (by decide)) only [read_mB, read_lB, read_aB, hQC, hQ, hVC, hV, View.readAt_eq_ld, cast_ld_lit, shapeCast_shapeCast,
        ld_kSl (arg3.view.read (Elt F) f3) (i 1).val 0 (k0_off33 i) _ (k0_off33_eq i), ld_kSl (arg3.view.read (Elt F) f3) (i 1).val 1 (k0_off34 i) _ (k0_off34_eq i), ld_kSl (arg3.view.read (Elt F) f3) (i 1).val 2 (k0_off35 i) _ (k0_off35_eq i), ld_kSl (arg3.view.read (Elt F) f3) (i 1).val 3 (k0_off36 i) _ (k0_off36_eq i), ld_kSl (arg3.view.read (Elt F) f3) (i 1).val 4 (k0_off37 i) _ (k0_off37_eq i), ld_kSl (arg3.view.read (Elt F) f3) (i 1).val 5 (k0_off38 i) _ (k0_off38_eq i), ld_kSl (arg3.view.read (Elt F) f3) (i 1).val 6 (k0_off39 i) _ (k0_off39_eq i), ld_kSl (arg3.view.read (Elt F) f3) (i 1).val 7 (k0_off40 i) _ (k0_off40_eq i),
        cast_ld_vSl (vtOf (arg4.view.read (Elt F) f4)) (i 1).val 0 (k0_off41 i) _ _ (k0_off41_eq i), cast_ld_vSl (vtOf (arg4.view.read (Elt F) f4)) (i 1).val 1 (k0_off42 i) _ _ (k0_off42_eq i), cast_ld_vSl (vtOf (arg4.view.read (Elt F) f4)) (i 1).val 2 (k0_off43 i) _ _ (k0_off43_eq i), cast_ld_vSl (vtOf (arg4.view.read (Elt F) f4)) (i 1).val 3 (k0_off44 i) _ _ (k0_off44_eq i), cast_ld_vSl (vtOf (arg4.view.read (Elt F) f4)) (i 1).val 4 (k0_off45 i) _ _ (k0_off45_eq i), cast_ld_vSl (vtOf (arg4.view.read (Elt F) f4)) (i 1).val 5 (k0_off46 i) _ _ (k0_off46_eq i), cast_ld_vSl (vtOf (arg4.view.read (Elt F) f4)) (i 1).val 6 (k0_off47 i) _ _ (k0_off47_eq i), cast_ld_vSl (vtOf (arg4.view.read (Elt F) f4)) (i 1).val 7 (k0_off48 i) _ _ (k0_off48_eq i)]
    all_goals
      delta meanH accNew lNew prob alpha mNew maskS sAt score
      rfl
  isplitl [H6]
  · iexists _; isplitr; swap; · iexact H6
    ipureintro
    exact hV
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  iexists _; iexact H13

end Cert.KernelIdeal.Attn

end
-- ==== Proof.RunLater.lean ====
/- The body. -/
module

public import proofs.«01_k».proof.Proof.Loop
public import Idealize.ShloMosaic.Lib.LoopRemainder

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.ShloMosaic.StackMember
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- The body at a later query block of a batch. -/
theorem runLater (c : Dev nD) (i : grid0.Coords) (hc : ¬ Scalar.cmpi .ne (Scalar.extui (Scalar.cmpi .eq (BitVec.ofNat 32 (i 1).val) 0#32)) 0#32 = 1#1) (arg2 : Memref sig .tc .vmem S256x1024 .bf16) (harg2 : arg2.IsWhole) (arg3 : Memref sig .tc .vmem S2048x1024 .bf16) (harg3 : arg3.IsWhole) (arg4 : Memref sig .tc .vmem S2048x512 .bf16) (harg4 : arg4.IsWhole) (arg5 : Memref sig .tc .vmem S256x512 .f32) (harg5 : arg5.IsWhole) (arg6 : Memref sig .tc .vmem S8x512x256 .bf16) (harg6 : arg6.IsWhole) (arg7 : Memref sig .tc .vmem S8x128x256 .bf16) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S8x1x256 .f32) (harg10 : arg10.IsWhole) (arg11 : Memref sig .tc .vmem S8x64x256 .f32) (harg11 : arg11.IsWhole) (arg12 : Memref sig .tc .vmem S8x256x256 .f32) (harg12 : arg12.IsWhole) (arg13 : Memref sig .tc .vmem S8x256x256 .bf16) (harg13 : arg13.IsWhole)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) :
    iprop(pts c arg2 f2 ∗ pts c arg3 f3 ∗ pts c arg4 f4 ∗ pts c arg5 f5 ∗ pt c arg6 f6 ∗ pt c arg7 f7 ∗ pt c arg8 f8 ∗ pt c arg9 f9 ∗ pt c arg10 f10 ∗ pt c arg11 f11 ∗ pt c arg12 f12 ∗ pt c arg13 f13)
    ⊢ wp frame (wpE (defs₀ (F := F)) Variants.none c none) Set.univ (cc0__attn_kernel (F := F) i arg2 harg2 arg3 harg3 arg4 harg4 arg5 harg5 arg6 harg6 arg7 harg7 arg8 harg8 arg9 harg9 arg10 harg10 arg11 harg11 arg12 harg12 arg13 harg13)
      (fun _ => iprop(pts c arg2 f2 ∗ pts c arg3 f3 ∗ pts c arg4 f4
          ∗ (∃ f, ⌜arg5.view.read (Elt F) f = bodyOut i (arg2.view.read (Elt F) f2) (arg3.view.read (Elt F) f3) (arg6.view.read (Elt F) f6)⌝ ∗ pts c arg5 f)
          ∗ pt c arg6 f6
          ∗ (∃ f, pt c arg7 f) ∗ (∃ f, pt c arg8 f) ∗ (∃ f, pt c arg9 f) ∗ (∃ f, pt c arg10 f) ∗ (∃ f, pt c arg11 f) ∗ (∃ f, pt c arg12 f) ∗ (∃ f, pt c arg13 f))) := by
  simp only [cc0__attn_kernel_eq_skeleton]; unfold cc0__attn_kernel_skel
  simp only [k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton]
  iintro ⟨H2, H3, H4, H5, H6, H7, H8, H9, H10, H11, H12, H13⟩
  sl_exec
  sl_step
  isplitl [H2]; · iexact H2
  isplitl [H3]; · iexact H3
  isplitl [H4]; · iexact H4
  isplitl [H5]
  · iexists _; isplitr; swap; · iexact H5
    ipureintro
    refine (read_fill arg5.view _ _ _ (by decide)).trans ?_
    have hQ : arg7.view.read (Elt F) (arg7.view.writes (Elt F) arg7.view.junk (runLater.sl.H7_8 c arg2 f2)) = qtOf (arg2.view.read (Elt F) f2) := by
      unfold qtOf
      refine read_writes8 (Val := Elt F) (e := .bf16) (a := 128) (b := 256) arg7.view _ (qT (arg2.view.read (Elt F) f2)) shapeCasts_S128x256_S1x128x256
        _ _ _ _ _ _ _ _ _ _ _ _ _ _ _ _ ?_ ?_ ?_ ?_ ?_ ?_ ?_ ?_
      all_goals
        delta k0_pay266 k0_pay267 k0_pay268 k0_pay269 k0_pay270 k0_pay271 k0_pay272 k0_pay273 runLater.sl.v0 runLater.sl.v1 runLater.sl.v11
          runLater.sl.v12 runLater.sl.v13 runLater.sl.v14 runLater.sl.v15 runLater.sl.v16 runLater.sl.v18 runLater.sl.v19 runLater.sl.v2
          runLater.sl.v20 runLater.sl.v21 runLater.sl.v22 runLater.sl.v23 runLater.sl.v25 runLater.sl.v26 runLater.sl.v27 runLater.sl.v28
          runLater.sl.v29 runLater.sl.v30 runLater.sl.v4 runLater.sl.v5 runLater.sl.v6 runLater.sl.v8 runLater.sl.v9
      all_goals simp only [View.readAt_eq_ld]
      exacts [pay_qT _ 0 _ _ rfl, pay_qT _ 1 _ _ rfl, pay_qT _ 2 _ _ rfl, pay_qT _ 3 _ _ rfl, pay_qT _ 4 _ _ rfl, pay_qT _ 5 _ _ rfl, pay_qT _ 6 _ _ rfl, pay_qT _ 7 _ _ rfl]
    have hQC := readCov_of_read arg7.view _ _ hQ
    delta runLater.sl.H10_8 runLater.sl.H11_8 runLater.sl.H12_8 runLater.sl.H13_8 runLater.sl.H9_8 runLater.sl.cst_123 runLater.sl.cst_142
        runLater.sl.cst_308 runLater.sl.cst_419 runLater.sl.r runLater.sl.r_1 runLater.sl.r_2 runLater.sl.r_3 runLater.sl.r_4 runLater.sl.r_5
        runLater.sl.r_6 runLater.sl.r_7 runLater.sl.v0 runLater.sl.v1 runLater.sl.v106 runLater.sl.v11 runLater.sl.v119 runLater.sl.v12
        runLater.sl.v13 runLater.sl.v132 runLater.sl.v14 runLater.sl.v145 runLater.sl.v15 runLater.sl.v158 runLater.sl.v16 runLater.sl.v171
        runLater.sl.v18 runLater.sl.v182 runLater.sl.v184 runLater.sl.v19 runLater.sl.v194 runLater.sl.v195 runLater.sl.v196 runLater.sl.v197
        runLater.sl.v198 runLater.sl.v199 runLater.sl.v2 runLater.sl.v20 runLater.sl.v202 runLater.sl.v203 runLater.sl.v205 runLater.sl.v206
        runLater.sl.v208 runLater.sl.v209 runLater.sl.v21 runLater.sl.v210 runLater.sl.v211 runLater.sl.v212 runLater.sl.v213
        runLater.sl.v214 runLater.sl.v215 runLater.sl.v216 runLater.sl.v217 runLater.sl.v218 runLater.sl.v219 runLater.sl.v22
        runLater.sl.v220 runLater.sl.v221 runLater.sl.v222 runLater.sl.v223 runLater.sl.v224 runLater.sl.v225 runLater.sl.v226
        runLater.sl.v227 runLater.sl.v228 runLater.sl.v229 runLater.sl.v23 runLater.sl.v230 runLater.sl.v233 runLater.sl.v234
        runLater.sl.v235 runLater.sl.v236 runLater.sl.v237 runLater.sl.v238 runLater.sl.v239 runLater.sl.v240 runLater.sl.v243
        runLater.sl.v244 runLater.sl.v245 runLater.sl.v246 runLater.sl.v247 runLater.sl.v248 runLater.sl.v249 runLater.sl.v25
        runLater.sl.v250 runLater.sl.v251 runLater.sl.v252 runLater.sl.v253 runLater.sl.v254 runLater.sl.v255 runLater.sl.v256
        runLater.sl.v257 runLater.sl.v258 runLater.sl.v259 runLater.sl.v26 runLater.sl.v260 runLater.sl.v261 runLater.sl.v264
        runLater.sl.v265 runLater.sl.v266 runLater.sl.v267 runLater.sl.v268 runLater.sl.v269 runLater.sl.v27 runLater.sl.v270
        runLater.sl.v271 runLater.sl.v274 runLater.sl.v275 runLater.sl.v276 runLater.sl.v277 runLater.sl.v278 runLater.sl.v279
        runLater.sl.v28 runLater.sl.v280 runLater.sl.v281 runLater.sl.v282 runLater.sl.v283 runLater.sl.v284 runLater.sl.v285
        runLater.sl.v286 runLater.sl.v287 runLater.sl.v288 runLater.sl.v289 runLater.sl.v29 runLater.sl.v290 runLater.sl.v291
        runLater.sl.v292 runLater.sl.v295 runLater.sl.v296 runLater.sl.v297 runLater.sl.v298 runLater.sl.v299 runLater.sl.v30
        runLater.sl.v300 runLater.sl.v301 runLater.sl.v302 runLater.sl.v305 runLater.sl.v306 runLater.sl.v307 runLater.sl.v308
        runLater.sl.v309 runLater.sl.v310 runLater.sl.v311 runLater.sl.v312 runLater.sl.v313 runLater.sl.v314 runLater.sl.v315
        runLater.sl.v316 runLater.sl.v317 runLater.sl.v318 runLater.sl.v319 runLater.sl.v320 runLater.sl.v321 runLater.sl.v322
        runLater.sl.v323 runLater.sl.v326 runLater.sl.v327 runLater.sl.v328 runLater.sl.v329 runLater.sl.v330 runLater.sl.v331
        runLater.sl.v332 runLater.sl.v333 runLater.sl.v336 runLater.sl.v337 runLater.sl.v338 runLater.sl.v339 runLater.sl.v340
        runLater.sl.v341 runLater.sl.v342 runLater.sl.v343 runLater.sl.v344 runLater.sl.v345 runLater.sl.v346 runLater.sl.v347
        runLater.sl.v348 runLater.sl.v349 runLater.sl.v350 runLater.sl.v351 runLater.sl.v352 runLater.sl.v353 runLater.sl.v354
        runLater.sl.v357 runLater.sl.v358 runLater.sl.v359 runLater.sl.v360 runLater.sl.v361 runLater.sl.v362 runLater.sl.v363
        runLater.sl.v364 runLater.sl.v367 runLater.sl.v368 runLater.sl.v369 runLater.sl.v370 runLater.sl.v371 runLater.sl.v372
        runLater.sl.v373 runLater.sl.v374 runLater.sl.v375 runLater.sl.v376 runLater.sl.v377 runLater.sl.v378 runLater.sl.v379
        runLater.sl.v380 runLater.sl.v381 runLater.sl.v382 runLater.sl.v383 runLater.sl.v384 runLater.sl.v385 runLater.sl.v388
        runLater.sl.v389 runLater.sl.v390 runLater.sl.v391 runLater.sl.v392 runLater.sl.v393 runLater.sl.v394 runLater.sl.v395
        runLater.sl.v398 runLater.sl.v399 runLater.sl.v4 runLater.sl.v400 runLater.sl.v401 runLater.sl.v402 runLater.sl.v403 runLater.sl.v404
        runLater.sl.v405 runLater.sl.v406 runLater.sl.v407 runLater.sl.v408 runLater.sl.v409 runLater.sl.v410 runLater.sl.v411
        runLater.sl.v412 runLater.sl.v413 runLater.sl.v414 runLater.sl.v415 runLater.sl.v416 runLater.sl.v419 runLater.sl.v420
        runLater.sl.v421 runLater.sl.v422 runLater.sl.v423 runLater.sl.v424 runLater.sl.v425 runLater.sl.v426 runLater.sl.v429
        runLater.sl.v430 runLater.sl.v431 runLater.sl.v432 runLater.sl.v433 runLater.sl.v434 runLater.sl.v435 runLater.sl.v438
        runLater.sl.v439 runLater.sl.v440 runLater.sl.v441 runLater.sl.v442 runLater.sl.v445 runLater.sl.v446 runLater.sl.v447
        runLater.sl.v448 runLater.sl.v449 runLater.sl.v450 runLater.sl.v451 runLater.sl.v454 runLater.sl.v455 runLater.sl.v456
        runLater.sl.v457 runLater.sl.v458 runLater.sl.v461 runLater.sl.v462 runLater.sl.v463 runLater.sl.v464 runLater.sl.v465
        runLater.sl.v466 runLater.sl.v467 runLater.sl.v470 runLater.sl.v471 runLater.sl.v472 runLater.sl.v473 runLater.sl.v474
        runLater.sl.v477 runLater.sl.v478 runLater.sl.v479 runLater.sl.v480 runLater.sl.v481 runLater.sl.v482 runLater.sl.v483
        runLater.sl.v486 runLater.sl.v487 runLater.sl.v488 runLater.sl.v489 runLater.sl.v490 runLater.sl.v493 runLater.sl.v494
        runLater.sl.v495 runLater.sl.v496 runLater.sl.v497 runLater.sl.v498 runLater.sl.v499 runLater.sl.v5 runLater.sl.v502 runLater.sl.v503
        runLater.sl.v504 runLater.sl.v505 runLater.sl.v506 runLater.sl.v509 runLater.sl.v510 runLater.sl.v511 runLater.sl.v512
        runLater.sl.v513 runLater.sl.v514 runLater.sl.v515 runLater.sl.v518 runLater.sl.v519 runLater.sl.v520 runLater.sl.v521
        runLater.sl.v522 runLater.sl.v525 runLater.sl.v526 runLater.sl.v527 runLater.sl.v528 runLater.sl.v529 runLater.sl.v530
        runLater.sl.v531 runLater.sl.v534 runLater.sl.v535 runLater.sl.v536 runLater.sl.v537 runLater.sl.v538 runLater.sl.v541
        runLater.sl.v542 runLater.sl.v543 runLater.sl.v544 runLater.sl.v545 runLater.sl.v546 runLater.sl.v547 runLater.sl.v550
        runLater.sl.v551 runLater.sl.v552 runLater.sl.v553 runLater.sl.v554 runLater.sl.v557 runLater.sl.v558 runLater.sl.v559
        runLater.sl.v560 runLater.sl.v561 runLater.sl.v562 runLater.sl.v563 runLater.sl.v564 runLater.sl.v565 runLater.sl.v566
        runLater.sl.v567 runLater.sl.v568 runLater.sl.v569 runLater.sl.v571 runLater.sl.v572 runLater.sl.v573 runLater.sl.v574
        runLater.sl.v575 runLater.sl.v576 runLater.sl.v577 runLater.sl.v579 runLater.sl.v580 runLater.sl.v581 runLater.sl.v582
        runLater.sl.v583 runLater.sl.v584 runLater.sl.v585 runLater.sl.v587 runLater.sl.v588 runLater.sl.v589 runLater.sl.v590
        runLater.sl.v591 runLater.sl.v592 runLater.sl.v593 runLater.sl.v595 runLater.sl.v596 runLater.sl.v597 runLater.sl.v598
        runLater.sl.v599 runLater.sl.v6 runLater.sl.v600 runLater.sl.v606 runLater.sl.v608 runLater.sl.v614 runLater.sl.v616 runLater.sl.v71
        runLater.sl.v73 runLater.sl.v74 runLater.sl.v75 runLater.sl.v76 runLater.sl.v8 runLater.sl.v80 runLater.sl.v9 runLater.sl.v93
        k0_pay279 k0_pay280 k0_pay281 k0_pay282 k0_pay283 k0_pay284 k0_pay285 k0_pay286 k0_pay287 k0_pay288 k0_pay289 k0_pay290
        k0_pay291 k0_pay292 k0_pay293 k0_pay386
    refine outBlk_congr (L := fun h => lNew (maskS (sAt (arg3.view.read (Elt F) f3) (qtOf (arg2.view.read (Elt F) f2)) (i 1).val h)) (memberAt (mS (arg3.view.read (Elt F) f3) (qtOf (arg2.view.read (Elt F) f2)) (k0_t1_loop i).trips) h) (memberAt (lS (arg3.view.read (Elt F) f3) (qtOf (arg2.view.read (Elt F) f2)) (k0_t1_loop i).trips) h))
      (A := fun h => accNew (maskS (sAt (arg3.view.read (Elt F) f3) (qtOf (arg2.view.read (Elt F) f2)) (i 1).val h)) (memberAt (mS (arg3.view.read (Elt F) f3) (qtOf (arg2.view.read (Elt F) f2)) (k0_t1_loop i).trips) h)
        (memberAt (aS (arg3.view.read (Elt F) f3) (qtOf (arg2.view.read (Elt F) f2)) (arg6.view.read (Elt F) f6) (k0_t1_loop i).trips) h) (vSl (arg6.view.read (Elt F) f6) (i 1).val h)) _ _ _ _ _ _ _ _ ?_ ?_ ?_ ?_ ?_ ?_ ?_ ?_
    all_goals simp (disch := decide) only [↓View.readCov_skip, View.readCov_cons_toLoadRect, shapeCast_shapeCast]
    all_goals simp (disch := first | exact read_fillW _ _ _ _ (by decide) | exact read_fill _ _ _ _ (by decide)) only [read_mB, read_lB, read_aB, hQC, hQ, View.readAt_eq_ld, cast_ld_lit, shapeCast_shapeCast,
        ld_kSl (arg3.view.read (Elt F) f3) (i 1).val 0 (k0_off33 i) _ (k0_off33_eq i), ld_kSl (arg3.view.read (Elt F) f3) (i 1).val 1 (k0_off34 i) _ (k0_off34_eq i), ld_kSl (arg3.view.read (Elt F) f3) (i 1).val 2 (k0_off35 i) _ (k0_off35_eq i), ld_kSl (arg3.view.read (Elt F) f3) (i 1).val 3 (k0_off36 i) _ (k0_off36_eq i), ld_kSl (arg3.view.read (Elt F) f3) (i 1).val 4 (k0_off37 i) _ (k0_off37_eq i), ld_kSl (arg3.view.read (Elt F) f3) (i 1).val 5 (k0_off38 i) _ (k0_off38_eq i), ld_kSl (arg3.view.read (Elt F) f3) (i 1).val 6 (k0_off39 i) _ (k0_off39_eq i), ld_kSl (arg3.view.read (Elt F) f3) (i 1).val 7 (k0_off40 i) _ (k0_off40_eq i),
        cast_ld_vSl (arg6.view.read (Elt F) f6) (i 1).val 0 (k0_off41 i) _ _ (k0_off41_eq i), cast_ld_vSl (arg6.view.read (Elt F) f6) (i 1).val 1 (k0_off42 i) _ _ (k0_off42_eq i), cast_ld_vSl (arg6.view.read (Elt F) f6) (i 1).val 2 (k0_off43 i) _ _ (k0_off43_eq i), cast_ld_vSl (arg6.view.read (Elt F) f6) (i 1).val 3 (k0_off44 i) _ _ (k0_off44_eq i), cast_ld_vSl (arg6.view.read (Elt F) f6) (i 1).val 4 (k0_off45 i) _ _ (k0_off45_eq i), cast_ld_vSl (arg6.view.read (Elt F) f6) (i 1).val 5 (k0_off46 i) _ _ (k0_off46_eq i), cast_ld_vSl (arg6.view.read (Elt F) f6) (i 1).val 6 (k0_off47 i) _ _ (k0_off47_eq i), cast_ld_vSl (arg6.view.read (Elt F) f6) (i 1).val 7 (k0_off48 i) _ _ (k0_off48_eq i)]
    all_goals
      delta meanH accNew lNew prob alpha mNew maskS sAt score
      rfl
  isplitl [H6]
  · iexact H6

  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  iexists _; iexact H13

end Cert.KernelIdeal.Attn

end
-- ==== Proof.Data.lean ====
/- The pipeline around the body: what each grid point finds and leaves, the run of the whole kernel, and its frame. -/
module

public import proofs.«01_k».proof.Proof.RunFirst
public import proofs.«01_k».proof.Proof.RunLater
public import proofs.«01_k».proof.Proof.Gen.KernelIdeal.Frame
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.ShloMosaic.StackMember
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The grid -/

theorem coord_bound (i : grid0.Coords) : (i 1).val < 8 := (i 1).isLt

/-- The body's test for a batch's first query block. -/
theorem first_iff (i : grid0.Coords) :
    Scalar.cmpi .ne (Scalar.extui (Scalar.cmpi .eq (BitVec.ofNat 32 (i 1).val) 0#32)) 0#32 = 1#1 ↔ (i 1).val = 0 :=
  (by decide : ∀ x : Fin 8, Scalar.cmpi .ne (Scalar.extui (Scalar.cmpi .eq (BitVec.ofNat 32 x.val) 0#32)) 0#32 = 1#1 ↔ x.val = 0) ⟨(i 1).val, coord_bound i⟩

/-- A query block visits the key blocks before its own. -/
theorem trips_eq (i : grid0.Coords) : (k0_t1_loop i).trips = (i 1).val :=
  (by decide : ∀ x : Fin 8, Scf.trips 0#32 (Scalar.addi 0#32 (Scalar.muli (Scalar.divsi (Scalar.subi (BitVec.ofNat 32 x.val) 0#32) 1#32) 1#32)) 1#32 = x.val)
    ⟨(i 1).val, coord_bound i⟩

theorem coord0 (t : Fin cfg0.N) : (grid0.coords t 0).val = t.val / 8 % 8 :=
  Pipeline.Grid.coords_val (G := grid0) t 0 (by decide) rfl
theorem coord1 (t : Fin cfg0.N) : (grid0.coords t 1).val = t.val % 8 := by
  have := Pipeline.Grid.coords_val (G := grid0) t 1 (S := 1) (B := 8) (by decide) rfl
  rwa [Nat.div_one] at this

/-! ## What is held between points -/

/-- Before point `n`: after a first point the scratch holds the transposed values of the block the point before worked on;
    the other scratch buffers hold anything. -/
def kept (c : Dev nD) (n : ℕ) : sProp 𝕄 :=
  iprop((∃ f : Bf (F := F) c (Memref.whole cc0_scratch0), ⌜∀ s : Fin cfg0.N, s.val + 1 = n → (Memref.whole cc0_scratch0).view.read (Elt F) f = vtOf (iblk m c 2 s)⌝ ∗ pt c (Memref.whole cc0_scratch0) f)
    ∗ (∃ f : Bf (F := F) c (Memref.whole cc0_scratch1), pt c (Memref.whole cc0_scratch1) f)
    ∗ (∃ f : Bf (F := F) c (Memref.whole cc0_scratch2), pt c (Memref.whole cc0_scratch2) f)
    ∗ (∃ f : Bf (F := F) c (Memref.whole cc0_scratch3), pt c (Memref.whole cc0_scratch3) f)
    ∗ (∃ f : Bf (F := F) c (Memref.whole cc0_scratch4), pt c (Memref.whole cc0_scratch4) f)
    ∗ (∃ f : Bf (F := F) c (Memref.whole cc0_scratch5), pt c (Memref.whole cc0_scratch5) f)
    ∗ (∃ f : Bf (F := F) c (Memref.whole cc0_scratch6), pt c (Memref.whole cc0_scratch6) f)
    ∗ (∃ f : Bf (F := F) c (Memref.whole cc0_scratch7), pt c (Memref.whole cc0_scratch7) f)
    ∗ ∃ r, prngReg c r)

/-- The arrays as launched; after the body at point `t` the inputs' blocks as they were and the output's block worked out. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => bodyOut (grid0.coords t) (iblk m c 0 t) (iblk m c 1 t) (vtOf (iblk m c 2 t))
  Φ n := kept m c n.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = bodyOut (grid0.coords t) (iblk m c 0 t) (iblk m c 1 t) (vtOf (iblk m c 2 t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Within a batch the block of values stays. -/
theorem vals_stay (c : Dev nD) (s t : Fin cfg0.N) (h : s.val + 1 = t.val) (hm : t.val % 8 ≠ 0) : iblk m c 2 s = iblk m c 2 t := by
  have e : ∀ (t : Fin cfg0.N) d, (dats m 0 c).fetched 2 t d = iblk m c 2 t := fun t d => by
    unfold Dat.fetched Dat.blockOf iblk; rw [A_eq]; try rfl
  have hf : (cfg0.win 2).fetch t = false := by
    rw [← Bool.not_eq_true, fetch0_2]; exact hm
  obtain ⟨-, hix⟩ := (cfg0.win 2).index_eq_of_fetch rfl t hf
  have hs : (⟨t.val - 1, Nat.lt_of_le_of_lt (Nat.sub_le _ _) t.isLt⟩ : Fin cfg0.N) = s := Fin.ext (by show t.val - 1 = s.val; omega)
  rw [hs] at hix
  exact (e s (iblk m c 2 t)).symm.trans (((dats m 0 c).fetched_congr 2 hix.symm rfl _).trans (e t _))

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, after0_0, after0_1, after0_2, after0_3]
  rw [show (dats m 0 c).Φ t.succ = kept m c (t.val + 1) from rfl, show (dats m 0 c).Φ t.castSucc = kept m c t.val from rfl,
    show (dats m 0 c).owesAt () t.succ = (dats m 0 c).owesAt () t.castSucc from rfl]
  unfold kept owns
  iintro ⟨⟨⟨%f6, %h6, H6⟩, ⟨%f7, H7⟩, ⟨%f8, H8⟩, ⟨%f9, H9⟩, ⟨%f10, H10⟩, ⟨%f11, H11⟩, ⟨%f12, H12⟩, ⟨%f13, H13⟩, Hg⟩, Ho, ⟨%d2, %f2, %h2, H2⟩, ⟨%d3, %f3, %h3, H3⟩, ⟨%d4, %f4, %h4, H4⟩, ⟨%d5, %f5, -, H5⟩⟩
  by_cases hc : Scalar.cmpi .ne (Scalar.extui (Scalar.cmpi .eq (BitVec.ofNat 32 (grid0.coords t 1).val) 0#32)) 0#32 = 1#1
  · iapply (wp_wand_r Idealize.ShloMosaic.frame (wpE (defs₀ (F := F)) Variants.none (c : Thread nD τ) none) Set.univ)
    isplitl [H2 H3 H4 H5 H6 H7 H8 H9 H10 H11 H12 H13]
    · iapply (runFirst c (grid0.coords t) hc (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) f2 f3 f4 f5 f6 f7 f8 f9 f10 f11 f12 f13)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    iintro %_ ⟨H2, H3, H4, ⟨%g5, %h5, H5⟩, ⟨%g6, %k6, H6⟩, H7, H8, H9, H10, H11, H12, H13⟩
    have k6' : (Memref.whole cc0_scratch0).view.read (Elt F) g6 = vtOf (iblk m c 2 t) := k6.trans (by rw [h4])
    have k5' : (st0_3 t).view.read (Elt F) g5 = bodyOut (grid0.coords t) (iblk m c 0 t) (iblk m c 1 t) (vtOf (iblk m c 2 t)) := h5.trans (by rw [h2, h3, h4])
    isplitl [H6 H7 H8 H9 H10 H11 H12 H13 Hg]
    · isplitl [H6]
      · iexists _; isplitr; swap; · iexact H6
        ipureintro
        intro s hs
        rw [k6', show s = t from Fin.ext (by omega)]
      isplitl [H7]; · iexact H7
      isplitl [H8]; · iexact H8
      isplitl [H9]; · iexact H9
      isplitl [H10]; · iexact H10
      isplitl [H11]; · iexact H11
      isplitl [H12]; · iexact H12
      isplitl [H13]; · iexact H13
      iexact Hg
    isplitl [Ho]; · iexact Ho
    isplitl [H2]
    · iexists f2; isplitr; · ipureintro; exact h2
      iexact H2
    isplitl [H3]
    · iexists f3; isplitr; · ipureintro; exact h3
      iexact H3
    isplitl [H4]
    · iexists f4; isplitr; · ipureintro; exact h4
      iexact H4
    iexists g5; isplitr; · ipureintro; exact k5'
    iexact H5
  · iapply (wp_wand_r Idealize.ShloMosaic.frame (wpE (defs₀ (F := F)) Variants.none (c : Thread nD τ) none) Set.univ)
    isplitl [H2 H3 H4 H5 H6 H7 H8 H9 H10 H11 H12 H13]
    · iapply (runLater c (grid0.coords t) hc (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) f2 f3 f4 f5 f6 f7 f8 f9 f10 f11 f12 f13)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    iintro %_ ⟨H2, H3, H4, ⟨%g5, %h5, H5⟩, H6, H7, H8, H9, H10, H11, H12, H13⟩
    have ht : t.val % 8 ≠ 0 := fun e => hc ((first_iff _).2 ((coord1 t).trans e))
    have k6' : (Memref.whole cc0_scratch0).view.read (Elt F) f6 = vtOf (iblk m c 2 t) := by
      have hN := t.isLt
      have e := h6 ⟨t.val - 1, by omega⟩ (by show t.val - 1 + 1 = t.val; omega)
      rw [e, vals_stay m c ⟨t.val - 1, by omega⟩ t (by show t.val - 1 + 1 = t.val; omega) ht]
    have k5' : (st0_3 t).view.read (Elt F) g5 = bodyOut (grid0.coords t) (iblk m c 0 t) (iblk m c 1 t) (vtOf (iblk m c 2 t)) := h5.trans (by rw [h2, h3, k6'])
    isplitl [H6 H7 H8 H9 H10 H11 H12 H13 Hg]
    · isplitl [H6]
      · iexists _; isplitr; swap; · iexact H6
        ipureintro
        intro s hs
        rw [k6', show s = t from Fin.ext (by omega)]
      isplitl [H7]; · iexact H7
      isplitl [H8]; · iexact H8
      isplitl [H9]; · iexact H9
      isplitl [H10]; · iexact H10
      isplitl [H11]; · iexact H11
      isplitl [H12]; · iexact H12
      isplitl [H13]; · iexact H13
      iexact Hg
    isplitl [Ho]; · iexact Ho
    isplitl [H2]
    · iexists f2; isplitr; · ipureintro; exact h2
      iexact H2
    isplitl [H3]
    · iexists f3; isplitr; · ipureintro; exact h3
      iexact H3
    isplitl [H4]
    · iexists f4; isplitr; · ipureintro; exact h4
      iexact H4
    iexists g5; isplitr; · ipureintro; exact k5'
    iexact H5

/-- The body table's row at point `t` is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem kept_of_start (c : Dev nD) : Pipeline.ΦA spec0 c ⊢ (dats m 0 c).Φ 0 := by
  rw [show (dats m 0 c).Φ 0 = kept m c 0 from rfl]
  unfold Pipeline.ΦA kept; rw [scopedRest0_eq]
  iintro ⟨⟨⟨%f6, H6⟩, H7, H8, H9, H10, H11, H12, H13⟩, Hg⟩
  isplitl [H6]
  · iexists f6; isplitr; swap; · iexact H6
    ipureintro; intro s hs; omega
  isplitl [H7]; · iexact H7
  isplitl [H8]; · iexact H8
  isplitl [H9]; · iexact H9
  isplitl [H10]; · iexact H10
  isplitl [H11]; · iexact H11
  isplitl [H12]; · iexact H12
  isplitl [H13]; · iexact H13
  iexact Hg

theorem kept_to_end (c : Dev nD) : (dats m 0 c).Φ (Fin.last cfg0.N) ⊢ Pipeline.ΦA spec0 c := by
  rw [show (dats m 0 c).Φ (Fin.last cfg0.N) = kept m c cfg0.N from rfl]
  unfold Pipeline.ΦA kept; rw [scopedRest0_eq]
  iintro ⟨⟨%f6, %h6, H6⟩, H7, H8, H9, H10, H11, H12, H13, Hg⟩
  isplitr [Hg]; swap; · iexact Hg
  isplitl [H6]; · iexists f6; iexact H6
  isplitl [H7]; · iexact H7
  isplitl [H8]; · iexact H8
  isplitl [H9]; · iexact H9
  isplitl [H10]; · iexact H10
  isplitl [H11]; · iexact H11
  isplitl [H12]; · iexact H12
  iexact H13

set_option backward.isDefEq.respectTransparency.types false in
/-- Every execution terminates with the arrays as the pipeline leaves them, no semaphore counting. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := kept_of_start m) (hout := kept_to_end m)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end as launched and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Attn

end
-- ==== Proof.Patterns.lean ====
/- The kernel as printed is the idealized kernel with its one named constant read as the pattern it is printed from, so
   the run of the idealized kernel, which is over every reading of floats and of the name, is a run of the kernel. -/
module

public import proofs.«01_k».proof.Defs
public import proofs.«01_k».proof.Proof.Data
public import proofs.«01_k».proof.Proof.Gen.Kernel

@[expose] public section

set_option maxRecDepth 100000
set_option maxHeartbeats 2000000

noncomputable section

namespace Cert.Proof.Attn

open Idealize.ShloMosaic Idealize.ShloMosaic.TcCoe Idealize.SL.Sem

attribute [local instance] Cert.Kernel.Gen.facts Cert.KernelIdeal.Gen.facts

/-- The reading of a name as the pattern it stands at. -/
@[reducible] def patterns : Named Bits := ⟨fun _ _ _ bits => Scalar.ofBits _ bits⟩

attribute [local instance] patterns

/-- The two programs' bodies are the same, -/
theorem defs₀_eq : Cert.Kernel.defs₀ (F := Bits) = Cert.KernelIdeal.defs₀ (F := Bits) := by
  unfold Cert.Kernel.defs₀ Cert.KernelIdeal.defs₀
  refine congrArg Defs.onTc ?_
  funext p x
  match p, x with
  | 0, (t, s) => rfl

/-- and so are their tables. -/
theorem defs_eq : Cert.Kernel.defs (F := Bits) = Cert.KernelIdeal.defs (F := Bits) := by
  unfold Cert.Kernel.defs Cert.KernelIdeal.defs
  exact congrArg (Pipeline.defs _) defs₀_eq

/-- The kernel's frame. -/
theorem frame_p : Cert.quiescent_Kernel := fun m ρ _ => by
  have h := Cert.KernelIdeal.Attn.frame_run (F := Bits) m ρ
  rw [← defs_eq] at h
  exact h

/-- The idealized kernel's frame. -/
theorem frame_pi : Cert.quiescent_KernelIdeal := fun m ρ _ => Cert.KernelIdeal.Attn.frame_run (F := Ideal) m ρ

end Cert.Proof.Attn

end
-- ==== Proof.Weights.lean ====
/- The online softmax over the extended reals: scores that are reals or minus infinity, the powers of two they weigh with,
   a running state taken through one block of keys, and the mean read off it; and the same mean from exponentials in
   base e, all keys at once. -/
module

public import Idealize.ShloMosaic.Lib.Pointwise

@[expose] public section

noncomputable section

namespace Cert.Attn

open Idealize.ShloMosaic

/-! ## Constants -/

/-- The pattern of minus infinity. -/
theorem ofBits_neg_inf : Ideal.ofBits .f32 0xFF800000#32 = ⊥ := by
  simp [Ideal.ofBits, Ideal.ieee]

/-- The pattern of two. -/
theorem ofBits_two : Ideal.ofBits .f32 0x40000000#32 = ((2 : ℝ) : EReal) := by
  simp [Ideal.ofBits, Ideal.ieee, -EReal.coe_mul]; norm_num

/-- The logarithm of two. -/
theorem log_two : Ideal.log ((2 : ℝ) : EReal) = ((Real.log 2 : ℝ) : EReal) := by
  rw [Ideal.log_coe, if_neg (by norm_num)]

/-- Choosing by a comparison of two counters. -/
theorem select_le {α : Type} (a b : ℕ) (ha : a < 2 ^ 31) (hb : b < 2 ^ 31) (x y : α) :
    Scalar.select (IntOp.cmpi .sle (BitVec.ofNat 32 a) (BitVec.ofNat 32 b)) x y = if a ≤ b then x else y := by
  have e : (BitVec.ofNat 32 a).sle (BitVec.ofNat 32 b) = decide (a ≤ b) := by
    have n : ∀ c : ℕ, c < 2 ^ 31 → (BitVec.ofNat 32 c).toInt = c := fun c hc => by
      have e : (BitVec.ofNat 32 c).toNat = c := by rw [BitVec.toNat_ofNat]; omega
      rw [BitVec.toInt_eq_toNat_of_lt (by rw [e]; omega), e]
    rw [Bool.eq_iff_iff, BitVec.sle_iff_toInt_le, decide_eq_true_eq, n a ha, n b hb]
    omega
  show Scalar.select (BitVec.ofBool ((BitVec.ofNat 32 a).sle (BitVec.ofNat 32 b))) x y = _
  rw [e]
  by_cases h : a ≤ b <;> simp [h, Scalar.select]

/-! ## Sums -/

theorem coe_sum {n : ℕ} (f : Fin n → ℝ) : (∑ k, ((f k : ℝ) : EReal)) = ((∑ k, f k : ℝ) : EReal) := by
  classical
  have : ∀ s : Finset (Fin n), (∑ k ∈ s, ((f k : ℝ) : EReal)) = ((∑ k ∈ s, f k : ℝ) : EReal) := fun s => by
    induction s using Finset.induction_on with
    | empty => simp
    | insert a s ha ih => rw [Finset.sum_insert ha, Finset.sum_insert ha, ih, EReal.coe_add]
  exact this _

/-- A nonnegative real factor goes through a sum. -/
theorem add_mul_coe (x y : EReal) {c : ℝ} (hc : 0 ≤ c) : (x + y) * (c : EReal) = x * (c : EReal) + y * (c : EReal) :=
  EReal.right_distrib_of_nonneg_of_ne_top (EReal.coe_nonneg.2 hc) (EReal.coe_ne_top c) x y

theorem sum_mul_coe {n : ℕ} (f : Fin n → EReal) {c : ℝ} (hc : 0 ≤ c) : (∑ k, f k) * (c : EReal) = ∑ k, f k * (c : EReal) := by
  classical
  have : ∀ s : Finset (Fin n), (∑ k ∈ s, f k) * (c : EReal) = ∑ k ∈ s, f k * (c : EReal) := fun s => by
    induction s using Finset.induction_on with
    | empty => simp
    | insert a s ha ih => rw [Finset.sum_insert ha, Finset.sum_insert ha, add_mul_coe _ _ hc, ih]
  exact this _

/-- A maximum over a block of scores none of which is plus infinity, one of them a real, is a real. -/
theorem fold_max_real {n : ℕ} (m : EReal) (hm : m ≠ ⊤) (s : Fin n → EReal) (hs : ∀ k, s k ≠ ⊤) (k : Fin n) (hk : s k ≠ ⊥) :
    ∃ μ : ℝ, max m (Finset.univ.fold max ⊥ s) = (μ : EReal) := by
  have h1 : s k ≤ max m (Finset.univ.fold max ⊥ s) :=
    le_max_of_le_right (Finset.le_fold_max _ |>.2 (.inr ⟨k, Finset.mem_univ _, le_rfl⟩))
  have h2 : max m (Finset.univ.fold max ⊥ s) < ⊤ := by
    rw [max_lt_iff, Finset.fold_max_lt]
    exact ⟨lt_top_iff_ne_top.2 hm, bot_lt_top, fun x _ => lt_top_iff_ne_top.2 (hs x)⟩
  refine ⟨_, (EReal.coe_toReal h2.ne ?_).symm⟩
  intro e
  rw [e, le_bot_iff] at h1
  exact hk h1

/-! ## Weights -/

/-- The score `s` weighs `p`: two to the score, nothing at minus infinity. -/
def Wt (s : EReal) (p : ℝ) : Prop := (s = ⊥ ∧ p = 0) ∨ ∃ r : ℝ, s = (r : EReal) ∧ p = (2 : ℝ) ^ r

theorem Wt.ne_top {s : EReal} {p : ℝ} (h : Wt s p) : s ≠ ⊤ := by
  rcases h with ⟨rfl, -⟩ | ⟨r, rfl, -⟩
  · exact bot_ne_top
  · exact EReal.coe_ne_top r

theorem Wt.nonneg {s : EReal} {p : ℝ} (h : Wt s p) : 0 ≤ p := by
  rcases h with ⟨-, rfl⟩ | ⟨r, -, rfl⟩
  · exact le_rfl
  · exact (Real.rpow_pos_of_pos two_pos r).le

theorem Wt.pos {s : EReal} {p : ℝ} (h : Wt s p) (hs : s ≠ ⊥) : 0 < p := by
  rcases h with ⟨rfl, -⟩ | ⟨r, -, rfl⟩
  · exact absurd rfl hs
  · exact Real.rpow_pos_of_pos two_pos r

/-- The power of two above a real. -/
theorem Wt.exp2 {s : EReal} {p : ℝ} (h : Wt s p) (μ : ℝ) : Ideal.exp2 (s - (μ : EReal)) = ((p * (2 : ℝ) ^ (-μ) : ℝ) : EReal) := by
  rcases h with ⟨rfl, rfl⟩ | ⟨r, rfl, rfl⟩
  · rw [EReal.bot_sub, Ideal.exp2_bot, zero_mul]; rfl
  · rw [← EReal.coe_sub, Ideal.exp2_coe, ← Real.rpow_add two_pos]; rfl

/-- The exponential, in base e, of the score in base e above a real. -/
theorem Wt.exp {s : EReal} {p : ℝ} (h : Wt s p) (μ : ℝ) :
    Ideal.exp ((if s = ⊥ then ⊥ else s * ((Real.log 2 : ℝ) : EReal)) - (μ : EReal)) = ((p * Real.exp (-μ) : ℝ) : EReal) := by
  rcases h with ⟨rfl, rfl⟩ | ⟨r, rfl, rfl⟩
  · rw [if_pos rfl, EReal.bot_sub, Ideal.exp_bot, zero_mul]; rfl
  · rw [if_neg (EReal.coe_ne_bot r), ← EReal.coe_mul, ← EReal.coe_sub, Ideal.exp_coe, Real.rpow_def_of_pos two_pos, ← Real.exp_add]
    congr 2; ring

/-! ## The running state -/

/-- The running maximum, sum of weights and weighted sum of values `m`, `l`, `a` stand for the weights' sum `P` and the
    weighted values' sum `N`: nothing yet, or both sums scaled by a power of two. -/
def St (m l a : EReal) (P : ℝ) (N : EReal) : Prop :=
  (m = ⊥ ∧ l = 0 ∧ a = 0 ∧ P = 0 ∧ N = 0) ∨
    ∃ μ : ℝ, m = (μ : EReal) ∧ l = ((P * (2 : ℝ) ^ (-μ) : ℝ) : EReal) ∧ a = N * (((2 : ℝ) ^ (-μ) : ℝ) : EReal)

theorem St.zero : St ⊥ 0 0 0 0 := .inl ⟨rfl, rfl, rfl, rfl, rfl⟩

theorem St.ne_top {m l a : EReal} {P : ℝ} {N : EReal} (h : St m l a P N) : m ≠ ⊤ := by
  rcases h with ⟨rfl, -⟩ | ⟨r, rfl, -⟩
  · exact bot_ne_top
  · exact EReal.coe_ne_top r

/-- One block of keys. -/
theorem St.step {n : ℕ} {m l a : EReal} {P : ℝ} {N : EReal} (h : St m l a P N) (s : Fin n → EReal) (p : Fin n → ℝ) (v : Fin n → EReal) (hs : ∀ k, Wt (s k) (p k))
    (k : Fin n) (hk : s k ≠ ⊥) (M : EReal) (hM : M = max m (Finset.univ.fold max ⊥ s)) :
    St M (Ideal.exp2 (m - M) * l + ∑ k, Ideal.exp2 (s k - M)) (Ideal.exp2 (m - M) * a + ∑ k, v k * Ideal.exp2 (s k - M))
      (P + ∑ k, p k) (N + ∑ k, v k * (p k : EReal)) := by
  obtain ⟨μ, e⟩ := fold_max_real m h.ne_top s (fun k => (hs k).ne_top) k hk
  rw [e] at hM
  subst hM
  refine .inr ⟨μ, rfl, ?_, ?_⟩
  · simp only [fun k => (hs k).exp2 μ, coe_sum, ← Finset.sum_mul]
    rcases h with ⟨rfl, rfl, rfl, rfl, rfl⟩ | ⟨r, rfl, rfl, rfl⟩
    · rw [mul_zero, zero_add, zero_add]
    · rw [← EReal.coe_sub, Ideal.exp2_coe, ← EReal.coe_mul, ← EReal.coe_add]
      congr 1
      have : (2 : ℝ) ^ (-μ) = Real.rpow 2 (r - μ) * (2 : ℝ) ^ (-r) := by
        show (2 : ℝ) ^ (-μ) = (2 : ℝ) ^ (r - μ) * (2 : ℝ) ^ (-r)
        rw [← Real.rpow_add two_pos]; congr 1; ring
      rw [add_mul, this]; ring
  · have hc : (0 : ℝ) ≤ (2 : ℝ) ^ (-μ) := (Real.rpow_pos_of_pos two_pos _).le
    simp only [fun k => (hs k).exp2 μ, EReal.coe_mul, ← mul_assoc]
    rw [add_mul_coe _ _ hc, sum_mul_coe _ hc]
    congr 1
    rcases h with ⟨rfl, rfl, rfl, rfl, rfl⟩ | ⟨r, rfl, rfl, rfl⟩
    · rw [mul_zero, zero_mul]
    · rw [← EReal.coe_sub, Ideal.exp2_coe, mul_comm, mul_assoc, ← EReal.coe_mul]
      congr 2
      show (2 : ℝ) ^ (-r) * (2 : ℝ) ^ (r - μ) = (2 : ℝ) ^ (-μ)
      rw [← Real.rpow_add two_pos]; congr 1; ring

/-- The mean read off the state. -/
theorem St.mean {m l a : EReal} {P : ℝ} {N : EReal} (h : St m l a P N) (hP : 0 < P) : a * Ideal.div 1 l = N * ((1 / P : ℝ) : EReal) := by
  rcases h with ⟨-, -, -, rfl, -⟩ | ⟨μ, -, rfl, rfl⟩
  · exact absurd hP (lt_irrefl _)
  · have h2 : (0 : ℝ) < (2 : ℝ) ^ (-μ) := Real.rpow_pos_of_pos two_pos _
    rw [Ideal.div_coe (mul_pos hP h2).ne', one_mul, mul_assoc, ← EReal.coe_mul]
    congr 2
    field_simp

/-! ## All keys at once -/

/-- The softmax mean in base e. -/
theorem softmax_mean {n : ℕ} (s : Fin n → EReal) (p : Fin n → ℝ) (v : Fin n → EReal) (hs : ∀ k, Wt (s k) (p k)) (k : Fin n) (hk : s k ≠ ⊥)
    (t : Fin n → EReal) (ht : ∀ k, t k = if s k = ⊥ then ⊥ else s k * ((Real.log 2 : ℝ) : EReal))
    (M : EReal) (hM : M = max ⊥ (Finset.univ.fold max ⊥ t)) :
    ∑ k, v k * Ideal.div (Ideal.exp (t k - M)) (∑ k, Ideal.exp (t k - M)) = (∑ k, v k * (p k : EReal)) * ((1 / ∑ k, p k : ℝ) : EReal) := by
  have htop : ∀ k, t k ≠ ⊤ := fun k => by
    rw [ht]
    rcases hs k with ⟨e, -⟩ | ⟨r, e, -⟩
    · rw [e, if_pos rfl]; exact bot_ne_top
    · rw [e, if_neg (EReal.coe_ne_bot r), ← EReal.coe_mul]; exact EReal.coe_ne_top _
  have hbot : t k ≠ ⊥ := by
    rw [ht, if_neg hk]
    rcases hs k with ⟨e, -⟩ | ⟨r, e, -⟩
    · exact absurd e hk
    · rw [e, ← EReal.coe_mul]; exact EReal.coe_ne_bot _
  obtain ⟨μ, e⟩ := fold_max_real ⊥ bot_ne_top t htop k hbot
  rw [e] at hM
  subst hM
  have he : ∀ k, Ideal.exp (t k - (μ : EReal)) = ((p k * Real.exp (-μ) : ℝ) : EReal) := fun k => by rw [ht]; exact (hs k).exp μ
  have hP : 0 < ∑ k, p k := lt_of_lt_of_le ((hs k).pos hk) (Finset.single_le_sum (fun k _ => (hs k).nonneg) (Finset.mem_univ k))
  have hE : (0 : ℝ) < Real.exp (-μ) := Real.exp_pos _
  simp only [he, coe_sum, ← Finset.sum_mul]
  rw [sum_mul_coe _ (one_div_pos.2 hP).le]
  refine Finset.sum_congr rfl fun k _ => ?_
  rw [Ideal.div_coe (mul_pos hP hE).ne', mul_assoc, ← EReal.coe_mul, ← EReal.coe_mul]
  congr 2
  field_simp

end Cert.Attn

end
-- ==== Proof.BlockValue.lean ====
/- The update of the online softmax read at an index: one key block's scores, maximum, weights and sums, at a query and a
   column of the values. -/
module

public import proofs.«01_k».proof.Proof.Block
public import proofs.«01_k».proof.Proof.Weights

@[expose] public section

set_option maxRecDepth 16384

noncomputable section

namespace Cert.KernelIdeal.Attn

open Cert.KernelIdeal Cert.KernelIdeal.Gen
open Idealize.ShloMosaic Idealize.ShloMosaic.StackMember
open Cert.Attn

theorem score_apply (kb : Vec Ideal S256x128 .bf16) (qt : Vec Ideal S128x256 .bf16) (a b : Fin 256) :
    score kb qt (ix2 a b) = ∑ k : Fin 128, kb (ix2 a k) * qt (ix2 k b) := by
  pointwise [score]

theorem mNew_apply (s : FVec Ideal S256x256 .f32) (m : FVec Ideal S1x256 .f32) (b : Fin 256) :
    mNew s m (ix2 0 b) = max (m (ix2 0 b)) (Finset.univ.fold max ⊥ fun a : Fin 256 => s (ix2 a b)) := by
  pointwise [mNew, ofBits_neg_inf]

theorem lNew_apply (s : FVec Ideal S256x256 .f32) (m l : FVec Ideal S1x256 .f32) (b : Fin 256) :
    lNew s m l (ix2 0 b) = Ideal.exp2 (m (ix2 0 b) - mNew s m (ix2 0 b)) * l (ix2 0 b)
      + ∑ a : Fin 256, Ideal.exp2 (s (ix2 a b) - mNew s m (ix2 0 b)) := by
  pointwise [lNew, alpha, prob]
  rfl

theorem accNew_apply (s : FVec Ideal S256x256 .f32) (m : FVec Ideal S1x256 .f32) (acc : FVec Ideal S64x256 .f32) (v : Vec Ideal S64x256 .bf16)
    (d : Fin 64) (b : Fin 256) :
    accNew s m acc v (ix2 d b) = Ideal.exp2 (m (ix2 0 b) - mNew s m (ix2 0 b)) * acc (ix2 d b)
      + ∑ a : Fin 256, v (ix2 d a) * Ideal.exp2 (s (ix2 a b) - mNew s m (ix2 0 b)) := by
  pointwise [accNew, alpha, prob]
  rfl

theorem meanH_apply (l : FVec Ideal S1x256 .f32) (a : FVec Ideal S64x256 .f32) (d : Fin 64) (b : Fin 256) :
    meanH l a (ix2 d b) = a (ix2 d b) * Ideal.div 1 (l (ix2 0 b)) := by
  pointwise [meanH]

theorem outBlk_apply (L : Fin 8 → FVec Ideal S1x256 .f32) (A : Fin 8 → FVec Ideal S64x256 .f32) (b : Fin 256) (h : Fin 8) (d : Fin 64) :
    outBlk L A (ix2 b ⟨64 * h.val + d.val, by omega⟩) = A h (ix2 d b) * Ideal.div 1 (L h (ix2 0 b)) := by
  rw [← meanH_apply]
  fin_cases h <;> pointwise [outBlk]
  all_goals
    repeat first
      | rw [dif_neg (by omega)]
      | rw [dif_pos (by omega)]
    try exact congrArg (fun e => meanH _ _ (ix2 e b)) (Fin.ext (by first | rfl | (simp only []; omega)))

theorem mask_eq : (Named.named κ "mask" 0xF149F2CA#32 : Ideal .f32) = ⊥ := IdealRules.named_const.ideal_named_scalar _ _ _ _ rfl

theorem maskS_apply (s : FVec Ideal S256x256 .f32) (a b : Fin 256) : maskS s (ix2 a b) = if a.val ≤ b.val then s (ix2 a b) else ⊥ := by
  pointwise [maskS, mask_eq]
  exact select_le a.val b.val (by omega) (by omega) _ _

theorem pay274_apply (h : Fin 8) (b : Fin 256) : memberAt (k0_pay274 (F := Ideal)) h (ix2 0 b) = ⊥ := mask_eq
theorem pay275_apply (h : Fin 8) (b : Fin 256) : memberAt (k0_pay275 (F := Ideal)) h (ix2 0 b) = 0 := Ideal.ofBits_zero_f32
theorem pay276_apply (h : Fin 8) (d : Fin 64) (b : Fin 256) : memberAt (k0_pay276 (F := Ideal)) h (ix2 d b) = 0 := Ideal.ofBits_zero_f32

end Cert.KernelIdeal.Attn

end
-- ==== Proof.StateValue.lean ====
/- The running state after any number of key blocks, and the block of the result, as the sums over the keys they stand for. -/
module

public import proofs.«01_k».proof.Proof.BlockValue

@[expose] public section

set_option maxRecDepth 16384

noncomputable section

namespace Cert.KernelIdeal.Attn

open Cert.KernelIdeal Cert.KernelIdeal.Gen
open Idealize.ShloMosaic Idealize.ShloMosaic.StackMember
open Cert.Attn

/-! ## Sums over keys -/

/-- The sum over the keys of one more block. -/
theorem sum_block {M : Type} [AddCommMonoid M] (f : ℕ → M) (k : ℕ) :
    ∑ x ∈ Finset.range (256 * (k + 1)), f x = ∑ x ∈ Finset.range (256 * k), f x + ∑ a : Fin 256, f (256 * k + a.val) := by
  rw [show 256 * (k + 1) = 256 * k + 256 from rfl, Finset.sum_range_add, Finset.sum_range (fun x => f (256 * k + x))]

/-- The sum over the keys up to a query is that of the blocks before the query's and of its own block's part. -/
theorem sum_causal {M : Type} [AddCommMonoid M] (f : ℕ → M) (i : ℕ) (hi : i < 8) (b : Fin 256) :
    ∑ x ∈ Finset.range (256 * i), f x + ∑ a : Fin 256, (if a.val ≤ b.val then f (256 * i + a.val) else 0)
      = ∑ x : Fin 2048, if x.val ≤ 256 * i + b.val then f x.val else 0 := by
  rw [← Finset.sum_range (fun x => if x ≤ 256 * i + b.val then f x else 0)]
  have hb := b.isLt
  rw [show Finset.range 2048 = Finset.range (256 * (i + 1) + (2048 - 256 * (i + 1))) from congrArg _ (by omega), Finset.sum_range_add,
    sum_block (fun x => if x ≤ 256 * i + b.val then f x else 0),
    Finset.sum_eq_zero (s := Finset.range (2048 - 256 * (i + 1))) (fun x _ => if_neg (by omega)), add_zero]
  congr 1
  · refine Finset.sum_congr rfl fun x hx => (if_pos ?_).symm
    have := Finset.mem_range.1 hx
    omega
  · refine Finset.sum_congr rfl fun a _ => ?_
    by_cases h : a.val ≤ b.val
    · rw [if_pos h, if_pos (by omega)]
    · rw [if_neg h, if_neg (by omega)]

/-! ## The reads -/

variable (q : S256x1024.Idx → ℝ) (K : S2048x1024.Idx → ℝ) (V : Vec Ideal S2048x512 .bf16)

/-- The score of key `key` for query `b` in head `h`. -/
def sc (h : Fin 8) (b : Fin 256) (key : ℕ) : ℝ :=
  ∑ d : Fin 128, K (ix2 ⟨key % 2048, Nat.mod_lt _ (by decide)⟩ ⟨(128 * h.val + d.val) % 1024, Nat.mod_lt _ (by decide)⟩)
    * q (ix2 b ⟨(128 * h.val + d.val) % 1024, Nat.mod_lt _ (by decide)⟩)

/-- Its weight. -/
def wt (h : Fin 8) (b : Fin 256) (key : ℕ) : ℝ := (2 : ℝ) ^ sc q K h b key

/-- The value of key `key` at column `d` of head `h`. -/
def val (h : Fin 8) (d : Fin 64) (key : ℕ) : EReal :=
  V (ix2 ⟨key % 2048, Nat.mod_lt _ (by decide)⟩ ⟨(64 * h.val + d.val) % 512, Nat.mod_lt _ (by decide)⟩)

/-- An array of reals as extended reals. -/
abbrev up {s : Shape} {φ : FTy} (X : s.Idx → ℝ) : FVec Ideal s φ := fun i => (X i : EReal)

theorem kSl_apply (j : ℕ) (h : Fin 8) (a : Fin 256) (d : Fin 128) :
    kSl (F := Ideal) (up (φ := .bf16) K) j h (ix2 a d)
      = (K (ix2 ⟨(256 * j + a.val) % 2048, Nat.mod_lt _ (by decide)⟩ ⟨(128 * h.val + d.val) % 1024, Nat.mod_lt _ (by decide)⟩) : EReal) := by
  unfold kSl up
  exact congrArg (fun i => (K i : EReal)) (eq_ix2 _)

theorem qT_apply (h : Fin 8) (d : Fin 128) (b : Fin 256) :
    qT (F := Ideal) (up (φ := .bf16) q) h (ix2 d b) = (q (ix2 b ⟨(128 * h.val + d.val) % 1024, Nat.mod_lt _ (by decide)⟩) : EReal) := by
  unfold qT up
  exact congrArg (fun i => (q i : EReal)) (eq_ix2 _)

theorem vSl_apply (j : ℕ) (h : Fin 8) (d : Fin 64) (a : Fin 256) :
    vSl (F := Ideal) (vtOf V) j h (ix2 d a) = val V h d (256 * j + a.val) := by
  unfold vSl vtOf val
  refine congrArg V ((eq_ix2 _).trans ?_)
  congr 1
  refine Fin.ext ?_
  show (256 * (j % 8) + a.val) % 2048 = (256 * j + a.val) % 2048
  omega

theorem sAt_apply (j : ℕ) (h : Fin 8) (a b : Fin 256) :
    sAt (F := Ideal) (up (φ := .bf16) K) (qtOf (up (φ := .bf16) q)) j h (ix2 a b) = (sc q K h b (256 * j + a.val) : EReal) := by
  unfold sAt
  rw [score_apply]
  unfold sc
  rw [← coe_sum]
  refine Finset.sum_congr rfl fun d _ => ?_
  rw [EReal.coe_mul]
  exact congrArg₂ (· * ·) (kSl_apply K j h a d) (qT_apply q h d b)

theorem sAt_wt (j : ℕ) (h : Fin 8) (a b : Fin 256) :
    Wt (sAt (F := Ideal) (up (φ := .bf16) K) (qtOf (up (φ := .bf16) q)) j h (ix2 a b)) (wt q K h b (256 * j + a.val)) :=
  .inr ⟨_, sAt_apply q K j h a b, rfl⟩

/-! ## The state -/

/-- One block of keys with scores `s` that weigh `p`. -/
theorem step_apply (s : FVec Ideal S256x256 .f32) (M L : FVec Ideal S1x256 .f32) (A : FVec Ideal S64x256 .f32) (v : Vec Ideal S64x256 .bf16)
    (b : Fin 256) (d : Fin 64) (p : Fin 256 → ℝ) (r : Fin 256 → EReal) (P : ℝ) (N : EReal) (h : St (M (ix2 0 b)) (L (ix2 0 b)) (A (ix2 d b)) P N)
    (hs : ∀ a, Wt (s (ix2 a b)) (p a)) (hv : ∀ a, v (ix2 d a) = r a) (k : Fin 256) (hk : s (ix2 k b) ≠ ⊥) :
    St (mNew s M (ix2 0 b)) (lNew s M L (ix2 0 b)) (accNew s M A v (ix2 d b)) (P + ∑ a, p a) (N + ∑ a, r a * (p a : EReal)) := by
  rw [lNew_apply, accNew_apply]
  simp only [hv]
  exact h.step (fun a => s (ix2 a b)) p r hs k hk _ (mNew_apply s M b)

theorem state (k : ℕ) (h : Fin 8) (b : Fin 256) (d : Fin 64) :
    St (memberAt (mS (F := Ideal) (up (φ := .bf16) K) (qtOf (up (φ := .bf16) q)) k) h (ix2 0 b))
      (memberAt (lS (F := Ideal) (up (φ := .bf16) K) (qtOf (up (φ := .bf16) q)) k) h (ix2 0 b))
      (memberAt (aS (F := Ideal) (up (φ := .bf16) K) (qtOf (up (φ := .bf16) q)) (vtOf V) k) h (ix2 d b))
      (∑ x ∈ Finset.range (256 * k), wt q K h b x) (∑ x ∈ Finset.range (256 * k), val V h d x * (wt q K h b x : EReal)) := by
  induction k with
  | zero =>
    rw [mS, lS, aS, pay274_apply, pay275_apply, pay276_apply]
    exact St.zero
  | succ k ih =>
    rw [sum_block, sum_block]
    exact step_apply (sAt (up (φ := .bf16) K) (qtOf (up (φ := .bf16) q)) k h) _ _ _ (vSl (vtOf V) k h) b d
      (fun a => wt q K h b (256 * k + a.val)) (fun a => val V h d (256 * k + a.val)) _ _ ih (sAt_wt q K k h · b) (vSl_apply V k h d) 0
      (by rw [sAt_apply]; exact EReal.coe_ne_bot _)

/-- The block of the result: at a query and a column, the mean of the values of the keys up to the query. -/
theorem bodyOut_apply (i : grid0.Coords) (ht : (k0_t1_loop i).trips = (i 1).val) (h : Fin 8) (b : Fin 256) (d : Fin 64) :
    bodyOut (F := Ideal) i (up (φ := .bf16) q) (up (φ := .bf16) K) (vtOf V) (ix2 b ⟨64 * h.val + d.val, by omega⟩)
      = (∑ x : Fin 2048, if x.val ≤ 256 * (i 1).val + b.val then val V h d x.val * (wt q K h b x.val : EReal) else 0)
          * ((1 / ∑ x : Fin 2048, if x.val ≤ 256 * (i 1).val + b.val then wt q K h b x.val else 0 : ℝ) : EReal) := by
  have hi : (i 1).val < 8 := (i 1).isLt
  unfold bodyOut
  rw [outBlk_apply, ht]
  have w : ∀ x, 0 < wt q K h b x := fun x => Real.rpow_pos_of_pos two_pos _
  have hst := step_apply (maskS (sAt (up (φ := .bf16) K) (qtOf (up (φ := .bf16) q)) (i 1).val h)) _ _ _
    (vSl (vtOf V) (i 1).val h) b d
    (fun a => if a.val ≤ b.val then wt q K h b (256 * (i 1).val + a.val) else 0) (fun a => val V h d (256 * (i 1).val + a.val)) _ _
    (state q K V (i 1).val h b d)
    (fun a => by
      rw [maskS_apply]
      by_cases e : a.val ≤ b.val
      · rw [if_pos e, if_pos e]; exact sAt_wt q K _ h a b
      · rw [if_neg e, if_neg e]; exact .inl ⟨rfl, rfl⟩)
    (vSl_apply V _ h d) 0
    (by rw [maskS_apply, if_pos (show (0 : Fin 256).val ≤ b.val from Nat.zero_le _), sAt_apply]; exact EReal.coe_ne_bot _)
  simp only [fun (p : Prop) [Decidable p] (r : ℝ) => apply_ite (P := p) Real.toEReal r 0, EReal.coe_zero, mul_ite, mul_zero] at hst
  rw [sum_causal (fun x => wt q K h b x) _ hi b, sum_causal (fun x => val V h d x * (wt q K h b x : EReal)) _ hi b] at hst
  refine hst.mean (lt_of_lt_of_le ?_ (Finset.single_le_sum (f := fun x : Fin 2048 => if x.val ≤ 256 * (i 1).val + b.val then wt q K h b x.val else 0)
    (fun x _ => ?_) (Finset.mem_univ 0)))
  · show 0 < if 0 ≤ _ then _ else (0 : ℝ)
    rw [if_pos (Nat.zero_le _)]; exact w _
  · show 0 ≤ if _ ≤ _ then _ else (0 : ℝ)
    split
    · exact (w _).le
    · exact le_rfl

end Cert.KernelIdeal.Attn

end
-- ==== Proof.RefValue.lean ====
/- The reference read at an index: a query's mean of the values of the keys up to it. -/
module

public import proofs.«01_k».proof.Proof.Gen.ReferenceIdeal.Run
public import proofs.«01_k».proof.Proof.Weights

@[expose] public section

set_option maxRecDepth 16384

noncomputable section

namespace Cert.ReferenceIdeal.Attn

open Cert.ReferenceIdeal Cert.ReferenceIdeal.Gen Cert.ReferenceIdeal.Facts Cert.ReferenceIdeal.Value
open Idealize.ShloMosaic Idealize.ShloMosaic.TcCoe
open Cert.Attn

variable {F : FTy → Type} [FloatOps F]

/-- The masked scores, in base e. -/
def scores (q k : FVec F S16384x1024 .bf16) : FVec F S8x8x2048x2048 .f32 :=
  select (broadcastInDim S8x8x2048x2048 ![2, 3] bcast_S2048x2048_S8x8x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))))
    (mulf (Host.dotGeneral dot_S8x2048x8x128_S8x2048x8x128_S8x8x2048x2048_3_3_1_1_02_02 none (shapeCast _ (extf .f32 q bitsLt_bf16_f32) shapeCasts_S16384x1024_S8x2048x8x128) (shapeCast _ (extf .f32 k bitsLt_bf16_f32) shapeCasts_S16384x1024_S8x2048x8x128))
      (broadcastInDim S8x8x2048x2048 ![] bcast_S_S8x8x2048x2048 (Host.log (constant S_ .f32 0x40000000#32))))
    (broadcastInDim S8x8x2048x2048 ![] bcast_S_S8x8x2048x2048 (id (constant S_ .f32 0xFF800000#32)))

/-- A query's largest score. -/
def top (s : FVec F S8x8x2048x2048 .f32) : FVec F S8x8x2048 .f32 :=
  maximumf (broadcastInDim S8x8x2048 ![] bcast_S_S8x8x2048 (constant S_ .f32 0xFF800000#32))
    (Host.reduce FloatOps.maximumf s (constant S_ .f32 0xFF800000#32) reducesTo_S8x8x2048x2048_S8x8x2048_d3 h_S_)

/-- The exponentials of the scores below the largest. -/
def exps (s : FVec F S8x8x2048x2048 .f32) : FVec F S8x8x2048x2048 .f32 :=
  Host.exp (subf s (broadcastInDim S8x8x2048x2048 ![0, 1, 2, 3] bcast_S8x8x2048x1_S8x8x2048x2048_0_1_2_3 (broadcastInDim S8x8x2048x1 ![0, 1, 2] bcast_S8x8x2048_S8x8x2048x1_0_1_2 (top s))))

/-- The softmax. -/
def soft (s : FVec F S8x8x2048x2048 .f32) : FVec F S8x8x2048x2048 .f32 :=
  Host.divf (exps s) (broadcastInDim S8x8x2048x2048 ![0, 1, 2, 3] bcast_S8x8x2048x1_S8x8x2048x2048_0_1_2_3 (broadcastInDim S8x8x2048x1 ![0, 1, 2] bcast_S8x8x2048_S8x8x2048x1_0_1_2
    (Host.reduceAdd (exps s) (constant S_ .f32 0x00000000#32) reducesTo_S8x8x2048x2048_S8x8x2048_d3 h_S_)))

/-- The reference's result, of its three arrays. -/
def out (q k : FVec F S16384x1024 .bf16) (v : FVec F S16384x512 .bf16) : FVec F S16384x512 .f32 :=
  shapeCast _ (transpose S8x2048x8x64 [0, 3, 1, 2] (Host.dotGeneral dot_S8x2048x8x64_S8x8x2048x2048_S8x8x64x2048_1_3_3_2_02_01 none
    (shapeCast _ (extf .f32 v bitsLt_bf16_f32) shapeCasts_S16384x512_S8x2048x8x64) (soft (scores q k))) transposes_S8x8x64x2048_S8x2048x8x64_0_3_1_2)
    shapeCasts_S8x2048x8x64_S16384x512

theorem res_eq (m : (ℓ : Loc nD τ sig) → Buf (Elt F) ℓ) (c : Dev nD) :
    res_out0 m c = out (m ((c.tc : Thread nD τ).loc main_arg0)) (m ((c.tc : Thread nD τ).loc main_arg1)) (m ((c.tc : Thread nD τ).loc main_arg2)) := rfl

theorem scores_apply (q k : FVec Ideal S16384x1024 .bf16) (b h : Fin 8) (x y : Fin 2048) :
    scores q k (ix4 b h x y) = if y.val ≤ x.val then
      (∑ d : Fin 128, q (ix2 ⟨b.val * 2048 + x.val, by omega⟩ ⟨h.val * 128 + d.val, by omega⟩)
        * k (ix2 ⟨b.val * 2048 + y.val, by omega⟩ ⟨h.val * 128 + d.val, by omega⟩)) * ((Real.log 2 : ℝ) : EReal) else ⊥ := by
  pointwise [scores, ofBits_neg_inf, ofBits_two, log_two]
  rw [select_le _ _ (by omega) (by omega)]
  exact congrArg (ite _ _) ofBits_neg_inf

/-- A maximum along the last of four axes. -/
theorem reduce_apply {n0 n1 n2 n3 : ℕ} (hr : (⟨4, ![n0, n1, n2, n3]⟩ : Shape).ReducesTo [3] ⟨3, ![n0, n1, n2]⟩)
    (s : FVec Ideal ⟨4, ![n0, n1, n2, n3]⟩ .f32) (b : Fin n0) (h : Fin n1) (x : Fin n2) :
    Host.reduce FloatOps.maximumf s (constant S_ .f32 0xFF800000#32) hr h_S_ (ix3 b h x) = Finset.univ.fold max ⊥ fun y : Fin n3 => s (ix4 b h x y) := by
  pointwise [ofBits_neg_inf]

theorem top_apply (s : FVec Ideal S8x8x2048x2048 .f32) (b h : Fin 8) (x : Fin 2048) :
    top s (ix3 b h x) = max ⊥ (Finset.univ.fold max ⊥ fun y : Fin 2048 => s (ix4 b h x y)) := by
  unfold top
  refine (maximumf_apply _ _ _).trans ?_
  rw [reduce_apply]
  exact congrArg (max · _) ofBits_neg_inf

theorem exps_apply (s : FVec Ideal S8x8x2048x2048 .f32) (b h : Fin 8) (x y : Fin 2048) :
    exps s (ix4 b h x y) = Ideal.exp (s (ix4 b h x y) - top s (ix3 b h x)) := by
  pointwise [exps]

theorem soft_apply (s : FVec Ideal S8x8x2048x2048 .f32) (b h : Fin 8) (x y : Fin 2048) :
    soft s (ix4 b h x y) = Ideal.div (exps s (ix4 b h x y)) (∑ z : Fin 2048, exps s (ix4 b h x z)) := by
  pointwise [soft]

theorem out_apply (q k : FVec Ideal S16384x1024 .bf16) (v : FVec Ideal S16384x512 .bf16) (b h : Fin 8) (x : Fin 2048) (d : Fin 64) :
    out q k v (ix2 ⟨b.val * 2048 + x.val, by omega⟩ ⟨h.val * 64 + d.val, by omega⟩)
      = ∑ y : Fin 2048, v (ix2 ⟨b.val * 2048 + y.val, by omega⟩ ⟨h.val * 64 + d.val, by omega⟩) * soft (scores q k) (ix4 b h x y) := by
  pointwise [out]

/-- The weight of key `y` for query `x`, of arrays of reals. -/
def wt (Q K : S16384x1024.Idx → ℝ) (b h : Fin 8) (x y : Fin 2048) : ℝ :=
  (2 : ℝ) ^ (∑ d : Fin 128, Q (ix2 ⟨b.val * 2048 + x.val, by omega⟩ ⟨h.val * 128 + d.val, by omega⟩)
    * K (ix2 ⟨b.val * 2048 + y.val, by omega⟩ ⟨h.val * 128 + d.val, by omega⟩))

/-- The mean of the values of the keys up to the query, weighted. -/
def mean (Q K : S16384x1024.Idx → ℝ) (V : S16384x512.Idx → EReal) (b h : Fin 8) (x : Fin 2048) (d : Fin 64) : EReal :=
  (∑ y : Fin 2048, if y.val ≤ x.val then V (ix2 ⟨b.val * 2048 + y.val, by omega⟩ ⟨h.val * 64 + d.val, by omega⟩) * (wt Q K b h x y : EReal) else 0)
    * ((1 / ∑ y : Fin 2048, if y.val ≤ x.val then wt Q K b h x y else 0 : ℝ) : EReal)

theorem out_value (q k : FVec Ideal S16384x1024 .bf16) (v : FVec Ideal S16384x512 .bf16) (Q K : S16384x1024.Idx → ℝ)
    (hq : ∀ i, q i = (Q i : EReal)) (hk : ∀ i, k i = (K i : EReal)) (b h : Fin 8) (x : Fin 2048) (d : Fin 64) :
    out q k v (ix2 ⟨b.val * 2048 + x.val, by omega⟩ ⟨h.val * 64 + d.val, by omega⟩) = mean Q K v b h x d := by
  have hs := softmax_mean
    (fun y : Fin 2048 => if y.val ≤ x.val then
      ((∑ d : Fin 128, Q (ix2 ⟨b.val * 2048 + x.val, by omega⟩ ⟨h.val * 128 + d.val, by omega⟩)
        * K (ix2 ⟨b.val * 2048 + y.val, by omega⟩ ⟨h.val * 128 + d.val, by omega⟩) : ℝ) : EReal) else ⊥)
    (fun y => if y.val ≤ x.val then wt Q K b h x y else 0)
    (fun y => v (ix2 ⟨b.val * 2048 + y.val, by omega⟩ ⟨h.val * 64 + d.val, by omega⟩))
    (fun y => by
      by_cases e : y.val ≤ x.val
      · simp only [if_pos e]; exact .inr ⟨_, rfl, rfl⟩
      · simp only [if_neg e]; exact .inl ⟨rfl, rfl⟩)
    0 (by rw [if_pos (show (0 : Fin 2048).val ≤ x.val from Nat.zero_le _)]; exact EReal.coe_ne_bot _)
    (fun y => scores q k (ix4 b h x y))
    (fun y => by
      rw [scores_apply]
      by_cases e : y.val ≤ x.val
      · rw [if_pos e, if_pos e, if_neg (EReal.coe_ne_bot _), ← coe_sum]
        simp only [hq, hk, EReal.coe_mul]
      · rw [if_neg e, if_neg e, if_pos rfl])
    _ (top_apply _ b h x)
  rw [out_apply]
  simp only [soft_apply, exps_apply]
  rw [hs]
  simp only [fun (p : Prop) [Decidable p] (r : ℝ) => apply_ite (P := p) Real.toEReal r 0, EReal.coe_zero, mul_ite, mul_zero]
  rfl

end Cert.ReferenceIdeal.Attn

end
-- ==== Proof.Array.lean ====
/- The kernel's result array, from the blocks: every entry is the mean of the values of the keys up to its query. -/
module

public import proofs.«01_k».proof.Proof.Data
public import proofs.«01_k».proof.Proof.StateValue
public import proofs.«01_k».proof.Proof.RefValue
public import Idealize.ShloMosaic.Lib.Pipeline.ValueKit
public import Idealize.ShloMosaic.Lib.Pipeline.Covers

@[expose] public section

set_option maxRecDepth 16384

noncomputable section

namespace Cert.KernelIdeal.Attn

open Cert.KernelIdeal Cert.KernelIdeal.Gen
open Idealize.ShloMosaic Idealize.ShloMosaic.TcCoe Idealize.SL.Sem
open Idealize.ShloMosaic.Pipeline (Dat Cfg Window)
open Cert.Attn

variable (m : (ℓ : Loc nD τ sig) → Buf (Elt Ideal) ℓ)

theorem covers : (cfg0.win 3).Covers := by decide +kernel

theorem index0 : ∀ t : Fin cfg0.N, win0_0.index t 0 = t.val ∧ win0_0.index t 1 = 0 := by decide +kernel
theorem index1 : ∀ t : Fin cfg0.N, win0_1.index t 0 = t.val / 8 ∧ win0_1.index t 1 = 0 := by decide +kernel
theorem index2 : ∀ t : Fin cfg0.N, win0_2.index t 0 = t.val / 8 ∧ win0_2.index t 1 = 0 := by decide +kernel
theorem index3 : ∀ t : Fin cfg0.N, win0_3.index t 0 = t.val ∧ win0_3.index t 1 = 0 := by decide +kernel

theorem lt_64 (t : Fin cfg0.N) : t.val < 64 := t.isLt

theorem emb0 (t : Fin cfg0.N) (b : Fin 256) (k : Fin 1024) :
    (win0_0.blk t).view.emb (ix2 b k) = ix2 (n0 := 16384) (n1 := 1024) ⟨256 * t.val + b.val, by have := lt_64 t; omega⟩ k := by
  funext a
  refine Fin.ext ?_
  fin_cases a
  · blk_simp [(index0 t).1]
    show t.val * 256 + b.val = 256 * t.val + b.val
    omega
  · blk_simp [(index0 t).2]
    rfl

theorem emb1 (t : Fin cfg0.N) (b : Fin 2048) (k : Fin 1024) :
    (win0_1.blk t).view.emb (ix2 b k) = ix2 (n0 := 16384) (n1 := 1024) ⟨2048 * (t.val / 8) + b.val, by have := lt_64 t; omega⟩ k := by
  funext a
  refine Fin.ext ?_
  fin_cases a
  · blk_simp [(index1 t).1]
    show t.val / 8 * 2048 + b.val = 2048 * (t.val / 8) + b.val
    omega
  · blk_simp [(index1 t).2]
    rfl

theorem emb2 (t : Fin cfg0.N) (b : Fin 2048) (k : Fin 512) :
    (win0_2.blk t).view.emb (ix2 b k) = ix2 (n0 := 16384) (n1 := 512) ⟨2048 * (t.val / 8) + b.val, by have := lt_64 t; omega⟩ k := by
  funext a
  refine Fin.ext ?_
  fin_cases a
  · blk_simp [(index2 t).1]
    show t.val / 8 * 2048 + b.val = 2048 * (t.val / 8) + b.val
    omega
  · blk_simp [(index2 t).2]
    rfl

theorem emb3 (t : Fin cfg0.N) (b : Fin 256) (k : Fin 512) :
    (win0_3.blk t).view.emb (ix2 b k) = ix2 (n0 := 16384) (n1 := 512) ⟨256 * t.val + b.val, by have := lt_64 t; omega⟩ k := by
  funext a
  refine Fin.ext ?_
  fin_cases a
  · blk_simp [(index3 t).1]
    show t.val * 256 + b.val = 256 * t.val + b.val
    omega
  · blk_simp [(index3 t).2]
    rfl

/-- The result array, of arrays of reals, is the reference's. -/
theorem array_value (c : Dev nD) (Q K : S16384x1024.Idx → ℝ)
    (hq : ∀ i, m ((c : Thread nD τ).loc main_arg0) i = (Q i : EReal)) (hk : ∀ i, m ((c : Thread nD τ).loc main_arg1) i = (K i : EReal)) :
    (dats (F := Ideal) m 0 c).arrAt 3 cfg0.N
      = Cert.ReferenceIdeal.Attn.out (F := Ideal) (m ((c : Thread nD τ).loc main_arg0)) (m ((c : Thread nD τ).loc main_arg1)) (m ((c : Thread nD τ).loc main_arg2)) := by
  refine (dats m 0 c).arrAt_eq_of_covers 3 _ covers fun t hf y => ?_
  blk_simp
  rw [after0_3]
  have h0 : iblk m c 0 t = up (φ := .bf16) (fun z => Q ((win0_0.blk t).view.emb z)) := funext fun z => hq _
  have h1 : iblk m c 1 t = up (φ := .bf16) (fun z => K ((win0_1.blk t).view.emb z)) := funext fun z => hk _
  have h2 : iblk m c 2 t = fun z => m ((c : Thread nD τ).loc main_arg2) ((win0_2.blk t).view.emb z) := rfl
  rw [h0, h1, h2]
  have ht := lt_64 t
  obtain ⟨b, e, rfl⟩ : ∃ (b : Fin 256) (e : Fin 512), y = ix2 b e := ⟨y 0, y 1, eq_ix2 y⟩
  obtain ⟨h, d, rfl⟩ : ∃ (h : Fin 8) (d : Fin 64), e = ⟨64 * h.val + d.val, by omega⟩ :=
    ⟨⟨e.val / 64, by omega⟩, ⟨e.val % 64, by omega⟩, Fin.ext (by show e.val = 64 * (e.val / 64) + e.val % 64; omega)⟩
  refine (bodyOut_apply _ _ _ (grid0.coords t) (trips_eq _) h b d).trans ?_
  have hix : (win0_3.blk t).view.emb (ix2 b ⟨64 * h.val + d.val, by omega⟩)
      = ix2 (n0 := 16384) (n1 := 512) ⟨(⟨t.val / 8, by omega⟩ : Fin 8).val * 2048 + (⟨256 * (t.val % 8) + b.val, by omega⟩ : Fin 2048).val, by simp only []; omega⟩
          ⟨h.val * 64 + d.val, by omega⟩ := by
    rw [emb3]
    congr 1
    · exact Fin.ext (by show 256 * t.val + b.val = t.val / 8 * 2048 + (256 * (t.val % 8) + b.val); omega)
    · exact Fin.ext (by show 64 * h.val + d.val = h.val * 64 + d.val; omega)
  rw [hix, Cert.ReferenceIdeal.Attn.out_value _ _ _ Q K hq hk, coord1]
  unfold Cert.ReferenceIdeal.Attn.mean
  have hw : ∀ x : Fin 2048, wt (fun z => Q ((win0_0.blk t).view.emb z)) (fun z => K ((win0_1.blk t).view.emb z)) h b x.val
      = Cert.ReferenceIdeal.Attn.wt Q K ⟨t.val / 8, by omega⟩ h ⟨256 * (t.val % 8) + b.val, by omega⟩ x := fun x => by
    unfold wt sc Cert.ReferenceIdeal.Attn.wt
    congr 1
    refine Finset.sum_congr rfl fun k _ => ?_
    rw [mul_comm]
    refine congrArg₂ (· * ·) (congrArg Q ?_) (congrArg K ?_)
    · rw [emb0]
      congr 1
      · exact Fin.ext (by show 256 * t.val + b.val = t.val / 8 * 2048 + (256 * (t.val % 8) + b.val); omega)
      · exact Fin.ext (by show (128 * h.val + k.val) % 1024 = h.val * 128 + k.val; omega)
    · rw [emb1]
      congr 1
      · exact Fin.ext (by show 2048 * (t.val / 8) + x.val % 2048 = t.val / 8 * 2048 + x.val; omega)
      · exact Fin.ext (by show (128 * h.val + k.val) % 1024 = h.val * 128 + k.val; omega)
  have hu : ∀ x : Fin 2048, val (fun z => m ((c : Thread nD τ).loc main_arg2) ((win0_2.blk t).view.emb z)) h d x.val
      = m ((c : Thread nD τ).loc main_arg2) (ix2 ⟨(⟨t.val / 8, by omega⟩ : Fin 8).val * 2048 + x.val, by simp only []; omega⟩ ⟨h.val * 64 + d.val, by omega⟩) := fun x => by
    unfold val
    refine congrArg (m ((c : Thread nD τ).loc main_arg2)) ?_
    rw [emb2]
    congr 1
    · exact Fin.ext (by show 2048 * (t.val / 8) + x.val % 2048 = t.val / 8 * 2048 + x.val; omega)
    · exact Fin.ext (by show (64 * h.val + d.val) % 512 = h.val * 64 + d.val; omega)
  refine congrArg₂ (· * ·) (Finset.sum_congr rfl fun x _ => ?_) (congrArg (fun r : ℝ => ((1 / r : ℝ) : EReal)) (Finset.sum_congr rfl fun x _ => ?_))
  · exact congrArg (ite _ · 0) (congrArg₂ (· * ·) (hu x) (congrArg Real.toEReal (hw x)))
  · exact congrArg (ite _ · 0) (hw x)

end Cert.KernelIdeal.Attn

end
-- ==== Proof.Finite.lean ====
/- What the precondition says of the arrays: the queries and the keys are reals. -/
module

public import proofs.«01_k».proof.Proof.Gen.Pre_finite
public import Idealize.ShloMosaic.Lib.Pointwise
public import Idealize.ShloMosaic.Lib.ReduceAll

@[expose] public section

set_option maxRecDepth 16384

noncomputable section

namespace Cert.Attn

open Idealize.ShloMosaic
open Cert.Pre_finite Cert.Pre_finite.Facts

attribute [local instance] Cert.Pre_finite.Gen.facts

/-- The pattern of plus infinity. -/
theorem ofBits_inf : Ideal.ofBits .f32 0x7F800000#32 = ⊤ := by
  simp [Ideal.ofBits, Ideal.ieee]

/-- An extended real whose absolute value is below plus infinity is a real. -/
theorem real_of_abs (x : EReal) (h : Ideal.cmp .olt (max x (-x)) ⊤ = 1#1) : ∃ r : ℝ, x = (r : EReal) := by
  have h' : max x (-x) < ⊤ := by
    by_contra e
    have : Ideal.cmp .olt (max x (-x)) ⊤ = 0#1 := by simp [Ideal.cmp, e]
    rw [this] at h
    exact absurd h (by decide)
  induction x using EReal.rec with
  | bot => simp at h'
  | coe r => exact ⟨r, rfl⟩
  | top => simp at h'

/-- An array all of whose entries pass the test is an array of reals. -/
theorem reals_of_all (x : FVec Ideal S16384x1024 .bf16)
    (h : Host.reduce IntOp.andi (cmpf .olt (Host.absf (extf .f32 x bitsLt_bf16_f32)) (broadcastInDim S16384x1024 ![] bcast_S_S16384x1024 (constant S_ .f32 0x7F800000#32)))
      (constantI S_ 1 1#1) reducesTo_S16384x1024_S_d0_1 h_S_ ix0 = 1#1) : ∃ X : S16384x1024.Idx → ℝ, ∀ i, x i = (X i : EReal) := by
  haveI : Subsingleton S_.Idx := ⟨fun a b => funext fun i => i.elim0⟩
  have hx : ∀ i, ∃ r : ℝ, x i = (r : EReal) := fun i => by
    refine real_of_abs _ ?_
    have := Host.reduce_andi_all _ _ _ _ _ h i
    rw [← ofBits_inf]
    exact this
  choose X hX using hx
  exact ⟨X, hX⟩

theorem reals_of_finite (q k : FVec Ideal S16384x1024 .bf16) (v : FVec Ideal S16384x512 .bf16) (h : Cert.Pre_finite.fn (F := Ideal) q k v = fun _ => 1#1) :
    (∃ Q : S16384x1024.Idx → ℝ, ∀ i, q i = (Q i : EReal)) ∧ ∃ K : S16384x1024.Idx → ℝ, ∀ i, k i = (K i : EReal) := by
  obtain ⟨h1, h2⟩ := IntOp.andi_eq_one.1 (congrFun h ix0)
  exact ⟨reals_of_all q h1, reals_of_all k h2⟩

end Cert.Attn

end
-- ==== Proof.InWeights.lean ====
/- The input projection's weights as the kernel lays them out: the columns it keeps of `w_in`, in its order, each head's
   query and key columns in a slab of 128 with a rotated copy. -/
module

public import proofs.«01_k».proof.Proof.Gen.Kernel2Ideal.Frame
public import Idealize.ShloMosaic.Lib.Pointwise

@[expose] public section

set_option maxRecDepth 16384

noncomputable section

namespace Cert.Kernel2Ideal.InProj

open Cert.Kernel2Ideal Cert.Kernel2Ideal.Gen Cert.Kernel2Ideal.Facts
open Idealize.ShloMosaic Idealize.ShloMosaic.TcCoe Idealize.SL.Sem

variable {F : FTy → Type} [FloatOps F]

/-- Queries' or keys' columns: 64 a head, in slabs of 128. -/
def slab (x : FVec F S1024x512 .f32) : FVec F S1024x1024 .f32 :=
  have y : FVec F S1024x8x64 .f32 := shapeCast _ x shapeCasts_S1024x512_S1024x8x64
  shapeCast _ (concatenate S1024x8x128 2 [⟨S1024x8x64, y⟩,
    ⟨S1024x8x16, concatenate S1024x8x16 2 [⟨S1024x8x8, Host.negf (extractStridedSlice S1024x8x8 ![0, 0, 8] y slices_S1024x8x64_S1024x8x8_0_0_8)⟩,
      ⟨S1024x8x8, extractStridedSlice S1024x8x8 ![0, 0, 0] y slices_S1024x8x64_S1024x8x8_0_0_0⟩] concatenates_S1024x8x8_S1024x8x8_S1024x8x16_d2⟩,
    ⟨S1024x8x48, broadcastInDim S1024x8x48 ![] bcast_S_S1024x8x48 (constant S_ .f32 0x00000000#32)⟩] concatenates_S1024x8x64_S1024x8x16_S1024x8x48_S1024x8x128_d2)
    shapeCasts_S1024x8x128_S1024x1024

/-- The kernel's weights. -/
def weights (w : FVec F S1024x7728 .f32) : FVec F S1024x8704 .bf16 :=
  have x : FVec F S1024x1536 .f32 := extractStridedSlice S1024x1536 ![0, 1056] w slices_S1024x7728_S1024x1536_0_1056
  truncf .bf16 (concatenate S1024x8704 1 [⟨S1024x3072, extractStridedSlice S1024x3072 ![0, 4656] w slices_S1024x7728_S1024x3072_0_4656⟩,
    ⟨S1024x768, extractStridedSlice S1024x768 ![0, 0] w slices_S1024x7728_S1024x768_0_0⟩,
    ⟨S1024x256, extractStridedSlice S1024x256 ![0, 768] w slices_S1024x7728_S1024x256_0_768⟩,
    ⟨S1024x1024, slab (extractStridedSlice S1024x512 ![0, 0] x slices_S1024x1536_S1024x512_0_0)⟩,
    ⟨S1024x1024, slab (extractStridedSlice S1024x512 ![0, 512] x slices_S1024x1536_S1024x512_0_512)⟩,
    ⟨S1024x512, extractStridedSlice S1024x512 ![0, 1024] x slices_S1024x1536_S1024x512_0_1024⟩,
    ⟨S1024x1536, extractStridedSlice S1024x1536 ![0, 2592] w slices_S1024x7728_S1024x1536_0_2592⟩,
    ⟨S1024x512, extractStridedSlice S1024x512 ![0, 4128] w slices_S1024x7728_S1024x512_0_4128⟩]
    concatenates_S1024x3072_S1024x768_S1024x256_S1024x1024_S1024x1024_S1024x512_S1024x1536_S1024x512_S1024x8704_d1) bitsLt_bf16_f32

theorem slab_apply (x : FVec Ideal S1024x512 .f32) (k e : Fin 1024) (g : Fin 512) (h : Fin 8) (d : Fin 64) (he : e.val = h.val * 128 + d.val)
    (hg : g.val = h.val * 64 + d.val) : slab x (ix2 k e) = x (ix2 k g) := by
  pointwise [slab]
  rw [dif_pos (show e.val % 128 < 64 by omega)]
  exact congrArg x (congrArg (ix2 k) (Fin.ext (by show e.val / 128 * 64 + e.val % 128 = g.val; omega)))

variable (w : FVec Ideal S1024x7728 .f32) (k : Fin 1024)

theorem weights_gate (j : Fin 3072) : weights w (ix2 k ⟨j.val, by omega⟩) = w (ix2 k ⟨4656 + j.val, by omega⟩) := by
  pointwise [weights]

theorem weights_cq (j : Fin 768) : weights w (ix2 k ⟨3072 + j.val, by omega⟩) = w (ix2 k ⟨j.val, by omega⟩) := by
  pointwise [weights]

theorem weights_ckv (j : Fin 256) : weights w (ix2 k ⟨3840 + j.val, by omega⟩) = w (ix2 k ⟨768 + j.val, by omega⟩) := by
  pointwise [weights]
  simp (disch := omega) only [dif_pos, dif_neg]
  exact congrArg w (congrArg (ix2 k) (Fin.ext (by show 768 + (3840 + j.val - 3072 - 768) = 768 + j.val; omega)))

theorem weights_mq (h : Fin 8) (d : Fin 64) :
    weights w (ix2 k ⟨4096 + (h.val * 128 + d.val), by omega⟩) = w (ix2 k ⟨1056 + (h.val * 64 + d.val), by omega⟩) := by
  pointwise [weights]
  simp (disch := omega) only [dif_pos, dif_neg]
  refine (slab_apply _ k _ ⟨h.val * 64 + d.val, by omega⟩ h d (by show 4096 + (h.val * 128 + d.val) - 3072 - 768 - 256 = _; omega) rfl).trans ?_
  pointwise

theorem weights_mk (h : Fin 8) (d : Fin 64) :
    weights w (ix2 k ⟨5120 + (h.val * 128 + d.val), by omega⟩) = w (ix2 k ⟨1568 + (h.val * 64 + d.val), by omega⟩) := by
  pointwise [weights]
  simp (disch := omega) only [dif_pos, dif_neg]
  refine (slab_apply _ k _ ⟨h.val * 64 + d.val, by omega⟩ h d (by show 5120 + (h.val * 128 + d.val) - 3072 - 768 - 256 - 1024 = _; omega) rfl).trans ?_
  pointwise
  exact congrArg w (congrArg (ix2 k) (Fin.ext (by show _ = 1568 + (h.val * 64 + d.val); simp only []; omega)))

theorem weights_mv (j : Fin 512) : weights w (ix2 k ⟨6144 + j.val, by omega⟩) = w (ix2 k ⟨2080 + j.val, by omega⟩) := by
  pointwise [weights]
  simp (disch := omega) only [dif_pos, dif_neg]
  exact congrArg w (congrArg (ix2 k) (Fin.ext (by show 1056 + (1024 + (6144 + j.val - 3072 - 768 - 256 - 1024 - 1024)) = 2080 + j.val; omega)))

theorem weights_gqkv (j : Fin 1536) : weights w (ix2 k ⟨6656 + j.val, by omega⟩) = w (ix2 k ⟨2592 + j.val, by omega⟩) := by
  pointwise [weights]
  simp (disch := omega) only [dif_pos, dif_neg]
  exact congrArg w (congrArg (ix2 k) (Fin.ext (by show 2592 + (6656 + j.val - 3072 - 768 - 256 - 1024 - 1024 - 512) = 2592 + j.val; omega)))

theorem weights_gz (j : Fin 512) : weights w (ix2 k ⟨8192 + j.val, by omega⟩) = w (ix2 k ⟨4128 + j.val, by omega⟩) := by
  pointwise [weights]
  simp (disch := omega) only [dif_pos, dif_neg]
  exact congrArg w (congrArg (ix2 k) (Fin.ext (by show 4128 + (8192 + j.val - 3072 - 768 - 256 - 1024 - 1024 - 512 - 1536) = 4128 + j.val; omega)))

end Cert.Kernel2Ideal.InProj

end
-- ==== Proof.InEntry.lean ====
/- The input projection's weights where the kernel starts: the host operations before it leave the laid-out weights. -/
module

public import proofs.«01_k».proof.Proof.InWeights

@[expose] public section

set_option maxRecDepth 16384

noncomputable section

namespace Cert.Kernel2Ideal.InProj

open Cert.Kernel2Ideal Cert.Kernel2Ideal.Gen Cert.Kernel2Ideal.Facts
open Idealize.ShloMosaic Idealize.ShloMosaic.TcCoe Idealize.SL.Sem

variable {F : FTy → Type} [FloatOps F]

set_option maxHeartbeats 4000000 in
/-- The region finds the kernel's weights. -/
theorem V_weights (m : (ℓ : Loc nD τ sig) → Buf (Elt F) ℓ) (c : Dev nD) :
    V m c main_v35 = weights (m ((c : Thread nD τ).loc main_arg1)) := by
  show StableHlo.after hostOps0 (fun b => m (c, b)) _ = _
  after_results
  rfl

end Cert.Kernel2Ideal.InProj

end
-- ==== Proof.InArray.lean ====
/- The array the input projection leaves: every entry is the sum over the layer input's 1024 entries. -/
module

public import proofs.«01_k».proof.Proof.Gen.Kernel2Ideal.Frame
public import Idealize.ShloMosaic.Lib.Pointwise
public import Idealize.ShloMosaic.Lib.Pipeline.ValueKit
public import Idealize.ShloMosaic.Lib.Pipeline.Covers

@[expose] public section

set_option maxRecDepth 16384

noncomputable section

namespace Cert.Kernel2Ideal.InProj

open Cert.Kernel2Ideal Cert.Kernel2Ideal.Gen Cert.Kernel2Ideal.Facts
open Idealize.ShloMosaic Idealize.ShloMosaic.TcCoe Idealize.SL.Sem
open Idealize.ShloMosaic.Pipeline (Dat Cfg Window)

variable (m : (ℓ : Loc nD τ sig) → Buf (Elt Ideal) ℓ)

theorem covers : (cfg0.win 2).Covers := by decide +kernel

theorem index0 : ∀ t : Fin cfg0.N, win0_0.index t 0 = t.val % 32 ∧ win0_0.index t 1 = 0 := by decide +kernel
theorem index1 : ∀ t : Fin cfg0.N, win0_1.index t 0 = 0 ∧ win0_1.index t 1 = t.val / 32 := by decide +kernel
theorem index2 : ∀ t : Fin cfg0.N, win0_2.index t 0 = t.val % 32 ∧ win0_2.index t 1 = t.val / 32 := by decide +kernel

theorem lt_64 (t : Fin cfg0.N) : t.val < 64 := t.isLt

theorem emb0 (t : Fin cfg0.N) (b : Fin 512) (k : Fin 1024) :
    (win0_0.blk t).view.emb (ix2 b k) = ix2 (n0 := 16384) (n1 := 1024) ⟨512 * (t.val % 32) + b.val, by omega⟩ k := by
  funext a
  refine Fin.ext ?_
  fin_cases a
  · blk_simp [(index0 t).1]
    show t.val % 32 * 512 + b.val = 512 * (t.val % 32) + b.val
    omega
  · blk_simp [(index0 t).2]
    rfl

theorem emb1 (t : Fin cfg0.N) (k : Fin 1024) (e : Fin 4352) :
    (win0_1.blk t).view.emb (ix2 k e) = ix2 (n0 := 1024) (n1 := 8704) k ⟨4352 * (t.val / 32) + e.val, by have := lt_64 t; omega⟩ := by
  funext a
  refine Fin.ext ?_
  fin_cases a
  · blk_simp [(index1 t).1]
    rfl
  · blk_simp [(index1 t).2]
    show t.val / 32 * 4352 + e.val = 4352 * (t.val / 32) + e.val
    omega

theorem emb2 (t : Fin cfg0.N) (b : Fin 512) (e : Fin 4352) :
    (win0_2.blk t).view.emb (ix2 b e) = ix2 (n0 := 16384) (n1 := 8704) ⟨512 * (t.val % 32) + b.val, by omega⟩ ⟨4352 * (t.val / 32) + e.val, by have := lt_64 t; omega⟩ := by
  funext a
  refine Fin.ext ?_
  fin_cases a
  · blk_simp [(index2 t).1]
    show t.val % 32 * 512 + b.val = 512 * (t.val % 32) + b.val
    omega
  · blk_simp [(index2 t).2]
    show t.val / 32 * 4352 + e.val = 4352 * (t.val / 32) + e.val
    omega

/-- A block of the result. -/
theorem block_apply (x : FVec Ideal S512x1024 .f32) (w : FVec Ideal S1024x4352 .bf16) (b : Fin 512) (e : Fin 4352) :
    out0_2 (F := Ideal) x w (ix2 b e) = ∑ k : Fin 1024, x (ix2 b k) * w (ix2 k e) := by
  have hz : (![0, 0] : Fin 2 → Nat) = fun _ => 0 := by funext a; fin_cases a <;> rfl
  unfold out0_2
  rw [View.canon_unit_zero hz, View.ld_unit_zero hz, View.ld_unit_zero hz]
  pointwise [k0_pay1]

/-- The layer input times the weights. -/
def product (h : FVec Ideal S16384x1024 .f32) (w : FVec Ideal S1024x8704 .bf16) : FVec Ideal S16384x8704 .bf16 :=
  fun i => ∑ k : Fin 1024, h (ix2 (i 0) k) * w (ix2 k (i 1))

theorem array_value (c : Dev nD) :
    (dats (F := Ideal) m 0 c).arrAt 2 cfg0.N = product (m ((c : Thread nD τ).loc main_arg0)) (V m c main_v35) := by
  refine (dats m 0 c).arrAt_eq_of_covers 2 _ covers fun t hf y => ?_
  blk_simp
  rw [after0_2]
  obtain ⟨b, e, rfl⟩ : ∃ (b : Fin 512) (e : Fin 4352), y = ix2 b e := ⟨y 0, y 1, eq_ix2 y⟩
  refine (block_apply _ _ b e).trans ?_
  have hix := emb2 t b e
  refine Eq.trans ?_ (congrArg (product _ _) hix.symm)
  refine Finset.sum_congr rfl fun k _ => congrArg₂ (· * ·) ?_ ?_
  · show V m c main_arg0 _ = _
    rw [V_main_arg0]
    exact congrArg (m ((c : Thread nD τ).loc main_arg0)) (emb0 t b k)
  · exact congrArg (V m c main_v35) (emb1 t k e)

end Cert.Kernel2Ideal.InProj

end
-- ==== Proof.InResults.lean ====
/- What the input projection's program returns, and that each result is the reference's. -/
module

public import proofs.«01_k».proof.Proof.InEntry
public import proofs.«01_k».proof.Proof.InArray
public import proofs.«01_k».proof.Proof.Gen.Reference2Ideal.Run

@[expose] public section

set_option maxRecDepth 16384

noncomputable section

namespace Cert.Kernel2Ideal.InProj

open Cert.Kernel2Ideal Cert.Kernel2Ideal.Gen Cert.Kernel2Ideal.Facts
open Idealize.ShloMosaic Idealize.ShloMosaic.TcCoe Idealize.SL.Sem

/-- Queries or keys out of their slabs. -/
def heads (x : FVec Ideal S16384x1024 .bf16) : FVec Ideal S16384x512 .bf16 :=
  shapeCast _ (extractStridedSlice S16384x8x64 ![0, 0, 0] (shapeCast _ x shapeCasts_S16384x1024_S16384x8x128) slices_S16384x8x128_S16384x8x64_0_0_0) shapeCasts_S16384x8x64_S16384x512

/-- The results, of the array the kernel leaves. -/
def cq (p : FVec Ideal S16384x8704 .bf16) : FVec Ideal S16384x768 .bf16 := extractStridedSlice S16384x768 ![0, 3072] p slices_S16384x8704_S16384x768_0_3072
def ckv (p : FVec Ideal S16384x8704 .bf16) : FVec Ideal S16384x256 .bf16 := extractStridedSlice S16384x256 ![0, 3840] p slices_S16384x8704_S16384x256_0_3840
def moba (p : FVec Ideal S16384x8704 .bf16) : FVec Ideal S16384x1536 .bf16 :=
  concatenate S16384x1536 1 [⟨S16384x512, heads (extractStridedSlice S16384x1024 ![0, 4096] p slices_S16384x8704_S16384x1024_0_4096)⟩,
    ⟨S16384x512, heads (extractStridedSlice S16384x1024 ![0, 5120] p slices_S16384x8704_S16384x1024_0_5120)⟩,
    ⟨S16384x512, extractStridedSlice S16384x512 ![0, 6144] p slices_S16384x8704_S16384x512_0_6144⟩] concatenates_S16384x512_S16384x512_S16384x512_S16384x1536_d1
def gqkv (p : FVec Ideal S16384x8704 .bf16) : FVec Ideal S16384x1536 .bf16 := extractStridedSlice S16384x1536 ![0, 6656] p slices_S16384x8704_S16384x1536_0_6656
def gz (p : FVec Ideal S16384x8704 .bf16) : FVec Ideal S16384x512 .bf16 := extractStridedSlice S16384x512 ![0, 8192] p slices_S16384x8704_S16384x512_0_8192
def gate (p : FVec Ideal S16384x8704 .bf16) : FVec Ideal S16384x3072 .bf16 := extractStridedSlice S16384x3072 ![0, 0] p slices_S16384x8704_S16384x3072_0_0

section after
variable (X : Valuation τ sig (Elt Ideal))
set_option maxHeartbeats 1000000
theorem after_cq : StableHlo.after hostOps1 X (Proc.devRef .tc main_v38) = cq (X (Proc.devRef .tc main_v37)) := by after_results; rfl
theorem after_ckv : StableHlo.after hostOps1 X (Proc.devRef .tc main_v39) = ckv (X (Proc.devRef .tc main_v37)) := by after_results; rfl
theorem after_moba : StableHlo.after hostOps1 X (Proc.devRef .tc main_v49) = moba (X (Proc.devRef .tc main_v37)) := by after_results; rfl
theorem after_gqkv : StableHlo.after hostOps1 X (Proc.devRef .tc main_v50) = gqkv (X (Proc.devRef .tc main_v37)) := by after_results; rfl
theorem after_gz : StableHlo.after hostOps1 X (Proc.devRef .tc main_v51) = gz (X (Proc.devRef .tc main_v37)) := by after_results; rfl
theorem after_gate : StableHlo.after hostOps1 X (Proc.devRef .tc main_v52) = gate (X (Proc.devRef .tc main_v37)) := by after_results; rfl
end after

variable (m : (ℓ : Loc nD τ sig) → Buf (Elt Ideal) ℓ) (ρ : Dev nD → PrngReg)

/-- The valuation the lines after the kernel find has the product in the kernel's array. -/
theorem found (c : Dev nD) :
    Pipeline.withArrays (cfgs 0).spec c (V0 m c) (fun w => (dats (F := Ideal) m 0 c).arrAt w (cfgs 0).N) (Proc.devRef .tc main_v37)
      = product (m ((c : Thread nD τ).loc main_arg0)) (weights (m ((c : Thread nD τ).loc main_arg1))) :=
  (Pipeline.withArrays_arr spec0 launch0.win.arr_inj c (V0 m c) _ 2).trans ((array_value m c).trans (congrArg (product _) (V_weights m c)))

end Cert.Kernel2Ideal.InProj

end
-- ==== Proof.InReference.lean ====
/- The reference's input projection, read at an index. -/
module

public import proofs.«01_k».proof.Proof.Gen.Reference2Ideal.Run
public import Idealize.ShloMosaic.Lib.Pointwise

@[expose] public section

set_option maxRecDepth 16384

noncomputable section

namespace Cert.Reference2Ideal.InProj

open Cert.Reference2Ideal Cert.Reference2Ideal.Gen Cert.Reference2Ideal.Facts
open Idealize.ShloMosaic Idealize.ShloMosaic.TcCoe

/-- The layer input times `w_in`. -/
def product (h : FVec Ideal S16384x1024 .f32) (w : FVec Ideal S1024x7728 .f32) : FVec Ideal S16384x7728 .bf16 :=
  truncf .bf16 (Host.dotGeneral dot_S16384x1024_S1024x7728_S16384x7728_1_0_0_1_n_n none h w) bitsLt_bf16_f32

theorem product_apply (h : FVec Ideal S16384x1024 .f32) (w : FVec Ideal S1024x7728 .f32) (r : Fin 16384) (e : Fin 7728) :
    product h w (ix2 r e) = ∑ k : Fin 1024, h (ix2 r k) * w (ix2 k e) := by
  pointwise [product]

def cq (p : FVec Ideal S16384x7728 .bf16) : FVec Ideal S16384x768 .bf16 := extractStridedSlice S16384x768 ![0, 0] p slices_S16384x7728_S16384x768_0_0
def ckv (p : FVec Ideal S16384x7728 .bf16) : FVec Ideal S16384x256 .bf16 := extractStridedSlice S16384x256 ![0, 768] p slices_S16384x7728_S16384x256_0_768
def moba (p : FVec Ideal S16384x7728 .bf16) : FVec Ideal S16384x1536 .bf16 := extractStridedSlice S16384x1536 ![0, 1056] p slices_S16384x7728_S16384x1536_0_1056
def gqkv (p : FVec Ideal S16384x7728 .bf16) : FVec Ideal S16384x1536 .bf16 := extractStridedSlice S16384x1536 ![0, 2592] p slices_S16384x7728_S16384x1536_0_2592
def gz (p : FVec Ideal S16384x7728 .bf16) : FVec Ideal S16384x512 .bf16 := extractStridedSlice S16384x512 ![0, 4128] p slices_S16384x7728_S16384x512_0_4128
def gate (p : FVec Ideal S16384x7728 .bf16) : FVec Ideal S16384x3072 .bf16 := extractStridedSlice S16384x3072 ![0, 4656] p slices_S16384x7728_S16384x3072_0_4656

section
variable (p : FVec Ideal S16384x7728 .bf16) (r : Fin 16384)
theorem cq_apply (j : Fin 768) : cq p (ix2 r j) = p (ix2 r ⟨j.val, by omega⟩) := by pointwise [cq]
theorem ckv_apply (j : Fin 256) : ckv p (ix2 r j) = p (ix2 r ⟨768 + j.val, by omega⟩) := by pointwise [ckv]
theorem moba_apply (j : Fin 1536) : moba p (ix2 r j) = p (ix2 r ⟨1056 + j.val, by omega⟩) := by pointwise [moba]
theorem gqkv_apply (j : Fin 1536) : gqkv p (ix2 r j) = p (ix2 r ⟨2592 + j.val, by omega⟩) := by pointwise [gqkv]
theorem gz_apply (j : Fin 512) : gz p (ix2 r j) = p (ix2 r ⟨4128 + j.val, by omega⟩) := by pointwise [gz]
theorem gate_apply (j : Fin 3072) : gate p (ix2 r j) = p (ix2 r ⟨4656 + j.val, by omega⟩) := by pointwise [gate]
end

end Cert.Reference2Ideal.InProj

end
-- ==== Proof.InAgree.lean ====
/- The input projection's results are the reference's: the same columns of the same products. -/
module

public import proofs.«01_k».proof.Proof.InWeights
public import proofs.«01_k».proof.Proof.InResults
public import proofs.«01_k».proof.Proof.InReference

@[expose] public section

set_option maxRecDepth 16384

noncomputable section

namespace Cert.Kernel2Ideal.InProj

open Cert.Kernel2Ideal Cert.Kernel2Ideal.Gen Cert.Kernel2Ideal.Facts
open Idealize.ShloMosaic Idealize.ShloMosaic.TcCoe

variable (h : FVec Ideal S16384x1024 .f32) (w : FVec Ideal S1024x7728 .f32)

/-- A column of the laid-out weights that is a column of `w_in` gives that column of the reference's product. -/
theorem column (r : Fin 16384) (e : Fin 8704) (e' : Fin 7728) (he : ∀ k : Fin 1024, weights w (ix2 k e) = w (ix2 k e')) :
    product h (weights w) (ix2 r e) = Cert.Reference2Ideal.InProj.product h w (ix2 r e') := by
  rw [Cert.Reference2Ideal.InProj.product_apply]
  exact Finset.sum_congr rfl fun k _ => congrArg (h (ix2 r k) * ·) (he k)

theorem cq_eq : cq (product h (weights w)) = Cert.Reference2Ideal.InProj.cq (Cert.Reference2Ideal.InProj.product h w) := by
  funext i
  obtain ⟨r, j, rfl⟩ : ∃ (r : Fin 16384) (j : Fin 768), i = ix2 r j := ⟨i 0, i 1, eq_ix2 i⟩
  rw [Cert.Reference2Ideal.InProj.cq_apply]
  pointwise [cq]
  exact column h w r _ _ fun k => weights_cq w k j

theorem ckv_eq : ckv (product h (weights w)) = Cert.Reference2Ideal.InProj.ckv (Cert.Reference2Ideal.InProj.product h w) := by
  funext i
  obtain ⟨r, j, rfl⟩ : ∃ (r : Fin 16384) (j : Fin 256), i = ix2 r j := ⟨i 0, i 1, eq_ix2 i⟩
  rw [Cert.Reference2Ideal.InProj.ckv_apply]
  pointwise [ckv]
  exact column h w r _ _ fun k => weights_ckv w k j

theorem gqkv_eq : gqkv (product h (weights w)) = Cert.Reference2Ideal.InProj.gqkv (Cert.Reference2Ideal.InProj.product h w) := by
  funext i
  obtain ⟨r, j, rfl⟩ : ∃ (r : Fin 16384) (j : Fin 1536), i = ix2 r j := ⟨i 0, i 1, eq_ix2 i⟩
  rw [Cert.Reference2Ideal.InProj.gqkv_apply]
  pointwise [gqkv]
  exact column h w r _ _ fun k => weights_gqkv w k j

theorem gz_eq : gz (product h (weights w)) = Cert.Reference2Ideal.InProj.gz (Cert.Reference2Ideal.InProj.product h w) := by
  funext i
  obtain ⟨r, j, rfl⟩ : ∃ (r : Fin 16384) (j : Fin 512), i = ix2 r j := ⟨i 0, i 1, eq_ix2 i⟩
  rw [Cert.Reference2Ideal.InProj.gz_apply]
  pointwise [gz]
  exact column h w r _ _ fun k => weights_gz w k j

theorem gate_eq : gate (product h (weights w)) = Cert.Reference2Ideal.InProj.gate (Cert.Reference2Ideal.InProj.product h w) := by
  funext i
  obtain ⟨r, j, rfl⟩ : ∃ (r : Fin 16384) (j : Fin 3072), i = ix2 r j := ⟨i 0, i 1, eq_ix2 i⟩
  rw [Cert.Reference2Ideal.InProj.gate_apply]
  pointwise [gate]
  exact column h w r _ _ fun k => weights_gate w k j

/-- A query's or key's entry out of its slab. -/
theorem heads_apply (x : FVec Ideal S16384x1024 .bf16) (r : Fin 16384) (j : Fin 512) :
    heads x (ix2 r j) = x (ix2 r ⟨j.val / 64 * 128 + j.val % 64, by omega⟩) := by
  pointwise [heads]

theorem moba_eq : moba (product h (weights w)) = Cert.Reference2Ideal.InProj.moba (Cert.Reference2Ideal.InProj.product h w) := by
  funext i
  obtain ⟨r, j, rfl⟩ : ∃ (r : Fin 16384) (j : Fin 1536), i = ix2 r j := ⟨i 0, i 1, eq_ix2 i⟩
  rw [Cert.Reference2Ideal.InProj.moba_apply]
  pointwise [moba, heads_apply]
  by_cases h1 : j.val < 512
  · rw [dif_pos h1]
    exact column h w r _ _ fun k => (weights_mq w k ⟨j.val / 64, by omega⟩ ⟨j.val % 64, by omega⟩).trans
      (congrArg w (congrArg (ix2 k) (Fin.ext (by show 1056 + (j.val / 64 * 64 + j.val % 64) = 1056 + j.val; omega))))
  · rw [dif_neg h1]
    by_cases h2 : j.val - 512 < 512
    · rw [dif_pos h2]
      exact column h w r _ _ fun k => (weights_mk w k ⟨(j.val - 512) / 64, by omega⟩ ⟨(j.val - 512) % 64, by omega⟩).trans
        (congrArg w (congrArg (ix2 k) (Fin.ext (by show 1568 + ((j.val - 512) / 64 * 64 + (j.val - 512) % 64) = 1056 + j.val; omega))))
    · rw [dif_neg h2]
      exact column h w r _ _ fun k => (weights_mv w k ⟨j.val - 512 - 512, by omega⟩).trans
        (congrArg w (congrArg (ix2 k) (Fin.ext (by show 2080 + (j.val - 512 - 512) = 1056 + j.val; omega))))

end Cert.Kernel2Ideal.InProj

end
-- ==== Proof.InFrames.lean ====
/- The input projection: its program as printed and its idealization are the same text, so one run gives both frames. -/
module

public import proofs.«01_k».proof.Defs
public import proofs.«01_k».proof.Proof.Gen.Kernel2
public import proofs.«01_k».proof.Proof.Gen.Kernel2Ideal.Frame
public import Idealize.ShloMosaic.Lib.Quiescent

@[expose] public section

set_option maxRecDepth 100000
set_option maxHeartbeats 2000000

noncomputable section

namespace Cert.Proof.InProj

open Idealize.ShloMosaic Idealize.ShloMosaic.TcCoe Idealize.SL.Sem

attribute [local instance] Cert.Kernel2.Gen.facts Cert.Kernel2Ideal.Gen.facts

/-- The two programs' bodies are the same, -/
theorem defs₀_eq : Cert.Kernel2.defs₀ (F := Bits) = Cert.Kernel2Ideal.defs₀ (F := Bits) := by
  unfold Cert.Kernel2.defs₀ Cert.Kernel2Ideal.defs₀
  refine congrArg Defs.onTc ?_
  funext p x
  match p, x with
  | 0, (t, s) => rfl

/-- and so are their tables. -/
theorem defs_eq : Cert.Kernel2.defs (F := Bits) = Cert.Kernel2Ideal.defs (F := Bits) := by
  unfold Cert.Kernel2.defs Cert.Kernel2Ideal.defs
  exact congrArg (Pipeline.defs _) defs₀_eq

/-- The kernel's frame. -/
theorem frame_p : Cert.quiescent_Kernel2 := fun m ρ _ => by
  have h := Cert.Kernel2Ideal.Gen.frame (F := Bits) m ρ
  rw [← defs_eq] at h
  exact h

/-- The idealized kernel's frame. -/
theorem frame_pi : Cert.quiescent_Kernel2Ideal := fun m ρ _ => Cert.Kernel2Ideal.Gen.frame (F := Ideal) m ρ

end Cert.Proof.InProj

end
-- ==== Proof.InClaim.lean ====
/- The claims of the input projection: its reference's frame, and that its results are the reference's. -/
module

public import proofs.«01_k».proof.Defs
public import proofs.«01_k».proof.Proof.InAgree
public import proofs.«01_k».proof.Proof.InFrames
public import proofs.«01_k».proof.Proof.Gen.Reference2Ideal
public import Idealize.ShloMosaic.Lib.Quiescent

@[expose] public section

noncomputable section

namespace Cert.Proof.InProj

open Idealize.ShloMosaic Idealize.ShloMosaic.TcCoe Idealize.SL.Sem

attribute [local instance] Cert.Kernel2Ideal.Gen.facts Cert.Reference2Ideal.Gen.facts

/-- The reference's frame. -/
theorem frame_ri : Cert.quiescent_Reference2Ideal := fun m ρ _ =>
  (θ_run Cert.Reference2Ideal.defs _ _).mono (fun r h => ⟨fun c => (h c).2.2.2.2.2.2, sem_eq_zero_of_no_sems (by decide) r.2⟩)
    (Cert.Reference2Ideal.Value.run (F := Ideal) m ρ)

section
open Cert.Kernel2Ideal Cert.Kernel2Ideal.Gen Cert.Kernel2Ideal.InProj
variable (m : (ℓ : Loc nD τ sig) → Buf (Elt Ideal) ℓ) (ρ : Dev nD → PrngReg)

/-- What a device's six results are: the reference's slices of the reference's product. -/
theorem results : θ_run (Cert.Kernel2Ideal.defs (F := Ideal)) (onTc (τ := τ) (main (F := Ideal))) ⟨m, fun _ => 0, ρ⟩ (fun r => ∀ c : Dev nD,
      r.2.mem ((c.tc : Thread nD τ).loc main_v38) = Cert.Reference2Ideal.InProj.cq (Cert.Reference2Ideal.InProj.product (m ((c.tc : Thread nD τ).loc main_arg0)) (m ((c.tc : Thread nD τ).loc main_arg1)))
      ∧ r.2.mem ((c.tc : Thread nD τ).loc main_v39) = Cert.Reference2Ideal.InProj.ckv (Cert.Reference2Ideal.InProj.product (m ((c.tc : Thread nD τ).loc main_arg0)) (m ((c.tc : Thread nD τ).loc main_arg1)))
      ∧ r.2.mem ((c.tc : Thread nD τ).loc main_v49) = Cert.Reference2Ideal.InProj.moba (Cert.Reference2Ideal.InProj.product (m ((c.tc : Thread nD τ).loc main_arg0)) (m ((c.tc : Thread nD τ).loc main_arg1)))
      ∧ r.2.mem ((c.tc : Thread nD τ).loc main_v50) = Cert.Reference2Ideal.InProj.gqkv (Cert.Reference2Ideal.InProj.product (m ((c.tc : Thread nD τ).loc main_arg0)) (m ((c.tc : Thread nD τ).loc main_arg1)))
      ∧ r.2.mem ((c.tc : Thread nD τ).loc main_v51) = Cert.Reference2Ideal.InProj.gz (Cert.Reference2Ideal.InProj.product (m ((c.tc : Thread nD τ).loc main_arg0)) (m ((c.tc : Thread nD τ).loc main_arg1)))
      ∧ r.2.mem ((c.tc : Thread nD τ).loc main_v52) = Cert.Reference2Ideal.InProj.gate (Cert.Reference2Ideal.InProj.product (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run Cert.Kernel2Ideal.defs _ _).mono (fun r h c => ⟨?_, ?_, ?_, ?_, ?_, ?_, h.2 c⟩) (θ_run_and (run_main (F := Ideal) m ρ) (unchanged m ρ))
  · exact ((h.1 c).2 main_v38 (Pipeline.mem_restRefs_of main_v38 (by decide) (by decide))).trans ((after_cq _).trans ((congrArg cq (found m c)).trans (cq_eq _ _)))
  · exact ((h.1 c).2 main_v39 (Pipeline.mem_restRefs_of main_v39 (by decide) (by decide))).trans ((after_ckv _).trans ((congrArg ckv (found m c)).trans (ckv_eq _ _)))
  · exact ((h.1 c).2 main_v49 (Pipeline.mem_restRefs_of main_v49 (by decide) (by decide))).trans ((after_moba _).trans ((congrArg moba (found m c)).trans (moba_eq _ _)))
  · exact ((h.1 c).2 main_v50 (Pipeline.mem_restRefs_of main_v50 (by decide) (by decide))).trans ((after_gqkv _).trans ((congrArg gqkv (found m c)).trans (gqkv_eq _ _)))
  · exact ((h.1 c).2 main_v51 (Pipeline.mem_restRefs_of main_v51 (by decide) (by decide))).trans ((after_gz _).trans ((congrArg gz (found m c)).trans (gz_eq _ _)))
  · exact ((h.1 c).2 main_v52 (Pipeline.mem_restRefs_of main_v52 (by decide) (by decide))).trans ((after_gate _).trans ((congrArg gate (found m c)).trans (gate_eq _ _)))

end

/-- The input projection and the reference end with the same six results. -/
theorem algebraic : Cert.algebraic_Kernel2Ideal_Reference2Ideal := by
  intro m ρ m' ρ' _ hagree
  refine ⟨_, _, _, _, _, _, results m ρ, ?_⟩
  refine (θ_run Cert.Reference2Ideal.defs _ _).mono (fun _ h c => ?_) (Cert.Reference2Ideal.Value.run (F := Ideal) m' ρ')
  obtain ⟨h0, h1, h2, h3, h4, h5, h6⟩ := h c
  rw [(hagree c).1, (hagree c).2] at h0 h1 h2 h3 h4 h5
  exact ⟨h0, h1, h2, h3, h4, h5, h6⟩

end Cert.Proof.InProj

end
-- ==== Proof.PeerQuery.lean ====
/- The memory's queries: the array the kernel leaves is the transposed product of the reference. -/
module

public import proofs.«01_k».proof.Defs
public import proofs.«01_k».proof.Proof.Gen.Kernel3Ideal.Value
public import proofs.«01_k».proof.Proof.Gen.Reference3Ideal.Run
public import Idealize.ShloMosaic.Lib.Pointwise
public import Idealize.ShloMosaic.Lib.Pipeline.ValueKit
public import Idealize.ShloMosaic.Lib.Pipeline.Covers

@[expose] public section

set_option maxRecDepth 16384

noncomputable section

namespace Cert.Reference3Ideal.Query

open Cert.Reference3Ideal Cert.Reference3Ideal.Gen Cert.Reference3Ideal.Facts
open Idealize.ShloMosaic Idealize.ShloMosaic.TcCoe

/-- The reference's result of its arrays. -/
def out (h : FVec Ideal S16384x1024 .f32) (w : FVec Ideal S1024x2048 .f32) : FVec Ideal S2048x16384 .bf16 :=
  truncf .bf16 (transpose S2048x16384 [1, 0] (Host.dotGeneral dot_S16384x1024_S1024x2048_S16384x2048_1_0_0_1_n_n none h w) transposes_S16384x2048_S2048x16384_1_0) bitsLt_bf16_f32

theorem out_apply (h : FVec Ideal S16384x1024 .f32) (w : FVec Ideal S1024x2048 .f32) (q : Fin 2048) (r : Fin 16384) :
    out h w (ix2 q r) = ∑ k : Fin 1024, h (ix2 r k) * w (ix2 k q) := by
  pointwise [out]

end Cert.Reference3Ideal.Query

namespace Cert.Kernel3Ideal.Query

open Cert.Kernel3Ideal Cert.Kernel3Ideal.Gen Cert.Kernel3Ideal.Facts
open Idealize.ShloMosaic Idealize.ShloMosaic.TcCoe Idealize.SL.Sem
open Idealize.ShloMosaic.Pipeline (Dat Cfg Window)

variable (m : (ℓ : Loc nD τ sig) → Buf (Elt Ideal) ℓ)

/-- The two arrays the kernel takes: the weights and the layer input, transposed. -/
def weightsT (w : FVec Ideal S1024x2048 .f32) : FVec Ideal S2048x1024 .bf16 := truncf .bf16 (transpose S2048x1024 [1, 0] w transposes_S1024x2048_S2048x1024_1_0) bitsLt_bf16_f32
def inputT (h : FVec Ideal S16384x1024 .f32) : FVec Ideal S1024x16384 .bf16 := truncf .bf16 (transpose S1024x16384 [1, 0] h transposes_S16384x1024_S1024x16384_1_0) bitsLt_bf16_f32

theorem weightsT_apply (w : FVec Ideal S1024x2048 .f32) (q : Fin 2048) (k : Fin 1024) : weightsT w (ix2 q k) = w (ix2 k q) := by pointwise [weightsT]
theorem inputT_apply (h : FVec Ideal S16384x1024 .f32) (k : Fin 1024) (r : Fin 16384) : inputT h (ix2 k r) = h (ix2 r k) := by pointwise [inputT]

theorem V_weights (c : Dev nD) : V m c main_v1 = weightsT (m ((c : Thread nD τ).loc main_arg1)) := by
  show StableHlo.after hostOps0 (fun b => m (c, b)) _ = _
  after_results
  rfl

theorem V_input (c : Dev nD) : V m c main_v3 = inputT (m ((c : Thread nD τ).loc main_arg0)) := by
  show StableHlo.after hostOps0 (fun b => m (c, b)) _ = _
  after_results
  rfl

theorem covers : (cfg0.win 2).Covers := by decide +kernel

theorem index0 : ∀ t : Fin cfg0.N, win0_0.index t 0 = t.val % 2 ∧ win0_0.index t 1 = 0 := by decide +kernel
theorem index1 : ∀ t : Fin cfg0.N, win0_1.index t 0 = 0 ∧ win0_1.index t 1 = t.val / 2 := by decide +kernel
theorem index2 : ∀ t : Fin cfg0.N, win0_2.index t 0 = t.val % 2 ∧ win0_2.index t 1 = t.val / 2 := by decide +kernel

theorem lt_32 (t : Fin cfg0.N) : t.val < 32 := t.isLt

theorem emb0 (t : Fin cfg0.N) (b k : Fin 1024) :
    (win0_0.blk t).view.emb (ix2 b k) = ix2 (n0 := 2048) (n1 := 1024) ⟨1024 * (t.val % 2) + b.val, by omega⟩ k := by
  funext a
  refine Fin.ext ?_
  fin_cases a
  · blk_simp [(index0 t).1]
    show t.val % 2 * 1024 + b.val = 1024 * (t.val % 2) + b.val
    omega
  · blk_simp [(index0 t).2]
    rfl

theorem emb1 (t : Fin cfg0.N) (k e : Fin 1024) :
    (win0_1.blk t).view.emb (ix2 k e) = ix2 (n0 := 1024) (n1 := 16384) k ⟨1024 * (t.val / 2) + e.val, by have := lt_32 t; omega⟩ := by
  funext a
  refine Fin.ext ?_
  fin_cases a
  · blk_simp [(index1 t).1]
    rfl
  · blk_simp [(index1 t).2]
    show t.val / 2 * 1024 + e.val = 1024 * (t.val / 2) + e.val
    omega

theorem emb2 (t : Fin cfg0.N) (b e : Fin 1024) :
    (win0_2.blk t).view.emb (ix2 b e) = ix2 (n0 := 2048) (n1 := 16384) ⟨1024 * (t.val % 2) + b.val, by omega⟩ ⟨1024 * (t.val / 2) + e.val, by have := lt_32 t; omega⟩ := by
  funext a
  refine Fin.ext ?_
  fin_cases a
  · blk_simp [(index2 t).1]
    show t.val % 2 * 1024 + b.val = 1024 * (t.val % 2) + b.val
    omega
  · blk_simp [(index2 t).2]
    show t.val / 2 * 1024 + e.val = 1024 * (t.val / 2) + e.val
    omega

/-- A block of the result. -/
theorem block_apply (x y : FVec Ideal S1024x1024 .bf16) (b e : Fin 1024) :
    out0_2 (F := Ideal) x y (ix2 b e) = ∑ k : Fin 1024, x (ix2 b k) * y (ix2 k e) := by
  have hz : (![0, 0] : Fin 2 → Nat) = fun _ => 0 := by funext a; fin_cases a <;> rfl
  unfold out0_2
  rw [View.canon_unit_zero hz, View.ld_unit_zero hz, View.ld_unit_zero hz]
  pointwise [k0_pay1]

/-- The kernel's array is the reference's result: the same products with their factors exchanged. -/
theorem array_value (c : Dev nD) :
    (dats (F := Ideal) m 0 c).arrAt 2 cfg0.N = Cert.Reference3Ideal.Query.out (m ((c : Thread nD τ).loc main_arg0)) (m ((c : Thread nD τ).loc main_arg1)) := by
  refine (dats m 0 c).arrAt_eq_of_covers 2 _ covers fun t hf y => ?_
  blk_simp
  rw [after0_2]
  obtain ⟨b, e, rfl⟩ : ∃ (b e : Fin 1024), y = ix2 b e := ⟨y 0, y 1, eq_ix2 y⟩
  refine (block_apply _ _ b e).trans ?_
  refine Eq.trans ?_ ((Cert.Reference3Ideal.Query.out_apply _ _ _ _).symm.trans (congrArg (Cert.Reference3Ideal.Query.out _ _) (emb2 t b e).symm))
  refine Finset.sum_congr rfl fun k _ => (mul_comm _ _).trans (congrArg₂ (· * ·) ?_ ?_)
  · show V m c main_v3 _ = _
    rw [V_input]
    exact (congrArg (inputT _) (emb1 t k e)).trans (inputT_apply _ _ _)
  · show V m c main_v1 _ = _
    rw [V_weights]
    exact (congrArg (weightsT _) (emb0 t b k)).trans (weightsT_apply _ _ _)

end Cert.Kernel3Ideal.Query

end
-- ==== Proof.QueryFrames.lean ====
/- The memory's queries: its program as printed and its idealization are the same text, so one run gives both frames. -/
module

public import proofs.«01_k».proof.Defs
public import proofs.«01_k».proof.Proof.Gen.Kernel3
public import proofs.«01_k».proof.Proof.Gen.Kernel3Ideal.Frame
public import Idealize.ShloMosaic.Lib.Quiescent

@[expose] public section

set_option maxRecDepth 100000
set_option maxHeartbeats 2000000

noncomputable section

namespace Cert.Proof.Query

open Idealize.ShloMosaic Idealize.ShloMosaic.TcCoe Idealize.SL.Sem

attribute [local instance] Cert.Kernel3.Gen.facts Cert.Kernel3Ideal.Gen.facts

/-- The two programs' bodies are the same, -/
theorem defs₀_eq : Cert.Kernel3.defs₀ (F := Bits) = Cert.Kernel3Ideal.defs₀ (F := Bits) := by
  unfold Cert.Kernel3.defs₀ Cert.Kernel3Ideal.defs₀
  refine congrArg Defs.onTc ?_
  funext p x
  match p, x with
  | 0, (t, s) => rfl

/-- and so are their tables. -/
theorem defs_eq : Cert.Kernel3.defs (F := Bits) = Cert.Kernel3Ideal.defs (F := Bits) := by
  unfold Cert.Kernel3.defs Cert.Kernel3Ideal.defs
  exact congrArg (Pipeline.defs _) defs₀_eq

/-- The kernel's frame. -/
theorem frame_p : Cert.quiescent_Kernel3 := fun m ρ _ => by
  have h := Cert.Kernel3Ideal.Gen.frame (F := Bits) m ρ
  rw [← defs_eq] at h
  exact h

/-- The idealized kernel's frame. -/
theorem frame_pi : Cert.quiescent_Kernel3Ideal := fun m ρ _ => Cert.Kernel3Ideal.Gen.frame (F := Ideal) m ρ

end Cert.Proof.Query

end
-- ==== Proof.QueryClaim.lean ====
/- The claims of the memory's queries: its reference's frame, and that the results are the same. -/
module

public import proofs.«01_k».proof.Proof.PeerQuery
public import proofs.«01_k».proof.Proof.QueryFrames
public import proofs.«01_k».proof.Proof.Gen.Reference3Ideal

@[expose] public section

noncomputable section

namespace Cert.Proof.Query

open Idealize.ShloMosaic Idealize.ShloMosaic.TcCoe Idealize.SL.Sem

attribute [local instance] Cert.Kernel3Ideal.Gen.facts Cert.Reference3Ideal.Gen.facts

/-- The reference's frame. -/
theorem frame_ri : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The kernel and the reference end with the same result. -/
theorem algebraic : Cert.algebraic_Kernel3Ideal_Reference3Ideal := by
  intro m ρ m' ρ' _ hagree
  refine ⟨_, (θ_run Cert.Kernel3Ideal.defs _ _).mono (fun _ h c => ⟨(h c).1.trans (Cert.Kernel3Ideal.Query.array_value m c), (h c).2⟩)
    (Cert.Kernel3Ideal.Value.run_blocks (F := Ideal) m ρ), ?_⟩
  refine (θ_run Cert.Reference3Ideal.defs _ _).mono (fun _ h c => ?_) (Cert.Reference3Ideal.Value.run (F := Ideal) m' ρ')
  obtain ⟨h0, h1⟩ := h c
  rw [(hagree c).1, (hagree c).2] at h0
  exact ⟨h0, h1⟩

end Cert.Proof.Query

end
-- ==== Proof.MergeSpec.lean ====
/- The merge of the branches, one row at a time: what one row of the result is, of one row of each of its arrays. -/
module

public import proofs.«01_k».proof.Defs
public import Idealize.ShloMosaic.Lib.Pointwise

@[expose] public section

noncomputable section

namespace Cert.Proof.Merge

open Idealize.ShloMosaic

/-- The logistic gate of a logit. -/
def gate (s : EReal) : EReal := Ideal.div 1 (1 + Ideal.exp (-s))

/-- The gated sum of the three branches' projections, at one feature. -/
def merged (z bias : Fin 3 → Fin 1024 → EReal) (o : Fin 3 → Fin 512 → EReal) (wb : Fin 3 → Fin 512 → Fin 1024 → EReal) (e : Fin 1024) : EReal :=
  ∑ n : Fin 3, gate (z n e + bias n e) * ∑ k : Fin 512, o n k * wb n k e

/-- The scaled input plus the output projection of a merged row, at one feature. -/
def mixed (h : Fin 1024 → EReal) (x : Fin 1024 → EReal) (wo : Fin 1024 → Fin 1024 → EReal) (j : Fin 1024) : EReal :=
  Ideal.ofBits .f32 0x3FB504F3#32 * h j + ∑ e : Fin 1024, x e * wo e j

/-- A row's mean. -/
def mean (x : Fin 1024 → EReal) : EReal := Ideal.div (∑ j : Fin 1024, x j) (Ideal.ofBits .f32 0x44800000#32)

/-- The normalised row, scaled and shifted. -/
def normed (x g b : Fin 1024 → EReal) (j : Fin 1024) : EReal :=
  (x j - mean x) * Ideal.rsqrt (mean (fun i => (x i - mean x) * (x i - mean x)) + Ideal.ofBits .f32 0x3727C5AC#32) * g j + b j

/-- One row of the result. -/
def row (z bias : Fin 3 → Fin 1024 → EReal) (o : Fin 3 → Fin 512 → EReal) (wb : Fin 3 → Fin 512 → Fin 1024 → EReal)
    (wo : Fin 1024 → Fin 1024 → EReal) (h g b : Fin 1024 → EReal) (j : Fin 1024) : EReal :=
  normed (mixed h (merged z bias o wb) wo) g b j

end Cert.Proof.Merge

end
-- ==== Proof.MergeBlock.lean ====
/- The merge's kernel: the two blocks a grid point leaves, row by row. -/
module

public import proofs.«01_k».proof.Proof.MergeSpec
public import proofs.«01_k».proof.Proof.Gen.Kernel4Ideal.Value
public import Idealize.ShloMosaic.Lib.Pipeline.ValueKit

@[expose] public section

set_option maxRecDepth 16384

noncomputable section

namespace Cert.Kernel4Ideal.Merge

open Cert.Kernel4Ideal Cert.Kernel4Ideal.Gen Cert.Kernel4Ideal.Facts
open Idealize.ShloMosaic Idealize.ShloMosaic.TcCoe
open Cert.Proof.Merge

/-- The first branch, gated. -/
theorem pay3_apply (v0 : Vec Ideal S512x1024 .bf16) (v2 : Vec Ideal S1x1024 .f32) (v12 : Vec Ideal S512x512 .f32) (v13 : Vec Ideal S1x512x1024 .bf16) (r : Fin 512) (e : Fin 1024) :
    k0_pay3 (F := Ideal) v0 v2 v12 v13 (ix2 r e) = gate (v0 (ix2 r e) + v2 (ix2 0 e)) * ∑ k : Fin 512, v12 (ix2 r k) * v13 (ix3 0 k e) := by
  unfold gate
  rw [← zero_sub]
  pointwise [k0_pay3]

/-- The second branch's gate, -/
theorem pay4_apply (v0 : Vec Ideal S512x1024 .bf16) (v2 : Vec Ideal S1x1024 .f32) (r : Fin 512) (e : Fin 1024) :
    k0_pay4 (F := Ideal) v0 v2 (ix2 r e) = gate (v0 (ix2 r e) + v2 (ix2 0 e)) := by
  unfold gate
  rw [← zero_sub]
  pointwise [k0_pay4]

/-- its weights, -/
theorem pay5_apply (v : Vec Ideal S1x512x1024 .bf16) (k : Fin 512) (e : Fin 1024) : k0_pay5 (F := Ideal) v (ix2 k e) = v (ix3 0 k e) := by
  pointwise [k0_pay5]

/-- and its rows. -/
theorem pay6_apply (v : Vec Ideal S512x512 .f32) (r k : Fin 512) : k0_pay6 (F := Ideal) v (ix2 r k) = v (ix2 r k) := by
  pointwise [k0_pay6]

/-- The scaled input plus the output projection of the three branches' sum. -/
theorem pay7_apply (v17 : FVec Ideal S512x1024 .f32) (v29 : FVec Ideal S512x1024 .f32) (v32 : FVec Ideal S512x1024 .bf16) (v33 : FVec Ideal S512x512 .bf16) (v37 : Vec Ideal S512x1024 .bf16) (v39 : Vec Ideal S1x1024 .f32) (v49 : Vec Ideal S512x512 .f32) (v50 : Vec Ideal S1x512x1024 .bf16) (v56 : Vec Ideal S512x1024 .f32) (v59 : Vec Ideal S1024x1024 .bf16) (r : Fin 512) (j : Fin 1024) :
    k0_pay7 (F := Ideal) v17 v29 v32 v33 v37 v39 v49 v50 v56 v59 (ix2 r j)
      = mixed (fun j => v56 (ix2 r j)) (fun e => v17 (ix2 r e) + v29 (ix2 r e) * (∑ k : Fin 512, v33 (ix2 r k) * v32 (ix2 k e))
          + gate (v37 (ix2 r e) + v39 (ix2 0 e)) * ∑ k : Fin 512, v49 (ix2 r k) * v50 (ix3 0 k e)) (fun e j => v59 (ix2 e j)) j := by
  unfold mixed gate
  simp only [← zero_sub]
  pointwise [k0_pay7]

/-- A row's sum. -/
theorem pay10_apply (v17 : FVec Ideal S512x1024 .f32) (v29 : FVec Ideal S512x1024 .f32) (v32 : FVec Ideal S512x1024 .bf16) (v33 : FVec Ideal S512x512 .bf16) (v37 : Vec Ideal S512x1024 .bf16) (v39 : Vec Ideal S1x1024 .f32) (v49 : Vec Ideal S512x512 .f32) (v50 : Vec Ideal S1x512x1024 .bf16) (v56 : Vec Ideal S512x1024 .f32) (v59 : Vec Ideal S1024x1024 .bf16) (r : Fin 512) :
    k0_pay10 (F := Ideal) v17 v29 v32 v33 v37 v39 v49 v50 v56 v59 (ix1 r) = ∑ j : Fin 1024, k0_pay7 (F := Ideal) v17 v29 v32 v33 v37 v39 v49 v50 v56 v59 (ix2 r j) := by
  unfold k0_pay10
  generalize k0_pay7 (F := Ideal) v17 v29 v32 v33 v37 v39 v49 v50 v56 v59 = X
  pointwise []

/-- The scale and the shift. -/
theorem pay8_apply (v : Vec Ideal S1x1024 .f32) (j : Fin 1024) : k0_pay8 (F := Ideal) v (ix2 0 j) = v (ix2 0 j) := by pointwise [k0_pay8]
theorem pay9_apply (v : Vec Ideal S1x1024 .f32) (j : Fin 1024) : k0_pay9 (F := Ideal) v (ix2 0 j) = v (ix2 0 j) := by pointwise [k0_pay9]

/-- The normalised rows, of the rows and of their sums. -/
theorem pay1_apply (v63 : FVec Ideal S512x1024 .f32) (v65 : FVec Ideal S1x1024 .f32) (v67 : FVec Ideal S1x1024 .f32) (v68 : FVec Ideal S512 .f32) (r : Fin 512)
    (h : v68 (ix1 r) = ∑ j : Fin 1024, v63 (ix2 r j)) (j : Fin 1024) :
    k0_pay1 (F := Ideal) v63 v65 v67 v68 (ix2 r j) = normed (fun j => v63 (ix2 r j)) (fun j => v65 (ix2 0 j)) (fun j => v67 (ix2 0 j)) j := by
  unfold normed mean
  rw [← h]
  pointwise [k0_pay1]

/-- The second result's block is the first's transposed. -/
theorem pay2_apply (v63 : FVec Ideal S512x1024 .f32) (v65 : FVec Ideal S1x1024 .f32) (v67 : FVec Ideal S1x1024 .f32) (v68 : FVec Ideal S512 .f32) (r : Fin 512) (j : Fin 1024) :
    k0_pay2 (F := Ideal) v63 v65 v67 v68 (ix2 j r) = k0_pay1 (F := Ideal) v63 v65 v67 v68 (ix2 r j) := by
  unfold k0_pay2
  generalize k0_pay1 (F := Ideal) v63 v65 v67 v68 = X
  pointwise []

end Cert.Kernel4Ideal.Merge

end
-- ==== Proof.MergeLeft.lean ====
/- The merge's kernel: the two blocks a grid point leaves are the row function of the blocks it found. -/
module

public import proofs.«01_k».proof.Proof.MergeBlock

@[expose] public section

set_option maxRecDepth 16384

noncomputable section

namespace Cert.Kernel4Ideal.Merge

open Cert.Kernel4Ideal Cert.Kernel4Ideal.Gen Cert.Kernel4Ideal.Facts
open Idealize.ShloMosaic Idealize.ShloMosaic.TcCoe
open Idealize.ShloMosaic.Pipeline (Dat Cfg Window)
open Cert.Proof.Merge

/-- One row of the bias, and one branch's weights, as the body loads them. -/
theorem bias_ld (n : Fin 3) (inb) (x : Vec Ideal S3x1024 .f32) (e : Fin 1024) :
    View.ld (Val := Elt Ideal) x (Rect.unit (s := S3x1024) ![n.val, 0] ![1, 1024] inb) (ix2 (n0 := 1) (n1 := 1024) 0 e) = x (ix2 n e) :=
  View.ld_unit_apply_of x _ _ inb _ (ix2 n e) fun a => by fin_cases a <;> simp [ix2]

theorem weights_ld (n : Fin 3) (inb) (x : Vec Ideal S3x512x1024 .bf16) (k : Fin 512) (e : Fin 1024) :
    View.ld (Val := Elt Ideal) x (Rect.unit (s := S3x512x1024) ![n.val, 0, 0] ![1, 512, 1024] inb) (ix3 (n0 := 1) (n1 := 512) (n2 := 1024) 0 k e) = x (ix3 n k e) :=
  View.ld_unit_apply_of x _ _ inb _ (ix3 n k e) fun a => by fin_cases a <;> simp [ix3]

/-- The rows before their normalisation, of the blocks found. -/
def before (x0 x1 x2 : Vec Ideal S512x1024 .bf16) (x3 : Vec Ideal S3x1024 .f32) (x4 x5 x6 : Vec Ideal S512x512 .f32) (x7 : Vec Ideal S3x512x1024 .bf16)
    (x8 : Vec Ideal S1024x1024 .bf16) (x9 : Vec Ideal S512x1024 .f32) : FVec Ideal S512x1024 .f32 :=
  k0_pay7
        (k0_pay3 x0 (View.ld x3 (Rect.unit ![0, 0] ![1, 1024] inb_S3x1024_S1x1024_0_0)) x4
          (View.ld x7 (Rect.unit ![0, 0, 0] ![1, 512, 1024] inb_S3x512x1024_S1x512x1024_0_0_0)))
        (k0_pay4 x1 (View.ld x3 (Rect.unit ![1, 0] ![1, 1024] inb_S3x1024_S1x1024_1_0)))
        (k0_pay5 (View.ld x7 (Rect.unit ![1, 0, 0] ![1, 512, 1024] inb_S3x512x1024_S1x512x1024_1_0_0)))
        (k0_pay6 x5) x2
        (View.ld x3 (Rect.unit ![2, 0] ![1, 1024] inb_S3x1024_S1x1024_2_0)) x6
        (View.ld x7 (Rect.unit ![2, 0, 0] ![1, 512, 1024] inb_S3x512x1024_S1x512x1024_2_0_0)) x9 x8

theorem before_apply (x0 x1 x2 : Vec Ideal S512x1024 .bf16) (x3 : Vec Ideal S3x1024 .f32) (x4 x5 x6 : Vec Ideal S512x512 .f32) (x7 : Vec Ideal S3x512x1024 .bf16)
    (x8 : Vec Ideal S1024x1024 .bf16) (x9 : Vec Ideal S512x1024 .f32) (r : Fin 512) (j : Fin 1024) :
    before x0 x1 x2 x3 x4 x5 x6 x7 x8 x9 (ix2 r j)
      = mixed (fun j => x9 (ix2 r j)) (merged (fun n e => (![x0, x1, x2] n) (ix2 r e)) (fun n e => x3 (ix2 n e)) (fun n k => (![x4, x5, x6] n) (ix2 r k)) (fun n k e => x7 (ix3 n k e)))
          (fun e j => x8 (ix2 e j)) j := by
  refine (pay7_apply _ _ _ _ _ _ _ _ _ _ r j).trans ?_
  refine congrArg (fun x => mixed _ x _ j) (funext fun e => ?_)
  unfold merged
  rw [Fin.sum_univ_three]
  refine congrArg₂ (· + ·) (congrArg₂ (· + ·) ?_ ?_) ?_
  · refine (pay3_apply _ _ _ _ r e).trans (congrArg₂ (· * ·) (congrArg (fun s => gate (x0 (ix2 r e) + s)) (bias_ld 0 _ x3 e)) ?_)
    exact Finset.sum_congr rfl fun k _ => congrArg (x4 (ix2 r k) * ·) (weights_ld 0 _ x7 k e)
  · refine congrArg₂ (· * ·) ((pay4_apply _ _ r e).trans (congrArg (fun s => gate (x1 (ix2 r e) + s)) (bias_ld 1 _ x3 e))) ?_
    exact Finset.sum_congr rfl fun k _ => congrArg₂ (· * ·) (pay6_apply x5 r k) ((pay5_apply _ k e).trans (weights_ld 1 _ x7 k e))
  · refine congrArg₂ (· * ·) (congrArg (fun s => gate (x2 (ix2 r e) + s)) (bias_ld 2 _ x3 e)) ?_
    exact Finset.sum_congr rfl fun k _ => congrArg (x6 (ix2 r k) * ·) (weights_ld 2 _ x7 k e)

/-- The row function of the blocks found. -/
def blockRow (x0 x1 x2 : Vec Ideal S512x1024 .bf16) (x3 : Vec Ideal S3x1024 .f32) (x4 x5 x6 : Vec Ideal S512x512 .f32) (x7 : Vec Ideal S3x512x1024 .bf16)
    (x8 : Vec Ideal S1024x1024 .bf16) (x9 : Vec Ideal S512x1024 .f32) (x10 x11 : Vec Ideal S1x1024 .f32) (r : Fin 512) (j : Fin 1024) : EReal :=
  row (fun n e => (![x0, x1, x2] n) (ix2 r e)) (fun n e => x3 (ix2 n e)) (fun n k => (![x4, x5, x6] n) (ix2 r k)) (fun n k e => x7 (ix3 n k e))
    (fun e j => x8 (ix2 e j)) (fun j => x9 (ix2 r j)) (fun j => x10 (ix2 0 j)) (fun j => x11 (ix2 0 j)) j

variable (m : (ℓ : Loc nD τ sig) → Buf (Elt Ideal) ℓ)

/-- The row function of what a grid point found. -/
def pointRow (c : Dev nD) (t : Fin cfg0.N) (r : Fin 512) (j : Fin 1024) : EReal :=
  blockRow (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) r j

/-- The normalised block, of the blocks found. -/
theorem block_apply (x0 x1 x2 : Vec Ideal S512x1024 .bf16) (x3 : Vec Ideal S3x1024 .f32) (x4 x5 x6 : Vec Ideal S512x512 .f32) (x7 : Vec Ideal S3x512x1024 .bf16)
    (x8 : Vec Ideal S1024x1024 .bf16) (x9 : Vec Ideal S512x1024 .f32) (x10 x11 : Vec Ideal S1x1024 .f32) (s : FVec Ideal S512 .f32) (r : Fin 512) (j : Fin 1024)
    (hs : s (ix1 r) = ∑ j : Fin 1024, before x0 x1 x2 x3 x4 x5 x6 x7 x8 x9 (ix2 r j)) :
    k0_pay1 (F := Ideal) (before x0 x1 x2 x3 x4 x5 x6 x7 x8 x9) (k0_pay8 x10) (k0_pay9 x11) s (ix2 r j)
      = blockRow x0 x1 x2 x3 x4 x5 x6 x7 x8 x9 x10 x11 r j := by
  refine (pay1_apply _ _ _ s r hs j).trans ?_
  unfold blockRow row
  rw [show (fun j => before x0 x1 x2 x3 x4 x5 x6 x7 x8 x9 (ix2 r j)) = _ from funext fun j => before_apply x0 x1 x2 x3 x4 x5 x6 x7 x8 x9 r j,
    show (fun j => k0_pay8 (F := Ideal) x10 (ix2 0 j)) = _ from funext (pay8_apply x10), show (fun j => k0_pay9 (F := Ideal) x11 (ix2 0 j)) = _ from funext (pay9_apply x11)]

/-- What a grid point leaves in the first result's block, -/
theorem left12 (c : Dev nD) (t : Fin cfg0.N) (r : Fin 512) (j : Fin 1024) : (outsAt0 m c t).1 (ix2 r j) = pointRow m c t r j := by
  unfold outsAt0
  frame_out
  exact block_apply _ _ _ _ _ _ _ _ _ _ _ _ _ r j (pay10_apply _ _ _ _ _ _ _ _ _ _ r)

/-- and in the second's. -/
theorem left13 (c : Dev nD) (t : Fin cfg0.N) (r : Fin 512) (j : Fin 1024) : (outsAt0 m c t).2 (ix2 j r) = pointRow m c t r j := by
  unfold outsAt0
  frame_out
  refine (pay2_apply _ _ _ _ r j).trans ?_
  exact block_apply _ _ _ _ _ _ _ _ _ _ _ _ _ r j (pay10_apply _ _ _ _ _ _ _ _ _ _ r)

end Cert.Kernel4Ideal.Merge

end
-- ==== Proof.MergeReference.lean ====
/- The merge's reference, read at an index. -/
module

public import proofs.«01_k».proof.Proof.MergeSpec
public import proofs.«01_k».proof.Proof.Gen.Reference4Ideal.Run

@[expose] public section

set_option maxRecDepth 16384

noncomputable section

namespace Cert.Reference4Ideal.Merge

open Cert.Reference4Ideal Cert.Reference4Ideal.Gen Cert.Reference4Ideal.Facts
open Idealize.ShloMosaic Idealize.ShloMosaic.TcCoe
open Cert.Proof.Merge

/-- The gates. -/
def gates (z : FVec Ideal S16384x8704 .bf16) (bias : FVec Ideal S3x1024 .f32) : FVec Ideal S16384x3x1024 .f32 :=
  Host.divf (broadcastInDim S16384x3x1024 ![] bcast_S_S16384x3x1024 (constant S_ .f32 0x3F800000#32)) (addf (broadcastInDim S16384x3x1024 ![] bcast_S_S16384x3x1024 (constant S_ .f32 0x3F800000#32)) (Host.exp (Host.negf (addf (shapeCast _ (extf .f32 (extractStridedSlice S16384x3072 ![0, 0] z slices_S16384x8704_S16384x3072_0_0) bitsLt_bf16_f32) shapeCasts_S16384x3072_S16384x3x1024) (broadcastInDim S16384x3x1024 ![0, 1, 2] bcast_S1x3x1024_S16384x3x1024_0_1_2 (broadcastInDim S1x3x1024 ![1, 2] bcast_S3x1024_S1x3x1024_1_2 bias))))))

theorem gates_apply (z : FVec Ideal S16384x8704 .bf16) (bias : FVec Ideal S3x1024 .f32) (r : Fin 16384) (n : Fin 3) (e : Fin 1024) :
    gates z bias (ix3 r n e) = gate (z (ix2 r ⟨1024 * n.val + e.val, by omega⟩) + bias (ix2 n e)) := by
  unfold gate
  pointwise [gates]
  rw [show (⟨n.val * 1024 + e.val, by omega⟩ : Fin 8704) = ⟨1024 * n.val + e.val, by omega⟩ from Fin.ext (by show n.val * 1024 + e.val = 1024 * n.val + e.val; omega)]

/-- The three branches side by side. -/
def branches (a b c : FVec Ideal S16384x512 .f32) : FVec Ideal S16384x3x512 .f32 :=
  concatenate S16384x3x512 1 [⟨S16384x1x512, ((broadcastInDim S16384x1x512 ![0, 2] bcast_S16384x512_S16384x1x512_0_2 a) : (⟨S16384x1x512, .f32⟩ : BufTy).Contents (Elt Ideal))⟩, ⟨S16384x1x512, ((broadcastInDim S16384x1x512 ![0, 2] bcast_S16384x512_S16384x1x512_0_2 b) : (⟨S16384x1x512, .f32⟩ : BufTy).Contents (Elt Ideal))⟩, ⟨S16384x1x512, ((broadcastInDim S16384x1x512 ![0, 2] bcast_S16384x512_S16384x1x512_0_2 c) : (⟨S16384x1x512, .f32⟩ : BufTy).Contents (Elt Ideal))⟩] concatenates_S16384x1x512_S16384x1x512_S16384x1x512_S16384x3x512_d1

theorem branches_apply (a b c : FVec Ideal S16384x512 .f32) (r : Fin 16384) (n : Fin 3) (k : Fin 512) :
    branches a b c (ix3 r n k) = (![a, b, c] n) (ix2 r k) := by
  fin_cases n <;> pointwise [branches]
  all_goals rfl

/-- Their projections. -/
def projected (w : FVec Ideal S3x512x1024 .f32) (o : FVec Ideal S16384x3x512 .f32) : FVec Ideal S16384x3x1024 .f32 :=
  transpose S16384x3x1024 [2, 0, 1] (Host.dotGeneral dot_S3x512x1024_S16384x3x512_S3x1024x16384_1_2_2_0_0_1 none w o) transposes_S3x1024x16384_S16384x3x1024_2_0_1

theorem projected_apply (w : FVec Ideal S3x512x1024 .f32) (o : FVec Ideal S16384x3x512 .f32) (r : Fin 16384) (n : Fin 3) (e : Fin 1024) :
    projected w o (ix3 r n e) = ∑ k : Fin 512, o (ix3 r n k) * w (ix3 n k e) := by
  pointwise [projected]
  exact Finset.sum_congr rfl fun k _ => mul_comm _ _

/-- Their gated sum. -/
def gated (x y : FVec Ideal S16384x3x1024 .f32) : FVec Ideal S16384x1024 .f32 :=
  Host.reduceAdd (mulf x y) (constant S_ .f32 0x00000000#32) reducesTo_S16384x3x1024_S16384x1024_d1 h_S_

theorem gated_apply (x y : FVec Ideal S16384x3x1024 .f32) (r : Fin 16384) (e : Fin 1024) :
    gated x y (ix2 r e) = ∑ n : Fin 3, x (ix3 r n e) * y (ix3 r n e) := by
  pointwise [gated]

/-- The scaled input plus the output projection. -/
def sum (h : FVec Ideal S16384x1024 .f32) (x : FVec Ideal S16384x1024 .f32) (w : FVec Ideal S1024x1024 .f32) : FVec Ideal S16384x1024 .f32 :=
  addf (mulf (broadcastInDim S16384x1024 ![] bcast_S_S16384x1024 (constant S_ .f32 0x3FB504F3#32)) h) (Host.dotGeneral dot_S16384x1024_S1024x1024_S16384x1024_1_0_0_1_n_n none x w)

theorem sum_apply (h : FVec Ideal S16384x1024 .f32) (x : FVec Ideal S16384x1024 .f32) (w : FVec Ideal S1024x1024 .f32) (r : Fin 16384) (j : Fin 1024) :
    sum h x w (ix2 r j) = mixed (fun j => h (ix2 r j)) (fun e => x (ix2 r e)) (fun e j => w (ix2 e j)) j := by
  unfold mixed
  pointwise [sum]

/-- A column of the rows' means. -/
def means (x : FVec Ideal S16384x1024 .f32) : FVec Ideal S16384x1 .f32 :=
  Host.divf (broadcastInDim S16384x1 ![0] bcast_S16384_S16384x1_0 (Host.reduceAdd x (constant S_ .f32 0x00000000#32) reducesTo_S16384x1024_S16384_d1 h_S_)) (broadcastInDim S16384x1 ![] bcast_S_S16384x1 (constant S_ .f32 0x44800000#32))

theorem means_apply (x : FVec Ideal S16384x1024 .f32) (r : Fin 16384) (u : Fin 1) :
    means x (ix2 r u) = mean fun j => x (ix2 r j) := by
  unfold mean
  pointwise [means]

/-- The rows less their means. -/
def centred (x : FVec Ideal S16384x1024 .f32) : FVec Ideal S16384x1024 .f32 :=
  subf x (broadcastInDim S16384x1024 ![0, 1] bcast_S16384x1_S16384x1024_0_1 (means x))

theorem centred_apply (x : FVec Ideal S16384x1024 .f32) (r : Fin 16384) (j : Fin 1024) :
    centred x (ix2 r j) = x (ix2 r j) - mean fun i => x (ix2 r i) := by
  have h := means_apply x r 0
  unfold centred
  generalize means x = y at h ⊢
  pointwise []
  rw [h]

/-- The normalisation of the rows. -/
def norm (x : FVec Ideal S16384x1024 .f32) (g b : FVec Ideal S1024 .f32) : FVec Ideal S16384x1024 .f32 :=
  addf (mulf (mulf (centred x) (broadcastInDim S16384x1024 ![0, 1] bcast_S16384x1_S16384x1024_0_1 (Host.rsqrt (addf (means (mulf (centred x) (centred x))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 g))) (broadcastInDim S16384x1024 ![0, 1] bcast_S1x1024_S16384x1024_0_1 (broadcastInDim S1x1024 ![1] bcast_S1024_S1x1024_1 b))

theorem norm_apply (x : FVec Ideal S16384x1024 .f32) (g b : FVec Ideal S1024 .f32) (r : Fin 16384) (j : Fin 1024) :
    norm x g b (ix2 r j) = normed (fun j => x (ix2 r j)) (fun j => g (ix1 j)) (fun j => b (ix1 j)) j := by
  have hc := centred_apply x r
  have hv : means (mulf (centred x) (centred x)) (ix2 r 0) = mean fun i => (x (ix2 r i) - mean fun i => x (ix2 r i)) * (x (ix2 r i) - mean fun i => x (ix2 r i)) := by
    refine (means_apply _ r 0).trans (congrArg mean (funext fun i => ?_))
    exact congrArg₂ (· * ·) (hc i) (hc i)
  unfold normed
  rw [← hv, ← hc]
  unfold norm
  generalize centred x = y
  generalize means (mulf y y) = v
  pointwise []

/-- The reference's first result of its arrays. -/
def out (z : FVec Ideal S16384x8704 .bf16) (bias : FVec Ideal S3x1024 .f32) (a b c : FVec Ideal S16384x512 .f32) (wb : FVec Ideal S3x512x1024 .f32)
    (wo : FVec Ideal S1024x1024 .f32) (h : FVec Ideal S16384x1024 .f32) (g s : FVec Ideal S1024 .f32) : FVec Ideal S16384x1024 .f32 :=
  norm (sum h (gated (gates z bias) (projected wb (branches a b c))) wo) g s

/-- Its second: the first transposed. -/
def outT (y : FVec Ideal S16384x1024 .f32) : FVec Ideal S1024x16384 .bf16 :=
  truncf .bf16 (transpose S1024x16384 [1, 0] y transposes_S16384x1024_S1024x16384_1_0) bitsLt_bf16_f32

theorem outT_apply (y : FVec Ideal S16384x1024 .f32) (j : Fin 1024) (r : Fin 16384) : outT y (ix2 j r) = y (ix2 r j) := by pointwise [outT]

/-- A row of the result is the row function of the same row of each array. -/
theorem out_apply (z : FVec Ideal S16384x8704 .bf16) (bias : FVec Ideal S3x1024 .f32) (a b c : FVec Ideal S16384x512 .f32) (wb : FVec Ideal S3x512x1024 .f32)
    (wo : FVec Ideal S1024x1024 .f32) (h : FVec Ideal S16384x1024 .f32) (g s : FVec Ideal S1024 .f32) (r : Fin 16384) (j : Fin 1024) :
    out z bias a b c wb wo h g s (ix2 r j)
      = row (fun n e => z (ix2 r ⟨1024 * n.val + e.val, by omega⟩)) (fun n e => bias (ix2 n e)) (fun n k => (![a, b, c] n) (ix2 r k))
          (fun n k e => wb (ix3 n k e)) (fun e j => wo (ix2 e j)) (fun j => h (ix2 r j)) (fun j => g (ix1 j)) (fun j => s (ix1 j)) j := by
  refine (norm_apply _ g s r j).trans ?_
  unfold row
  refine congrArg (fun x => normed x _ _ j) (funext fun i => ?_)
  refine (sum_apply h _ wo r i).trans ?_
  refine congrArg (fun x => mixed _ x _ i) (funext fun e => ?_)
  refine (gated_apply _ _ r e).trans (Finset.sum_congr rfl fun n _ => congrArg₂ (· * ·) (gates_apply z bias r n e) ?_)
  refine (projected_apply wb _ r n e).trans (Finset.sum_congr rfl fun k _ => ?_)
  rw [branches_apply]

/-- The two results the reference's run states are these. -/
theorem res_out0_eq (m : (ℓ : Loc nD τ sig) → Buf (Elt Ideal) ℓ) (c : Dev nD) :
    Value.res_main_v47 (F := Ideal) m c = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Value.res_main_v47
  rfl

theorem res_out1_eq (m : (ℓ : Loc nD τ sig) → Buf (Elt Ideal) ℓ) (c : Dev nD) :
    Value.res_main_v49 (F := Ideal) m c = outT (Value.res_main_v47 (F := Ideal) m c) := by
  unfold Value.res_main_v49 Value.res_main_v47
  rfl

end Cert.Reference4Ideal.Merge

end
-- ==== Proof.MergeArray.lean ====
/- The merge's kernel: the blocks of its arrays, and the two arrays it leaves. -/
module

public import proofs.«01_k».proof.Proof.MergeLeft
public import proofs.«01_k».proof.Proof.MergeReference
public import Idealize.ShloMosaic.Lib.Pipeline.Covers

@[expose] public section

set_option maxRecDepth 16384

noncomputable section

namespace Cert.Kernel4Ideal.Merge

open Cert.Kernel4Ideal Cert.Kernel4Ideal.Gen Cert.Kernel4Ideal.Facts
open Idealize.ShloMosaic Idealize.ShloMosaic.TcCoe Idealize.SL.Sem
open Idealize.ShloMosaic.Pipeline (Dat Cfg Window)
open Cert.Proof.Merge

variable (m : (ℓ : Loc nD τ sig) → Buf (Elt Ideal) ℓ)

/-- The arrays prepared before the call are the arguments in other shapes and types. -/
theorem V_v0 (c : Dev nD) : V m c main_v0 = (truncf .bf16 (m ((c : Thread nD τ).loc main_arg5) : FVec Ideal S3x512x1024 .f32) bitsLt_bf16_f32 : FVec Ideal S3x512x1024 .bf16) := by
  show StableHlo.after hostOps0 (fun b => m (c, b)) _ = _
  after_results

theorem V_v1 (c : Dev nD) : V m c main_v1 = (truncf .bf16 (m ((c : Thread nD τ).loc main_arg6) : FVec Ideal S1024x1024 .f32) bitsLt_bf16_f32 : FVec Ideal S1024x1024 .bf16) := by
  show StableHlo.after hostOps0 (fun b => m (c, b)) _ = _
  after_results

def asRow (v : FVec Ideal S1024 .f32) : FVec Ideal S1x1024 .f32 := shapeCast S1x1024 v shapeCasts_S1024_S1x1024
theorem asRow_apply (v : FVec Ideal S1024 .f32) (j : Fin 1024) : asRow v (ix2 0 j) = v (ix1 j) := by pointwise [asRow]

theorem V_v2 (c : Dev nD) : V m c main_v2 = asRow (m ((c : Thread nD τ).loc main_arg8)) := by
  show StableHlo.after hostOps0 (fun b => m (c, b)) _ = _
  after_results
  rfl

theorem V_v3 (c : Dev nD) : V m c main_v3 = asRow (m ((c : Thread nD τ).loc main_arg9)) := by
  show StableHlo.after hostOps0 (fun b => m (c, b)) _ = _
  after_results
  rfl

theorem lt_32 (t : Fin cfg0.N) : t.val < 32 := t.isLt

/-- The row of the arrays that row `r` of point `t`'s blocks is. -/
abbrev rowAt (t : Fin cfg0.N) (r : Fin 512) : Fin 16384 := ⟨512 * t.val + r.val, by have := lt_32 t; omega⟩

theorem covers12 : (cfg0.win 12).Covers := by decide +kernel
theorem covers13 : (cfg0.win 13).Covers := by decide +kernel

theorem index0 : ∀ t : Fin cfg0.N, win0_0.index t 0 = t.val ∧ win0_0.index t 1 = 0 := by decide +kernel
theorem index1 : ∀ t : Fin cfg0.N, win0_1.index t 0 = t.val ∧ win0_1.index t 1 = 1 := by decide +kernel
theorem index2 : ∀ t : Fin cfg0.N, win0_2.index t 0 = t.val ∧ win0_2.index t 1 = 2 := by decide +kernel
theorem index3 : ∀ t : Fin cfg0.N, win0_3.index t 0 = 0 ∧ win0_3.index t 1 = 0 := by decide +kernel
theorem index4 : ∀ t : Fin cfg0.N, win0_4.index t 0 = t.val ∧ win0_4.index t 1 = 0 := by decide +kernel
theorem index5 : ∀ t : Fin cfg0.N, win0_5.index t 0 = t.val ∧ win0_5.index t 1 = 0 := by decide +kernel
theorem index6 : ∀ t : Fin cfg0.N, win0_6.index t 0 = t.val ∧ win0_6.index t 1 = 0 := by decide +kernel
theorem index7 : ∀ t : Fin cfg0.N, win0_7.index t 0 = 0 ∧ win0_7.index t 1 = 0 ∧ win0_7.index t 2 = 0 := by decide +kernel
theorem index8 : ∀ t : Fin cfg0.N, win0_8.index t 0 = 0 ∧ win0_8.index t 1 = 0 := by decide +kernel
theorem index9 : ∀ t : Fin cfg0.N, win0_9.index t 0 = t.val ∧ win0_9.index t 1 = 0 := by decide +kernel
theorem index10 : ∀ t : Fin cfg0.N, win0_10.index t 0 = 0 ∧ win0_10.index t 1 = 0 := by decide +kernel
theorem index11 : ∀ t : Fin cfg0.N, win0_11.index t 0 = 0 ∧ win0_11.index t 1 = 0 := by decide +kernel
theorem index12 : ∀ t : Fin cfg0.N, win0_12.index t 0 = t.val ∧ win0_12.index t 1 = 0 := by decide +kernel
theorem index13 : ∀ t : Fin cfg0.N, win0_13.index t 0 = 0 ∧ win0_13.index t 1 = t.val := by decide +kernel

/-- The gate logits' blocks. -/
theorem logits0 (c : Dev nD) (t : Fin cfg0.N) (r : Fin 512) (e : Fin 1024) :
    X0_0 m c t (ix2 r e) = m ((c : Thread nD τ).loc main_arg0) (ix2 (n0 := 16384) (n1 := 8704) (rowAt t r) ⟨1024 * 0 + e.val, by omega⟩) := by
  unfold X0_0 Window.fill
  rw [dif_pos (moved0_0 t (ix2 r e))]
  show V m c main_arg0 _ = _
  rw [V_main_arg0]
  refine congrArg (m ((c : Thread nD τ).loc main_arg0)) (funext fun a => Fin.ext ?_)
  fin_cases a
  · blk_simp [(index0 t).1]
    show t.val * 512 + r.val = 512 * t.val + r.val
    omega
  · blk_simp [(index0 t).2]
    show e.val = 1024 * 0 + e.val
    omega

theorem logits1 (c : Dev nD) (t : Fin cfg0.N) (r : Fin 512) (e : Fin 1024) :
    X0_1 m c t (ix2 r e) = m ((c : Thread nD τ).loc main_arg0) (ix2 (n0 := 16384) (n1 := 8704) (rowAt t r) ⟨1024 * 1 + e.val, by omega⟩) := by
  unfold X0_1 Window.fill
  rw [dif_pos (moved0_1 t (ix2 r e))]
  show V m c main_arg0 _ = _
  rw [V_main_arg0]
  refine congrArg (m ((c : Thread nD τ).loc main_arg0)) (funext fun a => Fin.ext ?_)
  fin_cases a
  · blk_simp [(index1 t).1]
    show t.val * 512 + r.val = 512 * t.val + r.val
    omega
  · blk_simp [(index1 t).2]
    show 1 * 1024 + e.val = 1024 * 1 + e.val
    omega

theorem logits2 (c : Dev nD) (t : Fin cfg0.N) (r : Fin 512) (e : Fin 1024) :
    X0_2 m c t (ix2 r e) = m ((c : Thread nD τ).loc main_arg0) (ix2 (n0 := 16384) (n1 := 8704) (rowAt t r) ⟨1024 * 2 + e.val, by omega⟩) := by
  unfold X0_2 Window.fill
  rw [dif_pos (moved0_2 t (ix2 r e))]
  show V m c main_arg0 _ = _
  rw [V_main_arg0]
  refine congrArg (m ((c : Thread nD τ).loc main_arg0)) (funext fun a => Fin.ext ?_)
  fin_cases a
  · blk_simp [(index2 t).1]
    show t.val * 512 + r.val = 512 * t.val + r.val
    omega
  · blk_simp [(index2 t).2]
    show 2 * 1024 + e.val = 1024 * 2 + e.val
    omega

/-- The other blocks. -/
theorem branch4 (c : Dev nD) (t : Fin cfg0.N) (r : Fin 512) (e : Fin 512) :
    iblk m c 4 t (ix2 r e) = m ((c : Thread nD τ).loc main_arg2) (ix2 (n0 := 16384) (n1 := 512) (rowAt t r) e) := by
  show V m c main_arg2 _ = _
  rw [V_main_arg2]
  refine congrArg (m ((c : Thread nD τ).loc main_arg2)) (funext fun a => Fin.ext ?_)
  fin_cases a
  · blk_simp [(index4 t).1]
    show t.val * 512 + r.val = 512 * t.val + r.val
    omega
  · blk_simp [(index4 t).2]
    rfl

theorem branch5 (c : Dev nD) (t : Fin cfg0.N) (r : Fin 512) (e : Fin 512) :
    iblk m c 5 t (ix2 r e) = m ((c : Thread nD τ).loc main_arg3) (ix2 (n0 := 16384) (n1 := 512) (rowAt t r) e) := by
  show V m c main_arg3 _ = _
  rw [V_main_arg3]
  refine congrArg (m ((c : Thread nD τ).loc main_arg3)) (funext fun a => Fin.ext ?_)
  fin_cases a
  · blk_simp [(index5 t).1]
    show t.val * 512 + r.val = 512 * t.val + r.val
    omega
  · blk_simp [(index5 t).2]
    rfl

theorem branch6 (c : Dev nD) (t : Fin cfg0.N) (r : Fin 512) (e : Fin 512) :
    iblk m c 6 t (ix2 r e) = m ((c : Thread nD τ).loc main_arg4) (ix2 (n0 := 16384) (n1 := 512) (rowAt t r) e) := by
  show V m c main_arg4 _ = _
  rw [V_main_arg4]
  refine congrArg (m ((c : Thread nD τ).loc main_arg4)) (funext fun a => Fin.ext ?_)
  fin_cases a
  · blk_simp [(index6 t).1]
    show t.val * 512 + r.val = 512 * t.val + r.val
    omega
  · blk_simp [(index6 t).2]
    rfl

theorem input9 (c : Dev nD) (t : Fin cfg0.N) (r : Fin 512) (e : Fin 1024) :
    iblk m c 9 t (ix2 r e) = m ((c : Thread nD τ).loc main_arg7) (ix2 (n0 := 16384) (n1 := 1024) (rowAt t r) e) := by
  show V m c main_arg7 _ = _
  rw [V_main_arg7]
  refine congrArg (m ((c : Thread nD τ).loc main_arg7)) (funext fun a => Fin.ext ?_)
  fin_cases a
  · blk_simp [(index9 t).1]
    show t.val * 512 + r.val = 512 * t.val + r.val
    omega
  · blk_simp [(index9 t).2]
    rfl

theorem bias3 (c : Dev nD) (t : Fin cfg0.N) (n : Fin 3) (e : Fin 1024) :
    iblk m c 3 t (ix2 n e) = m ((c : Thread nD τ).loc main_arg1) (ix2 n e) := by
  show V m c main_arg1 _ = _
  rw [V_main_arg1]
  refine congrArg (m ((c : Thread nD τ).loc main_arg1)) (funext fun a => Fin.ext ?_)
  fin_cases a
  · blk_simp [(index3 t).1]
  · blk_simp [(index3 t).2]

theorem weights7 (c : Dev nD) (t : Fin cfg0.N) (n : Fin 3) (k : Fin 512) (e : Fin 1024) :
    iblk m c 7 t (ix3 n k e) = m ((c : Thread nD τ).loc main_arg5) (ix3 n k e) := by
  show V m c main_v0 _ = _
  rw [V_v0]
  refine congrArg (m ((c : Thread nD τ).loc main_arg5)) (funext fun a => Fin.ext ?_)
  fin_cases a
  · blk_simp [(index7 t).1]
  · blk_simp [(index7 t).2.1]
  · blk_simp [(index7 t).2.2]

theorem weights8 (c : Dev nD) (t : Fin cfg0.N) (e j : Fin 1024) :
    iblk m c 8 t (ix2 e j) = m ((c : Thread nD τ).loc main_arg6) (ix2 e j) := by
  show V m c main_v1 _ = _
  rw [V_v1]
  refine congrArg (m ((c : Thread nD τ).loc main_arg6)) (funext fun a => Fin.ext ?_)
  fin_cases a
  · blk_simp [(index8 t).1]
  · blk_simp [(index8 t).2]

theorem vector10 (c : Dev nD) (t : Fin cfg0.N) (j : Fin 1024) :
    iblk m c 10 t (ix2 0 j) = m ((c : Thread nD τ).loc main_arg8) (ix1 j) := by
  show V m c main_v2 _ = _
  rw [V_v2]
  refine Eq.trans (congrArg (asRow (m ((c : Thread nD τ).loc main_arg8))) (funext fun a => Fin.ext ?_)) (asRow_apply _ j)
  fin_cases a
  · blk_simp [(index10 t).1]
  · blk_simp [(index10 t).2]

theorem vector11 (c : Dev nD) (t : Fin cfg0.N) (j : Fin 1024) :
    iblk m c 11 t (ix2 0 j) = m ((c : Thread nD τ).loc main_arg9) (ix1 j) := by
  show V m c main_v3 _ = _
  rw [V_v3]
  refine Eq.trans (congrArg (asRow (m ((c : Thread nD τ).loc main_arg9))) (funext fun a => Fin.ext ?_)) (asRow_apply _ j)
  fin_cases a
  · blk_simp [(index11 t).1]
  · blk_simp [(index11 t).2]

/-- Where a result's block lies. -/
theorem emb12 (t : Fin cfg0.N) (r : Fin 512) (j : Fin 1024) : (win0_12.blk t).view.emb (ix2 r j) = ix2 (n0 := 16384) (n1 := 1024) (rowAt t r) j := by
  funext a
  refine Fin.ext ?_
  fin_cases a
  · blk_simp [(index12 t).1]
    show t.val * 512 + r.val = 512 * t.val + r.val
    omega
  · blk_simp [(index12 t).2]
    rfl

theorem emb13 (t : Fin cfg0.N) (j : Fin 1024) (r : Fin 512) : (win0_13.blk t).view.emb (ix2 j r) = ix2 (n0 := 1024) (n1 := 16384) j (rowAt t r) := by
  funext a
  refine Fin.ext ?_
  fin_cases a
  · blk_simp [(index13 t).1]
    rfl
  · blk_simp [(index13 t).2]
    show t.val * 512 + r.val = 512 * t.val + r.val
    omega

/-- The reference's first result, of the memory's arguments. -/
def result (c : Dev nD) : FVec Ideal S16384x1024 .f32 :=
  Cert.Reference4Ideal.Merge.out (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9))

/-- A row a grid point leaves is that result's. -/
theorem pointRow_eq (c : Dev nD) (t : Fin cfg0.N) (r : Fin 512) (j : Fin 1024) : pointRow m c t r j = result m c (ix2 (rowAt t r) j) := by
  refine Eq.trans ?_ (Cert.Reference4Ideal.Merge.out_apply _ _ _ _ _ _ _ _ _ _ (rowAt t r) j).symm
  unfold pointRow blockRow
  congr 1
  · funext n e
    fin_cases n
    · exact logits0 m c t r e
    · exact logits1 m c t r e
    · exact logits2 m c t r e
  · funext n e
    exact bias3 m c t n e
  · funext n k
    fin_cases n
    · exact branch4 m c t r k
    · exact branch5 m c t r k
    · exact branch6 m c t r k
  · funext n k e
    exact weights7 m c t n k e
  · funext e j
    exact weights8 m c t e j
  · funext j
    exact input9 m c t r j
  · funext j
    exact vector10 m c t j
  · funext j
    exact vector11 m c t j

/-- The two arrays the kernel leaves are the reference's two results. -/
theorem array12 (c : Dev nD) : (dats (F := Ideal) m 0 c).arrAt 12 cfg0.N = result m c := by
  refine (dats m 0 c).arrAt_eq_of_covers 12 _ covers12 fun t hf y => ?_
  blk_simp
  rw [after0_12]
  obtain ⟨r, j, rfl⟩ : ∃ (r : Fin 512) (j : Fin 1024), y = ix2 r j := ⟨y 0, y 1, eq_ix2 y⟩
  refine (left12 m c t r j).trans ((pointRow_eq m c t r j).trans ?_)
  exact congrArg (result m c) (emb12 t r j).symm

theorem array13 (c : Dev nD) : (dats (F := Ideal) m 0 c).arrAt 13 cfg0.N = Cert.Reference4Ideal.Merge.outT (result m c) := by
  refine (dats m 0 c).arrAt_eq_of_covers 13 _ covers13 fun t hf y => ?_
  blk_simp
  rw [after0_13]
  obtain ⟨j, r, rfl⟩ : ∃ (j : Fin 1024) (r : Fin 512), y = ix2 j r := ⟨y 0, y 1, eq_ix2 y⟩
  refine (left13 m c t r j).trans ((pointRow_eq m c t r j).trans ?_)
  exact (Cert.Reference4Ideal.Merge.outT_apply _ j (rowAt t r)).symm.trans (congrArg (Cert.Reference4Ideal.Merge.outT (result m c)) (emb13 t j r).symm)

end Cert.Kernel4Ideal.Merge

end
-- ==== Proof.MergeFrames.lean ====
/- The merge of the branches: its program as printed and its idealization are the same text, so one run gives both frames. -/
module

public import proofs.«01_k».proof.Defs
public import proofs.«01_k».proof.Proof.Gen.Kernel4
public import proofs.«01_k».proof.Proof.Gen.Kernel4Ideal.Frame
public import Idealize.ShloMosaic.Lib.Quiescent

@[expose] public section

set_option maxRecDepth 100000
set_option maxHeartbeats 2000000

noncomputable section

namespace Cert.Proof.Merge

open Idealize.ShloMosaic Idealize.ShloMosaic.TcCoe Idealize.SL.Sem

attribute [local instance] Cert.Kernel4.Gen.facts Cert.Kernel4Ideal.Gen.facts

/-- The two programs' bodies are the same, -/
theorem defs₀_eq : Cert.Kernel4.defs₀ (F := Bits) = Cert.Kernel4Ideal.defs₀ (F := Bits) := by
  unfold Cert.Kernel4.defs₀ Cert.Kernel4Ideal.defs₀
  refine congrArg Defs.onTc ?_
  funext p x
  match p, x with
  | 0, (t, s) => rfl

/-- and so are their tables. -/
theorem defs_eq : Cert.Kernel4.defs (F := Bits) = Cert.Kernel4Ideal.defs (F := Bits) := by
  unfold Cert.Kernel4.defs Cert.Kernel4Ideal.defs
  exact congrArg (Pipeline.defs _) defs₀_eq

/-- The kernel's frame. -/
theorem frame_p : Cert.quiescent_Kernel4 := fun m ρ _ => by
  have h := Cert.Kernel4Ideal.Gen.frame (F := Bits) m ρ
  rw [← defs_eq] at h
  exact h

/-- The idealized kernel's frame. -/
theorem frame_pi : Cert.quiescent_Kernel4Ideal := fun m ρ _ => Cert.Kernel4Ideal.Gen.frame (F := Ideal) m ρ

end Cert.Proof.Merge

end
-- ==== Proof.MergeClaim.lean ====
/- The claims of the merge: its reference's frame, and that the two results are the same. -/
module

public import proofs.«01_k».proof.Proof.MergeArray
public import proofs.«01_k».proof.Proof.MergeFrames
public import proofs.«01_k».proof.Proof.Gen.Reference4Ideal

@[expose] public section

noncomputable section

namespace Cert.Proof.Merge

open Idealize.ShloMosaic Idealize.ShloMosaic.TcCoe Idealize.SL.Sem

attribute [local instance] Cert.Kernel4Ideal.Gen.facts Cert.Reference4Ideal.Gen.facts

/-- The reference's frame. -/
theorem frame_ri : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- The kernel and the reference end with the same two results. -/
theorem algebraic : Cert.algebraic_Kernel4Ideal_Reference4Ideal := by
  intro m ρ m' ρ' _ hagree
  refine ⟨_, _, (θ_run Cert.Kernel4Ideal.defs _ _).mono
    (fun _ h c => ⟨(h c).1.trans (Cert.Kernel4Ideal.Merge.array12 m c), (h c).2.1.trans (Cert.Kernel4Ideal.Merge.array13 m c), (h c).2.2⟩)
    (Cert.Kernel4Ideal.Value.run_blocks (F := Ideal) m ρ), ?_⟩
  refine (θ_run Cert.Reference4Ideal.defs _ _).mono (fun _ h c => ?_) (Cert.Reference4Ideal.Value.run (F := Ideal) m' ρ')
  obtain ⟨h0, h1, h2⟩ := h c
  obtain ⟨e0, e1, e2, e3, e4, e5, e6, e7, e8, e9⟩ := hagree c
  rw [Cert.Reference4Ideal.Merge.res_out1_eq] at h1
  rw [Cert.Reference4Ideal.Merge.res_out0_eq] at h0 h1
  rw [e0, e1, e2, e3, e4, e5, e6, e7, e8, e9] at h0 h1
  exact ⟨h0, h1, h2⟩

end Cert.Proof.Merge

end
-- ==== Proof.LatentSpec.lean ====
/- The latent attention's queries and keys, one row and one head at a time: the normalised latent, the rotary embedding, and
   what the kernel's way of rotating a slab of 128 lanes makes of them. -/
module

public import proofs.«01_k».proof.Defs
public import Idealize.ShloMosaic.Lib.Pointwise

@[expose] public section

noncomputable section

namespace Cert.Proof.Latent

open Idealize.ShloMosaic

/-- The angle of rotary frequency `i` at position `n`. -/
def angle (n : BitVec 32) (i : Fin 16) : EReal :=
  FloatOps.sitofp (F := Ideal) FTy.f32 n * Ideal.pow (Ideal.ofBits .f32 0x48F42400#32) (Ideal.div (-(Ideal.ofBits .f32 0x40000000#32 * FloatOps.sitofp (F := Ideal) FTy.f32 (BitVec.ofNat 32 i.val))) (Ideal.ofBits .f32 0x42000000#32))

/-- The queries' scale. -/
def scale : EReal := Ideal.ofBits .f32 0x3E16C740#32

/-- A row divided by its root mean square and scaled; `w` is the number of its entries. -/
def normed {n : Nat} (w : EReal) (x g : Fin n → EReal) (k : Fin n) : EReal :=
  x k * Ideal.rsqrt (Ideal.div (∑ k : Fin n, x k * x k) w + Ideal.ofBits .f32 0x358637BD#32) * g k

/-- One head's 96 entries, the last 32 rotated by the angles' cosines and sines, in 128 lanes. -/
def rotated (x : Fin 96 → EReal) (c s : Fin 16 → EReal) (l : Fin 128) : EReal :=
  if h0 : l.val < 64 then x ⟨l.val, by omega⟩
  else if h1 : l.val < 80 then x ⟨l.val, by omega⟩ * c ⟨l.val - 64, by omega⟩ - x ⟨l.val + 16, by omega⟩ * s ⟨l.val - 64, by omega⟩
  else if h2 : l.val < 96 then x ⟨l.val, by omega⟩ * c ⟨l.val - 80, by omega⟩ + x ⟨l.val - 16, by omega⟩ * s ⟨l.val - 80, by omega⟩
  else 0

/-- The lanes past the head's entries are zero. -/
theorem rotated_past (x : Fin 96 → EReal) (c s : Fin 16 → EReal) (l : Fin 128) (h : ¬ l.val < 96) : rotated x c s l = 0 := by
  unfold rotated
  simp (disch := omega) only [dif_neg]

/-- A table of 16 entries twice in the lanes 64 to 95, nothing elsewhere. -/
def lanes (c : Fin 16 → EReal) (l : Fin 128) : EReal :=
  if h0 : l.val < 64 then 0
  else if h1 : l.val < 80 then c ⟨l.val - 64, by omega⟩
  else if h2 : l.val < 96 then c ⟨l.val - 80, by omega⟩
  else 0

/-- The lane 32 further on, around the end. -/
def turned (l : Fin 128) : Fin 128 := ⟨(l.val + 128 - 96) % 128, by omega⟩

/-- The scale is a positive real. -/
theorem scale_real : ∃ r : ℝ, 0 ≤ r ∧ scale = (r : EReal) := by
  refine ⟨9881408 * (2 ^ 26)⁻¹, by positivity, ?_⟩
  unfold scale
  simp [Ideal.ofBits, Ideal.ieee]

/-- The kernel's scaled queries are the rotated ones, scaled: `y` holds the head's 96 entries, then its last 32 rotated
    by a quarter turn. -/
theorem scaled_eq (x : Fin 96 → EReal) (y : Fin 128 → EReal) (c s : Fin 16 → EReal)
    (h0 : ∀ l : Fin 96, y ⟨l.val, by omega⟩ = x l) (h1 : ∀ i : Fin 16, y ⟨96 + i.val, by omega⟩ = - x ⟨80 + i.val, by omega⟩)
    (h2 : ∀ i : Fin 16, y ⟨112 + i.val, by omega⟩ = x ⟨64 + i.val, by omega⟩) (l : Fin 128) :
    y l * (if l.val < 64 then scale else lanes c l * scale) + y (turned l) * (lanes s l * scale) = rotated x c s l * scale := by
  obtain ⟨k, hk, hs⟩ := scale_real
  have hd : ∀ a b : EReal, (a + b) * scale = a * scale + b * scale := fun a b => by
    rw [hs]
    exact EReal.right_distrib_of_nonneg_of_ne_top (by exact_mod_cast hk) (EReal.coe_ne_top k) a b
  unfold rotated lanes turned
  by_cases a0 : l.val < 64
  · simp only [a0, dif_pos, if_pos, zero_mul, mul_zero, add_zero]
    exact congrArg (· * scale) (h0 ⟨l.val, by omega⟩)
  · by_cases a1 : l.val < 80
    · simp only [a0, a1, dif_pos, dif_neg, if_neg, not_false_eq_true]
      rw [show y l = _ from h0 ⟨l.val, by omega⟩,
        show y ⟨(l.val + 128 - 96) % 128, by omega⟩ = _ from (congrArg y (Fin.ext (by simp only []; omega))).trans (h1 ⟨l.val - 64, by omega⟩),
        sub_eq_add_neg, hd, ← EReal.neg_mul, mul_assoc, mul_assoc]
      refine congrArg₂ (· + ·) rfl (congrArg (fun i => - x i * _) (Fin.ext (by simp only []; omega)))
    · by_cases a2 : l.val < 96
      · simp only [a0, a1, a2, dif_pos, dif_neg, if_neg, not_false_eq_true]
        rw [show y l = _ from h0 ⟨l.val, by omega⟩,
          show y ⟨(l.val + 128 - 96) % 128, by omega⟩ = _ from (congrArg y (Fin.ext (by simp only []; omega))).trans (h2 ⟨l.val - 80, by omega⟩),
          hd, mul_assoc, mul_assoc]
        refine congrArg₂ (· + ·) rfl (congrArg (fun i => x i * _) (Fin.ext (by simp only []; omega)))
      · simp only [a0, a1, a2, dif_neg, if_neg, not_false_eq_true, zero_mul, mul_zero, add_zero]

/-- The kernel's keys are the rotated ones: `n` holds the head's first 64 entries, `y` the last 32 and a copy rotated by a quarter turn. -/
theorem keys_eq (x : Fin 96 → EReal) (n y : Fin 128 → EReal) (c s : Fin 16 → EReal)
    (hn : ∀ l : Fin 64, n ⟨l.val, by omega⟩ = x ⟨l.val, by omega⟩) (hz : ∀ l : Fin 64, n ⟨64 + l.val, by omega⟩ = 0)
    (h0 : ∀ i : Fin 32, y ⟨64 + i.val, by omega⟩ = x ⟨64 + i.val, by omega⟩) (h1 : ∀ i : Fin 16, y ⟨96 + i.val, by omega⟩ = - x ⟨80 + i.val, by omega⟩)
    (h2 : ∀ i : Fin 16, y ⟨112 + i.val, by omega⟩ = x ⟨64 + i.val, by omega⟩) (l : Fin 128) :
    n l + (y l * lanes c l + y (turned l) * lanes s l) = rotated x c s l := by
  unfold rotated lanes turned
  by_cases a0 : l.val < 64
  · simp only [a0, dif_pos, mul_zero, add_zero]
    exact hn ⟨l.val, a0⟩
  · rw [show n l = 0 from (congrArg n (Fin.ext (by simp only []; omega))).trans (hz ⟨l.val - 64, by omega⟩), zero_add]
    by_cases a1 : l.val < 80
    · simp only [a0, a1, dif_pos, dif_neg, not_false_eq_true]
      rw [show y l = _ from (congrArg y (Fin.ext (by simp only []; omega))).trans (h0 ⟨l.val - 64, by omega⟩),
        show y ⟨(l.val + 128 - 96) % 128, by omega⟩ = _ from (congrArg y (Fin.ext (by simp only []; omega))).trans (h1 ⟨l.val - 64, by omega⟩),
        sub_eq_add_neg, ← EReal.neg_mul]
      refine congrArg₂ (· + ·) (congrArg (fun i => x i * _) (Fin.ext (by simp only []; omega))) (congrArg (fun i => - x i * _) (Fin.ext (by simp only []; omega)))
    · by_cases a2 : l.val < 96
      · simp only [a0, a1, a2, dif_pos, dif_neg, not_false_eq_true]
        rw [show y l = _ from (congrArg y (Fin.ext (by simp only []; omega))).trans (h0 ⟨l.val - 64, by omega⟩),
          show y ⟨(l.val + 128 - 96) % 128, by omega⟩ = _ from (congrArg y (Fin.ext (by simp only []; omega))).trans (h2 ⟨l.val - 80, by omega⟩)]
        refine congrArg₂ (· + ·) (congrArg (fun i => x i * _) (Fin.ext (by simp only []; omega))) (congrArg (fun i => x i * _) (Fin.ext (by simp only []; omega)))
      · simp only [a0, a1, a2, dif_neg, not_false_eq_true, mul_zero, add_zero]

end Cert.Proof.Latent

end
-- ==== Proof.LatentBlock.lean ====
/- The latent attention's kernel: the payloads of its body at a row and a lane. -/
module

public import proofs.«01_k».proof.Proof.LatentSpec
public import proofs.«01_k».proof.Proof.Gen.Kernel5Ideal.Value
public import Idealize.ShloMosaic.Lib.Pipeline.ValueKit

@[expose] public section

set_option maxRecDepth 16384

noncomputable section

namespace Cert.Kernel5Ideal.Latent

open Cert.Kernel5Ideal Cert.Kernel5Ideal.Gen Cert.Kernel5Ideal.Facts
open Idealize.ShloMosaic Idealize.ShloMosaic.TcCoe
open Cert.Proof.Latent

/-- The queries before their rotation: the normalised latent's up-projection. -/
theorem pay1_apply (z : Vec Ideal S512x768 .bf16) (g : Vec Ideal S1x768 .f32) (w : Vec Ideal S768x1024 .bf16) (r : Fin 512) (j : Fin 1024) :
    k0_pay1 (F := Ideal) z g w (ix2 r j)
      = ∑ k : Fin 768, normed (Ideal.ofBits .f32 0x44400000#32) (fun k => z (ix2 r k)) (fun k => g (ix2 0 k)) k * w (ix2 k j) := by
  unfold normed
  pointwise [k0_pay1]

/-- The other latent, normalised, -/
theorem pay3_apply (z : Vec Ideal S512x256 .bf16) (g : Vec Ideal S1x256 .f32) (r : Fin 512) (k : Fin 256) :
    k0_pay3 (F := Ideal) z g (ix2 r k) = normed (Ideal.ofBits .f32 0x43800000#32) (fun k => z (ix2 r k)) (fun k => g (ix2 0 k)) k := by
  unfold normed
  pointwise [k0_pay3]

/-- its weights, -/
theorem pay2_apply (w : Vec Ideal S256x1536 .bf16) (k : Fin 256) (j : Fin 1536) : k0_pay2 (F := Ideal) w (ix2 k j) = w (ix2 k j) := by
  pointwise [k0_pay2]

/-- its up-projection, -/
theorem pay4_apply (w : FVec Ideal S256x1536 .bf16) (x : FVec Ideal S512x256 .bf16) (r : Fin 512) (j : Fin 1536) :
    k0_pay4 (F := Ideal) w x (constant S512x1536 .f32 0#32) (ix2 r j) = ∑ k : Fin 256, x (ix2 r k) * w (ix2 k j) := by
  pointwise [k0_pay4]

/-- and the values among its columns. -/
theorem pay5_apply (w : FVec Ideal S256x1536 .bf16) (x : FVec Ideal S512x256 .bf16) (r : Fin 512) (j : Fin 512) :
    k0_pay5 (F := Ideal) w x (constant S512x1536 .f32 0#32) (ix2 r j) = k0_pay4 (F := Ideal) w x (constant S512x1536 .f32 0#32) (ix2 r ⟨1024 + j.val, by omega⟩) := by
  unfold k0_pay5
  generalize k0_pay4 (F := Ideal) w x (constant S512x1536 .f32 0#32) = y
  pointwise []

/-- The test of a lane's number. -/
theorem below : ∀ l : Fin 128, IntOp.cmpi .slt (BitVec.ofNat 32 l.val) 64#32 = if l.val < 64 then 1#1 else 0#1 := by decide +kernel

/-- The cosines' lanes, scaled, the scale where there is no angle, -/
theorem pay8_apply (x : Vec Ideal S512x128 .f32) (r : Fin 512) (l : Fin 128) :
    k0_pay8 (F := Ideal) x (ix2 r l) = if l.val < 64 then scale else x (ix2 r l) * scale := by
  unfold scale
  pointwise [k0_pay8, k0_pay6]
  rw [below l]
  by_cases h : l.val < 64
  · rw [if_pos h, if_pos h]
    rfl
  · rw [if_neg h, if_neg h]
    rfl

/-- and the sines'. -/
theorem pay9_apply (x : Vec Ideal S512x128 .f32) (r : Fin 512) (l : Fin 128) : k0_pay9 (F := Ideal) x (ix2 r l) = x (ix2 r l) * scale := by
  unfold scale
  pointwise [k0_pay9, k0_pay7]

/-- The rotary key, rotated. -/
theorem pay10_apply (a b x : Vec Ideal S512x128 .f32) (r : Fin 512) (l : Fin 128) :
    k0_pay10 (F := Ideal) a b x (ix2 r l) = x (ix2 r l) * a (ix2 r l) + x (ix2 r (turned l)) * b (ix2 r l) := by
  unfold turned
  pointwise [k0_pay10, k0_pay6, k0_pay7]

/-- One head's queries, rotated. -/
def turnedSum (q : FVec Ideal S512x1024 .f32) (a b : FVec Ideal S512x128 .f32) (h : Fin 8) (r : Fin 512) (l : Fin 128) : EReal :=
  q (ix2 r ⟨h.val * 128 + l.val, by omega⟩) * a (ix2 r l) + q (ix2 r ⟨h.val * 128 + (turned l).val, by omega⟩) * b (ix2 r l)

section
variable (q : FVec Ideal S512x1024 .f32) (a b : FVec Ideal S512x128 .f32) (r : Fin 512) (l : Fin 128)

theorem pay11_apply (x y : Vec Ideal S512x128 .f32) : k0_pay11 (F := Ideal) q x y (ix2 r l) = turnedSum q (k0_pay8 (F := Ideal) x) (k0_pay9 (F := Ideal) y) 0 r l := by
  unfold turnedSum turned k0_pay11
  generalize k0_pay8 (F := Ideal) x = a
  generalize k0_pay9 (F := Ideal) y = b
  pointwise []

theorem pay16_apply (x y : Vec Ideal S512x128 .f32) :
    k0_pay16 (F := Ideal) (k0_pay14 (F := Ideal) q x) (k0_pay15 (F := Ideal) q y) (ix2 r l) = turnedSum q (k0_pay8 (F := Ideal) x) (k0_pay9 (F := Ideal) y) 1 r l := by
  unfold turnedSum turned k0_pay16 k0_pay14 k0_pay15 k0_pay13
  generalize k0_pay8 (F := Ideal) x = a
  generalize k0_pay9 (F := Ideal) y = b
  pointwise []

theorem pay18_apply : k0_pay18 (F := Ideal) q a b (ix2 r l) = turnedSum q a b 2 r l := by
  unfold turnedSum turned
  pointwise [k0_pay18]

theorem pay20_apply : k0_pay20 (F := Ideal) q a b (ix2 r l) = turnedSum q a b 3 r l := by
  unfold turnedSum turned
  pointwise [k0_pay20]

theorem pay22_apply : k0_pay22 (F := Ideal) q a b (ix2 r l) = turnedSum q a b 4 r l := by
  unfold turnedSum turned
  pointwise [k0_pay22]

theorem pay24_apply : k0_pay24 (F := Ideal) q a b (ix2 r l) = turnedSum q a b 5 r l := by
  unfold turnedSum turned
  pointwise [k0_pay24]

theorem pay26_apply : k0_pay26 (F := Ideal) q a b (ix2 r l) = turnedSum q a b 6 r l := by
  unfold turnedSum turned
  pointwise [k0_pay26]

theorem pay28_apply : k0_pay28 (F := Ideal) q a b (ix2 r l) = turnedSum q a b 7 r l := by
  unfold turnedSum turned
  pointwise [k0_pay28]
end

section
variable (y : FVec Ideal S512x1536 .f32) (x : FVec Ideal S512x128 .f32) (r : Fin 512) (l : Fin 128)

theorem pay12_apply (w : FVec Ideal S256x1536 .bf16) (n : FVec Ideal S512x256 .bf16) (z : FVec Ideal S512x1536 .f32) (a b s : Vec Ideal S512x128 .f32) :
    k0_pay12 (F := Ideal) w n z a b s (ix2 r l) = k0_pay4 (F := Ideal) w n z (ix2 r ⟨l.val, by omega⟩) + k0_pay10 (F := Ideal) a b s (ix2 r l) := by
  unfold k0_pay12
  generalize k0_pay4 (F := Ideal) w n z = y
  generalize k0_pay10 (F := Ideal) a b s = x
  pointwise []

theorem pay17_apply : k0_pay17 (F := Ideal) y x (ix2 r l) = y (ix2 r ⟨128 + l.val, by omega⟩) + x (ix2 r l) := by
  pointwise [k0_pay17]

theorem pay19_apply : k0_pay19 (F := Ideal) y x (ix2 r l) = y (ix2 r ⟨256 + l.val, by omega⟩) + x (ix2 r l) := by
  pointwise [k0_pay19]

theorem pay21_apply : k0_pay21 (F := Ideal) y x (ix2 r l) = y (ix2 r ⟨384 + l.val, by omega⟩) + x (ix2 r l) := by
  pointwise [k0_pay21]

theorem pay23_apply : k0_pay23 (F := Ideal) y x (ix2 r l) = y (ix2 r ⟨512 + l.val, by omega⟩) + x (ix2 r l) := by
  pointwise [k0_pay23]

theorem pay25_apply : k0_pay25 (F := Ideal) y x (ix2 r l) = y (ix2 r ⟨640 + l.val, by omega⟩) + x (ix2 r l) := by
  pointwise [k0_pay25]

theorem pay27_apply : k0_pay27 (F := Ideal) y x (ix2 r l) = y (ix2 r ⟨768 + l.val, by omega⟩) + x (ix2 r l) := by
  pointwise [k0_pay27]

theorem pay29_apply : k0_pay29 (F := Ideal) y x (ix2 r l) = y (ix2 r ⟨896 + l.val, by omega⟩) + x (ix2 r l) := by
  pointwise [k0_pay29]
end

end Cert.Kernel5Ideal.Latent

end
-- ==== Proof.LatentLeft.lean ====
/- The latent attention's kernel: the three blocks a grid point leaves. -/
module

public import proofs.«01_k».proof.Proof.LatentBlock

@[expose] public section

set_option maxRecDepth 16384

noncomputable section

namespace Cert.Kernel5Ideal.Latent

open Cert.Kernel5Ideal Cert.Kernel5Ideal.Gen Cert.Kernel5Ideal.Facts
open Idealize.ShloMosaic Idealize.ShloMosaic.TcCoe
open Idealize.ShloMosaic.Pipeline (Dat Cfg Window)
open Cert.Proof.Latent

variable (m : (ℓ : Loc nD τ sig) → Buf (Elt Ideal) ℓ)

/-- The queries before their rotation, and the other latent's up-projection, of what a grid point found. -/
def Q (c : Dev nD) (t : Fin cfg0.N) : FVec Ideal S512x1024 .f32 := k0_pay1 (F := Ideal) (X0_0 m c t) (iblk m c 2 t) (iblk m c 4 t)
def KV (c : Dev nD) (t : Fin cfg0.N) : FVec Ideal S512x1536 .f32 :=
  k0_pay4 (F := Ideal) (k0_pay2 (F := Ideal) (iblk m c 5 t)) (k0_pay3 (F := Ideal) (iblk m c 1 t) (iblk m c 3 t)) (constant S512x1536 .f32 0#32)

/-- One head's slab, read where it lies in the block: of the queries, -/
theorem slabQ (q : FVec Ideal S512x1024 .f32) (a b : FVec Ideal S512x128 .f32) (k : Fin 8) (f : FVec Ideal S512x128 .bf16) (hf : ∀ r l, f (ix2 r l) = turnedSum q a b k r l)
    (x : S512x128.Idx) (r : Fin 512) (j : Fin 1024) (h0 : r.val = (x 0).val) (h1 : j.val = 128 * k.val + (x 1).val) (hx : (x 1).val < 128) :
    f x = turnedSum q a b ⟨j.val / 128, by omega⟩ r ⟨j.val % 128, by omega⟩ := by
  obtain ⟨s, l, rfl⟩ : ∃ (s : Fin 512) (l : Fin 128), x = ix2 s l := ⟨x 0, x 1, eq_ix2 x⟩
  replace h0 : r.val = s.val := h0
  replace h1 : j.val = 128 * k.val + l.val := h1
  obtain rfl : r = s := Fin.ext h0
  have e1 : k = ⟨j.val / 128, by omega⟩ := Fin.ext (by show k.val = j.val / 128; omega)
  have e2 : l = ⟨j.val % 128, by omega⟩ := Fin.ext (by show l.val = j.val % 128; omega)
  rw [hf, ← e1, ← e2]

/-- and of the keys. -/
theorem slabK (y : FVec Ideal S512x1536 .f32) (v : FVec Ideal S512x128 .f32) (k : Fin 8) (f : FVec Ideal S512x128 .bf16)
    (hf : ∀ r l, f (ix2 r l) = y (ix2 r ⟨k.val * 128 + l.val, by omega⟩) + v (ix2 r l))
    (x : S512x128.Idx) (r : Fin 512) (j : Fin 1024) (h0 : r.val = (x 0).val) (h1 : j.val = 128 * k.val + (x 1).val) (hx : (x 1).val < 128) :
    f x = y (ix2 r ⟨j.val, by omega⟩) + v (ix2 r ⟨j.val % 128, by omega⟩) := by
  obtain ⟨s, l, rfl⟩ : ∃ (s : Fin 512) (l : Fin 128), x = ix2 s l := ⟨x 0, x 1, eq_ix2 x⟩
  replace h0 : r.val = s.val := h0
  replace h1 : j.val = 128 * k.val + l.val := h1
  obtain rfl : r = s := Fin.ext h0
  have e1 : (⟨k.val * 128 + l.val, by omega⟩ : Fin 1536) = ⟨j.val, by omega⟩ := Fin.ext (by show k.val * 128 + l.val = j.val; omega)
  have e2 : l = ⟨j.val % 128, by omega⟩ := Fin.ext (by show l.val = j.val % 128; omega)
  rw [hf, e1, ← e2]

/-- The queries' block, -/
theorem left9 (c : Dev nD) (t : Fin cfg0.N) (r : Fin 512) (j : Fin 1024) :
    (outsAt0 m c t).1 (ix2 r j) = turnedSum (Q m c t) (k0_pay8 (F := Ideal) (iblk m c 7 t)) (k0_pay9 (F := Ideal) (iblk m c 8 t)) ⟨j.val / 128, by omega⟩ r ⟨j.val % 128, by omega⟩ := by
  unfold outsAt0
  frame_out
  canon_tiles x h
  · exact slabQ _ _ _ 7 _ (pay28_apply _ _ _) x r j h0 h1 x1_lt
  · exact slabQ _ _ _ 6 _ (pay26_apply _ _ _) x r j h0 h1 x1_lt
  · exact slabQ _ _ _ 5 _ (pay24_apply _ _ _) x r j h0 h1 x1_lt
  · exact slabQ _ _ _ 4 _ (pay22_apply _ _ _) x r j h0 h1 x1_lt
  · exact slabQ _ _ _ 3 _ (pay20_apply _ _ _) x r j h0 h1 x1_lt
  · exact slabQ _ _ _ 2 _ (pay18_apply _ _ _) x r j h0 h1 x1_lt
  · exact slabQ _ _ _ 1 _ (fun r l => pay16_apply _ r l _ _) x r j h0 h1 x1_lt
  · exact slabQ _ _ _ 0 _ (fun r l => pay11_apply _ r l _ _) x r j h0 (h1.trans (Nat.zero_add _).symm) x1_lt

/-- the keys', -/
theorem left10 (c : Dev nD) (t : Fin cfg0.N) (r : Fin 512) (j : Fin 1024) :
    (outsAt0 m c t).2.1 (ix2 r j) = KV m c t (ix2 r ⟨j.val, by omega⟩) + k0_pay10 (F := Ideal) (iblk m c 7 t) (iblk m c 8 t) (iblk m c 6 t) (ix2 r ⟨j.val % 128, by omega⟩) := by
  unfold outsAt0
  frame_out
  canon_tiles x h
  · exact slabK _ _ 7 _ (pay29_apply _ _) x r j h0 h1 x1_lt
  · exact slabK _ _ 6 _ (pay27_apply _ _) x r j h0 h1 x1_lt
  · exact slabK _ _ 5 _ (pay25_apply _ _) x r j h0 h1 x1_lt
  · exact slabK _ _ 4 _ (pay23_apply _ _) x r j h0 h1 x1_lt
  · exact slabK _ _ 3 _ (pay21_apply _ _) x r j h0 h1 x1_lt
  · exact slabK _ _ 2 _ (pay19_apply _ _) x r j h0 h1 x1_lt
  · exact slabK _ _ 1 _ (pay17_apply _ _) x r j h0 h1 x1_lt
  · refine slabK _ _ 0 _ (fun r l => (pay12_apply r l _ _ _ _ _ _).trans ?_) x r j h0 (h1.trans (Nat.zero_add _).symm) x1_lt
    exact congrArg (fun i => k0_pay4 (F := Ideal) _ _ _ (ix2 r i) + _) (Fin.ext (by show l.val = 0 * 128 + l.val; omega))

/-- and the values'. -/
theorem left11 (c : Dev nD) (t : Fin cfg0.N) (r : Fin 512) (j : Fin 512) : (outsAt0 m c t).2.2 (ix2 r j) = KV m c t (ix2 r ⟨1024 + j.val, by omega⟩) := by
  unfold outsAt0
  frame_out
  exact pay5_apply _ _ r j

end Cert.Kernel5Ideal.Latent

end
-- ==== Proof.LatentWeights.lean ====
/- The arrays the latent attention's kernel is given: the rotary tables in lanes, the rotary key with a copy turned by a
   quarter, and the two up-projections' columns in slabs of 128. -/
module

public import proofs.«01_k».proof.Proof.LatentSpec
public import proofs.«01_k».proof.Proof.Gen.Kernel5Ideal.Frame

@[expose] public section

set_option maxRecDepth 16384

noncomputable section

namespace Cert.Kernel5Ideal.Latent

open Cert.Kernel5Ideal Cert.Kernel5Ideal.Gen Cert.Kernel5Ideal.Facts
open Idealize.ShloMosaic Idealize.ShloMosaic.TcCoe Idealize.SL.Sem
open Cert.Proof.Latent

/-- The angles. -/
def angles (p : IVec S8x2048 32) : FVec Ideal S16384x16 .f32 :=
  mulf (broadcastInDim S16384x16 ![0, 1] bcast_S16384x1_S16384x16_0_1 (broadcastInDim S16384x1 ![0] bcast_S16384_S16384x1_0 (sitofp .f32 (shapeCast _ p shapeCasts_S8x2048_S16384))))
    (broadcastInDim S16384x16 ![0, 1] bcast_S1x16_S16384x16_0_1 (broadcastInDim S1x16 ![1] bcast_S16_S1x16_1 (Host.powf (broadcastInDim S16 ![] bcast_S_S16 (constant S_ .f32 0x48F42400#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32))))))

theorem angles_apply (p : IVec S8x2048 32) (r : Fin 16384) (i : Fin 16) :
    angles p (ix2 r i) = angle (p (ix2 ⟨r.val / 2048, by omega⟩ ⟨r.val % 2048, by omega⟩)) i := by
  unfold angle
  pointwise [angles]

/-- A table in lanes. -/
def table (x : FVec Ideal S16384x16 .f32) : FVec Ideal S16384x128 .f32 :=
  concatenate S16384x128 1 [⟨S16384x64, broadcastInDim S16384x64 ![] bcast_S_S16384x64 (constant S_ .f32 0x00000000#32)⟩, ⟨S16384x16, x⟩, ⟨S16384x16, x⟩,
    ⟨S16384x32, broadcastInDim S16384x32 ![] bcast_S_S16384x32 (constant S_ .f32 0x00000000#32)⟩] concatenates_S16384x64_S16384x16_S16384x16_S16384x32_S16384x128_d1

theorem table_apply (x : FVec Ideal S16384x16 .f32) (r : Fin 16384) (l : Fin 128) : table x (ix2 r l) = lanes (fun i => x (ix2 r i)) l := by
  unfold lanes
  pointwise [table]
  simp only [show l.val - 64 - 16 = l.val - 80 by omega]
  by_cases h0 : l.val < 64
  · simp only [dif_pos h0]
  · by_cases h1 : l.val < 80
    · simp (disch := omega) only [dif_pos, dif_neg]
    · by_cases h2 : l.val < 96
      · simp (disch := omega) only [dif_pos, dif_neg]
      · simp (disch := omega) only [dif_neg]

/-- The two tables of the positions. -/
def cosTable (p : IVec S8x2048 32) : FVec Ideal S16384x128 .f32 := table (Host.cos (angles p))
def sinTable (p : IVec S8x2048 32) : FVec Ideal S16384x128 .f32 := table (Host.sin (angles p))

/-- One token's cosines and sines. -/
def cosines (p : IVec S8x2048 32) (r : Fin 16384) (i : Fin 16) : EReal := Ideal.cos (angle (p (ix2 ⟨r.val / 2048, by omega⟩ ⟨r.val % 2048, by omega⟩)) i)
def sines (p : IVec S8x2048 32) (r : Fin 16384) (i : Fin 16) : EReal := Ideal.sin (angle (p (ix2 ⟨r.val / 2048, by omega⟩ ⟨r.val % 2048, by omega⟩)) i)

theorem cosTable_apply (p : IVec S8x2048 32) (r : Fin 16384) (l : Fin 128) : cosTable p (ix2 r l) = lanes (cosines p r) l := by
  unfold cosTable
  rw [table_apply]
  refine congrArg (lanes · l) (funext fun i => ?_)
  show Ideal.cos (angles p (ix2 r i)) = _
  rw [angles_apply]
  rfl

theorem sinTable_apply (p : IVec S8x2048 32) (r : Fin 16384) (l : Fin 128) : sinTable p (ix2 r l) = lanes (sines p r) l := by
  unfold sinTable
  rw [table_apply]
  refine congrArg (lanes · l) (funext fun i => ?_)
  show Ideal.sin (angles p (ix2 r i)) = _
  rw [angles_apply]
  rfl

/-- The rotary key and its copy. -/
def small (x : FVec Ideal S16384x32 .f32) : FVec Ideal S16384x128 .f32 :=
  concatenate S16384x128 1 [⟨S16384x64, broadcastInDim S16384x64 ![] bcast_S_S16384x64 (constant S_ .f32 0x00000000#32)⟩, ⟨S16384x32, x⟩,
    ⟨S16384x32, concatenate S16384x32 1 [⟨S16384x16, Host.negf (extractStridedSlice S16384x16 ![0, 16] x slices_S16384x32_S16384x16_0_16)⟩,
      ⟨S16384x16, extractStridedSlice S16384x16 ![0, 0] x slices_S16384x32_S16384x16_0_0⟩] concatenates_S16384x16_S16384x16_S16384x32_d1⟩] concatenates_S16384x64_S16384x32_S16384x32_S16384x128_d1

theorem small_key (x : FVec Ideal S16384x32 .f32) (r : Fin 16384) (i : Fin 32) : small x (ix2 r ⟨64 + i.val, by omega⟩) = x (ix2 r i) := by
  pointwise [small]

theorem small_minus (x : FVec Ideal S16384x32 .f32) (r : Fin 16384) (i : Fin 16) : small x (ix2 r ⟨96 + i.val, by omega⟩) = - x (ix2 r ⟨16 + i.val, by omega⟩) := by
  pointwise [small]
  simp (disch := omega) only [dif_pos, dif_neg, show 16 + (96 + i.val - 64 - 32) = 16 + i.val by omega]

theorem small_plus (x : FVec Ideal S16384x32 .f32) (r : Fin 16384) (i : Fin 16) : small x (ix2 r ⟨112 + i.val, by omega⟩) = x (ix2 r ⟨i.val, by omega⟩) := by
  pointwise [small]
  simp (disch := omega) only [dif_pos, dif_neg, show 112 + i.val - 64 - 32 - 16 = i.val by omega]

/-- The queries' weights: 96 columns a head, then the last 32 turned by a quarter. -/
def weightsQ (w : FVec Ideal S768x768 .f32) : FVec Ideal S768x1024 .bf16 :=
  have y : FVec Ideal S768x8x96 .f32 := shapeCast _ w shapeCasts_S768x768_S768x8x96
  have t : FVec Ideal S768x8x32 .f32 := extractStridedSlice S768x8x32 ![0, 0, 64] y slices_S768x8x96_S768x8x32_0_0_64
  truncf .bf16 (shapeCast _ (concatenate S768x8x128 2 [⟨S768x8x96, y⟩,
    ⟨S768x8x32, concatenate S768x8x32 2 [⟨S768x8x16, Host.negf (extractStridedSlice S768x8x16 ![0, 0, 16] t slices_S768x8x32_S768x8x16_0_0_16)⟩,
      ⟨S768x8x16, extractStridedSlice S768x8x16 ![0, 0, 0] t slices_S768x8x32_S768x8x16_0_0_0⟩] concatenates_S768x8x16_S768x8x16_S768x8x32_d2⟩] concatenates_S768x8x96_S768x8x32_S768x8x128_d2)
    shapeCasts_S768x8x128_S768x1024) bitsLt_bf16_f32

theorem weightsQ_head (w : FVec Ideal S768x768 .f32) (k : Fin 768) (h : Fin 8) (l : Fin 96) :
    weightsQ w (ix2 k ⟨h.val * 128 + l.val, by omega⟩) = w (ix2 k ⟨h.val * 96 + l.val, by omega⟩) := by
  pointwise [weightsQ]
  simp (disch := omega) only [dif_pos, dif_neg, show (h.val * 128 + l.val) % 128 = l.val by omega]

theorem weightsQ_minus (w : FVec Ideal S768x768 .f32) (k : Fin 768) (h : Fin 8) (i : Fin 16) :
    weightsQ w (ix2 k ⟨h.val * 128 + (96 + i.val), by omega⟩) = - w (ix2 k ⟨h.val * 96 + (80 + i.val), by omega⟩) := by
  pointwise [weightsQ]
  simp (disch := omega) only [dif_pos, dif_neg, show 64 + (16 + ((h.val * 128 + (96 + i.val)) % 128 - 96)) = 80 + i.val by omega]

theorem weightsQ_plus (w : FVec Ideal S768x768 .f32) (k : Fin 768) (h : Fin 8) (i : Fin 16) :
    weightsQ w (ix2 k ⟨h.val * 128 + (112 + i.val), by omega⟩) = w (ix2 k ⟨h.val * 96 + (64 + i.val), by omega⟩) := by
  pointwise [weightsQ]
  simp (disch := omega) only [dif_pos, dif_neg, show 64 + ((h.val * 128 + (112 + i.val)) % 128 - 96 - 16) = 64 + i.val by omega]

/-- The keys' weights, 64 columns a head in slabs of 128, then the values'. -/
def weightsKV (w : FVec Ideal S256x1024 .f32) : FVec Ideal S256x1536 .bf16 :=
  have y : FVec Ideal S256x8x128 .f32 := shapeCast _ w shapeCasts_S256x1024_S256x8x128
  truncf .bf16 (concatenate S256x1536 1 [⟨S256x1024, shapeCast _ (concatenate S256x8x128 2 [⟨S256x8x64, extractStridedSlice S256x8x64 ![0, 0, 0] y slices_S256x8x128_S256x8x64_0_0_0⟩,
      ⟨S256x8x64, broadcastInDim S256x8x64 ![] bcast_S_S256x8x64 (constant S_ .f32 0x00000000#32)⟩] concatenates_S256x8x64_S256x8x64_S256x8x128_d2) shapeCasts_S256x8x128_S256x1024⟩,
    ⟨S256x512, shapeCast _ (extractStridedSlice S256x8x64 ![0, 0, 64] y slices_S256x8x128_S256x8x64_0_0_64) shapeCasts_S256x8x64_S256x512⟩] concatenates_S256x1024_S256x512_S256x1536_d1) bitsLt_bf16_f32

theorem weightsKV_key (w : FVec Ideal S256x1024 .f32) (k : Fin 256) (h : Fin 8) (l : Fin 64) :
    weightsKV w (ix2 k ⟨h.val * 128 + l.val, by omega⟩) = w (ix2 k ⟨h.val * 128 + l.val, by omega⟩) := by
  pointwise [weightsKV]
  simp (disch := omega) only [dif_pos, dif_neg, show (h.val * 128 + l.val) % 128 = l.val by omega]

theorem weightsKV_zero (w : FVec Ideal S256x1024 .f32) (k : Fin 256) (h : Fin 8) (l : Fin 64) :
    weightsKV w (ix2 k ⟨h.val * 128 + (64 + l.val), by omega⟩) = 0 := by
  pointwise [weightsKV]
  simp (disch := omega) only [dif_pos, dif_neg]

theorem weightsKV_value (w : FVec Ideal S256x1024 .f32) (k : Fin 256) (h : Fin 8) (d : Fin 64) :
    weightsKV w (ix2 k ⟨1024 + (h.val * 64 + d.val), by omega⟩) = w (ix2 k ⟨h.val * 128 + (64 + d.val), by omega⟩) := by
  pointwise [weightsKV]

/-- The two scales as rows. -/
def rowQ (v : FVec Ideal S768 .f32) : FVec Ideal S1x768 .f32 := shapeCast S1x768 v shapeCasts_S768_S1x768
theorem rowQ_apply (v : FVec Ideal S768 .f32) (j : Fin 768) : rowQ v (ix2 0 j) = v (ix1 j) := by pointwise [rowQ]

def rowKV (v : FVec Ideal S256 .f32) : FVec Ideal S1x256 .f32 := shapeCast S1x256 v shapeCasts_S256_S1x256
theorem rowKV_apply (v : FVec Ideal S256 .f32) (j : Fin 256) : rowKV v (ix2 0 j) = v (ix1 j) := by pointwise [rowKV]

variable (m : (ℓ : Loc nD τ sig) → Buf (Elt Ideal) ℓ)

theorem V_v37 (c : Dev nD) : V m c main_v37 = cosTable (m ((c : Thread nD τ).loc main_arg2)) := by
  show StableHlo.after hostOps0 (fun b => m (c, b)) _ = _
  after_results
  rfl

theorem V_v40 (c : Dev nD) : V m c main_v40 = sinTable (m ((c : Thread nD τ).loc main_arg2)) := by
  show StableHlo.after hostOps0 (fun b => m (c, b)) _ = _
  after_results
  rfl

theorem V_v51 (c : Dev nD) : V m c main_v51 = small (m ((c : Thread nD τ).loc main_arg1)) := by
  show StableHlo.after hostOps0 (fun b => m (c, b)) _ = _
  after_results
  rfl

theorem V_v60 (c : Dev nD) : V m c main_v60 = weightsQ (m ((c : Thread nD τ).loc main_arg5)) := by
  show StableHlo.after hostOps0 (fun b => m (c, b)) _ = _
  after_results
  rfl

theorem V_v69 (c : Dev nD) : V m c main_v69 = weightsKV (m ((c : Thread nD τ).loc main_arg6)) := by
  show StableHlo.after hostOps0 (fun b => m (c, b)) _ = _
  after_results
  rfl

theorem V_v70 (c : Dev nD) : V m c main_v70 = rowQ (m ((c : Thread nD τ).loc main_arg3)) := by
  show StableHlo.after hostOps0 (fun b => m (c, b)) _ = _
  after_results
  rfl

theorem V_v71 (c : Dev nD) : V m c main_v71 = rowKV (m ((c : Thread nD τ).loc main_arg4)) := by
  show StableHlo.after hostOps0 (fun b => m (c, b)) _ = _
  after_results
  rfl

end Cert.Kernel5Ideal.Latent

end
-- ==== Proof.LatentArray.lean ====
/- The latent attention's kernel: the blocks it is given, in terms of its arguments. -/
module

public import proofs.«01_k».proof.Proof.LatentLeft
public import proofs.«01_k».proof.Proof.LatentWeights

@[expose] public section

set_option maxRecDepth 16384

noncomputable section

namespace Cert.Kernel5Ideal.Latent

open Cert.Kernel5Ideal Cert.Kernel5Ideal.Gen Cert.Kernel5Ideal.Facts
open Idealize.ShloMosaic Idealize.ShloMosaic.TcCoe Idealize.SL.Sem
open Idealize.ShloMosaic.Pipeline (Dat Cfg Window)
open Cert.Proof.Latent

variable (m : (ℓ : Loc nD τ sig) → Buf (Elt Ideal) ℓ)

theorem lt_32 (t : Fin cfg0.N) : t.val < 32 := t.isLt

/-- The row of the arrays that row `r` of point `t`'s blocks is. -/
abbrev rowAt (t : Fin cfg0.N) (r : Fin 512) : Fin 16384 := ⟨512 * t.val + r.val, by have := lt_32 t; omega⟩

theorem index0 : ∀ t : Fin cfg0.N, win0_0.index t 0 = t.val ∧ win0_0.index t 1 = 4 := by decide +kernel
theorem index1 : ∀ t : Fin cfg0.N, win0_1.index t 0 = t.val ∧ win0_1.index t 1 = 15 := by decide +kernel
theorem index2 : ∀ t : Fin cfg0.N, win0_2.index t 0 = 0 ∧ win0_2.index t 1 = 0 := by decide +kernel
theorem index3 : ∀ t : Fin cfg0.N, win0_3.index t 0 = 0 ∧ win0_3.index t 1 = 0 := by decide +kernel
theorem index4 : ∀ t : Fin cfg0.N, win0_4.index t 0 = 0 ∧ win0_4.index t 1 = 0 := by decide +kernel
theorem index5 : ∀ t : Fin cfg0.N, win0_5.index t 0 = 0 ∧ win0_5.index t 1 = 0 := by decide +kernel
theorem index6 : ∀ t : Fin cfg0.N, win0_6.index t 0 = t.val ∧ win0_6.index t 1 = 0 := by decide +kernel
theorem index7 : ∀ t : Fin cfg0.N, win0_7.index t 0 = t.val ∧ win0_7.index t 1 = 0 := by decide +kernel
theorem index8 : ∀ t : Fin cfg0.N, win0_8.index t 0 = t.val ∧ win0_8.index t 1 = 0 := by decide +kernel

/-- The two latents. -/
theorem latent0 (c : Dev nD) (t : Fin cfg0.N) (r : Fin 512) (e : Fin 768) :
    X0_0 m c t (ix2 r e) = m ((c : Thread nD τ).loc main_arg0) (ix2 (n0 := 16384) (n1 := 8704) (rowAt t r) ⟨3072 + e.val, by omega⟩) := by
  unfold X0_0 Window.fill
  rw [dif_pos (moved0_0 t (ix2 r e))]
  show V m c main_arg0 _ = _
  rw [V_main_arg0]
  refine congrArg (m ((c : Thread nD τ).loc main_arg0)) (funext fun a => Fin.ext ?_)
  fin_cases a
  · blk_simp [(index0 t).1]
    show t.val * 512 + r.val = 512 * t.val + r.val
    omega
  · blk_simp [(index0 t).2]
    show 4 * 768 + e.val = 3072 + e.val
    omega

theorem latent1 (c : Dev nD) (t : Fin cfg0.N) (r : Fin 512) (e : Fin 256) :
    iblk m c 1 t (ix2 r e) = m ((c : Thread nD τ).loc main_arg0) (ix2 (n0 := 16384) (n1 := 8704) (rowAt t r) ⟨3840 + e.val, by omega⟩) := by
  show V m c main_arg0 _ = _
  rw [V_main_arg0]
  refine congrArg (m ((c : Thread nD τ).loc main_arg0)) (funext fun a => Fin.ext ?_)
  fin_cases a
  · blk_simp [(index1 t).1]
    show t.val * 512 + r.val = 512 * t.val + r.val
    omega
  · blk_simp [(index1 t).2]
    show 15 * 256 + e.val = 3840 + e.val
    omega

/-- Their scales, -/
theorem scale2 (c : Dev nD) (t : Fin cfg0.N) (k : Fin 768) : iblk m c 2 t (ix2 0 k) = m ((c : Thread nD τ).loc main_arg3) (ix1 k) := by
  show V m c main_v70 _ = _
  rw [V_v70]
  refine Eq.trans (congrArg (rowQ (m ((c : Thread nD τ).loc main_arg3))) (funext fun a => Fin.ext ?_)) (rowQ_apply _ k)
  fin_cases a
  · blk_simp [(index2 t).1]
  · blk_simp [(index2 t).2]

theorem scale3 (c : Dev nD) (t : Fin cfg0.N) (k : Fin 256) : iblk m c 3 t (ix2 0 k) = m ((c : Thread nD τ).loc main_arg4) (ix1 k) := by
  show V m c main_v71 _ = _
  rw [V_v71]
  refine Eq.trans (congrArg (rowKV (m ((c : Thread nD τ).loc main_arg4))) (funext fun a => Fin.ext ?_)) (rowKV_apply _ k)
  fin_cases a
  · blk_simp [(index3 t).1]
  · blk_simp [(index3 t).2]

/-- their up-projections' weights, -/
theorem weights4 (c : Dev nD) (t : Fin cfg0.N) (k : Fin 768) (j : Fin 1024) :
    iblk m c 4 t (ix2 k j) = weightsQ (m ((c : Thread nD τ).loc main_arg5)) (ix2 k j) := by
  show V m c main_v60 _ = _
  rw [V_v60]
  refine congrArg (weightsQ (m ((c : Thread nD τ).loc main_arg5))) (funext fun a => Fin.ext ?_)
  fin_cases a
  · blk_simp [(index4 t).1]
  · blk_simp [(index4 t).2]

theorem weights5 (c : Dev nD) (t : Fin cfg0.N) (k : Fin 256) (j : Fin 1536) :
    iblk m c 5 t (ix2 k j) = weightsKV (m ((c : Thread nD τ).loc main_arg6)) (ix2 k j) := by
  show V m c main_v69 _ = _
  rw [V_v69]
  refine congrArg (weightsKV (m ((c : Thread nD τ).loc main_arg6))) (funext fun a => Fin.ext ?_)
  fin_cases a
  · blk_simp [(index5 t).1]
  · blk_simp [(index5 t).2]

/-- the rotary key, -/
theorem key6 (c : Dev nD) (t : Fin cfg0.N) (r : Fin 512) (l : Fin 128) :
    iblk m c 6 t (ix2 r l) = small (m ((c : Thread nD τ).loc main_arg1)) (ix2 (rowAt t r) l) := by
  show V m c main_v51 _ = _
  rw [V_v51]
  refine congrArg (small (m ((c : Thread nD τ).loc main_arg1))) (funext fun a => Fin.ext ?_)
  fin_cases a
  · blk_simp [(index6 t).1]
    show t.val * 512 + r.val = 512 * t.val + r.val
    omega
  · blk_simp [(index6 t).2]
    rfl

/-- and the tables. -/
theorem table7 (c : Dev nD) (t : Fin cfg0.N) (r : Fin 512) (l : Fin 128) : iblk m c 7 t (ix2 r l) = lanes (cosines (m ((c : Thread nD τ).loc main_arg2)) (rowAt t r)) l := by
  show V m c main_v37 _ = _
  rw [V_v37]
  refine Eq.trans (congrArg (cosTable (m ((c : Thread nD τ).loc main_arg2))) (funext fun a => Fin.ext ?_)) (cosTable_apply _ (rowAt t r) l)
  fin_cases a
  · blk_simp [(index7 t).1]
    show t.val * 512 + r.val = 512 * t.val + r.val
    omega
  · blk_simp [(index7 t).2]
    rfl

theorem table8 (c : Dev nD) (t : Fin cfg0.N) (r : Fin 512) (l : Fin 128) : iblk m c 8 t (ix2 r l) = lanes (sines (m ((c : Thread nD τ).loc main_arg2)) (rowAt t r)) l := by
  show V m c main_v40 _ = _
  rw [V_v40]
  refine Eq.trans (congrArg (sinTable (m ((c : Thread nD τ).loc main_arg2))) (funext fun a => Fin.ext ?_)) (sinTable_apply _ (rowAt t r) l)
  fin_cases a
  · blk_simp [(index8 t).1]
    show t.val * 512 + r.val = 512 * t.val + r.val
    omega
  · blk_simp [(index8 t).2]
    rfl

end Cert.Kernel5Ideal.Latent

end
-- ==== Proof.LatentReal.lean ====
/- With a finite scale, the normalised latent is real whatever the latent: where its sum of squares is infinite it is zero.
   So a sum of its products with real weights changes sign with the weights. -/
module

public import proofs.«01_k».proof.Proof.LatentSpec

@[expose] public section

noncomputable section

namespace Cert.Proof.Latent

open Idealize.ShloMosaic

/-- A square is not negative. -/
theorem square_nonneg (x : EReal) : 0 ≤ x * x := by
  induction x using EReal.rec with
  | bot => simp
  | coe r => exact_mod_cast mul_self_nonneg r
  | top => simp

/-- A number whose square is finite is a real. -/
theorem real_of_square (x : EReal) (h : x * x ≠ ⊤) : ∃ r : ℝ, x = (r : EReal) := by
  induction x using EReal.rec with
  | bot => simp at h
  | coe r => exact ⟨r, rfl⟩
  | top => simp at h

/-- A sum of reals is a real. -/
theorem sum_real {n : Nat} (f : Fin n → EReal) (F : Fin n → ℝ) (h : ∀ k, f k = (F k : EReal)) : ∑ k, f k = ((∑ k, F k : ℝ) : EReal) := by
  simp only [h]
  have : ∀ s : Finset (Fin n), ∑ k ∈ s, (F k : EReal) = ((∑ k ∈ s, F k : ℝ) : EReal) := fun s => by
    induction s using Finset.induction_on with
    | empty => simp
    | insert a s ha ih => rw [Finset.sum_insert ha, Finset.sum_insert ha, ih, EReal.coe_add]
  exact this _

/-- A sum of reals changes sign with its terms. -/
theorem sum_neg_real {n : Nat} (f : Fin n → EReal) (h : ∀ k, ∃ r : ℝ, f k = (r : EReal)) : ∑ k, - f k = - ∑ k, f k := by
  choose F hF using h
  rw [sum_real f F hF, sum_real (fun k => - f k) (fun k => - F k) fun k => by rw [hF, EReal.coe_neg], Finset.sum_neg_distrib, EReal.coe_neg]

/-- The normalised latent is real. -/
theorem normed_real {n : Nat} (w : ℝ) (hw : 0 < w) (x g : Fin n → EReal) (hg : ∀ k, ∃ r : ℝ, g k = (r : EReal)) (k : Fin n) :
    ∃ r : ℝ, normed (w : EReal) x g k = (r : EReal) := by
  obtain ⟨e, he, hE⟩ : ∃ e : ℝ, 0 < e ∧ Ideal.ofBits .f32 0x358637BD#32 = (e : EReal) := by
    refine ⟨8796093 * (2 ^ 43)⁻¹, by positivity, ?_⟩
    simp [Ideal.ofBits, Ideal.ieee]
  unfold normed
  rw [hE]
  obtain ⟨G, hG⟩ := hg k
  by_cases h : ∑ k : Fin n, x k * x k = ⊤
  · rw [h]
    refine ⟨0, ?_⟩
    have : Ideal.rsqrt (Ideal.div ⊤ (w : EReal) + (e : EReal)) = 0 := by
      have h1 : Ideal.div ⊤ (w : EReal) = ⊤ := by
        unfold Ideal.div
        rw [if_neg (by exact_mod_cast hw.ne'), ← EReal.coe_inv]
        exact EReal.top_mul_coe_of_pos (inv_pos.2 hw)
      rw [h1, EReal.top_add_coe]
      rfl
    rw [this]
    simp
  · have hx : ∀ k, ∃ r : ℝ, x k = (r : EReal) := fun k => real_of_square _ fun hk =>
      h (top_le_iff.1 (hk ▸ Finset.single_le_sum (f := fun k => x k * x k) (fun i _ => square_nonneg (x i)) (Finset.mem_univ k)))
    choose X hX using hx
    rw [sum_real (fun k => x k * x k) (fun k => X k * X k) fun k => by rw [hX, EReal.coe_mul], hX, hG]
    have hp : 0 < (∑ k, X k * X k) / w + e := add_pos_of_nonneg_of_pos (div_nonneg (Finset.sum_nonneg fun i _ => mul_self_nonneg (X i)) hw.le) he
    have hr : Ideal.rsqrt (Ideal.div ((∑ k, X k * X k : ℝ) : EReal) (w : EReal) + (e : EReal)) = (((Real.sqrt ((∑ k, X k * X k) / w + e))⁻¹ : ℝ) : EReal) := by
      have h1 : Ideal.div ((∑ k, X k * X k : ℝ) : EReal) (w : EReal) = (((∑ k, X k * X k) / w : ℝ) : EReal) := by
        unfold Ideal.div
        rw [if_neg (by exact_mod_cast hw.ne'), ← EReal.coe_inv, ← EReal.coe_mul, div_eq_mul_inv]
      have h2 : ∀ r : ℝ, Ideal.rsqrt (r : EReal) = if r < 0 then (⊥ : EReal) else if r = 0 then (⊤ : EReal) else (((Real.sqrt r)⁻¹ : ℝ) : EReal) := fun _ => rfl
      rw [h1, ← EReal.coe_add, h2, if_neg (not_lt.2 hp.le), if_neg hp.ne']
    rw [hr]
    exact ⟨X k * (Real.sqrt ((∑ k, X k * X k) / w + e))⁻¹ * G, by push_cast; rfl⟩

/-- The number of the queries' latent entries. -/
theorem count_real : Ideal.ofBits .f32 0x44400000#32 = ((768 : ℝ) : EReal) := by
  have h : Ideal.ofBits .f32 0x44400000#32 = ((12582912 * (2 ^ 14)⁻¹ : ℝ) : EReal) := by simp [Ideal.ofBits, Ideal.ieee]
  rw [h]
  norm_num

end Cert.Proof.Latent

end
-- ==== Proof.LatentReference.lean ====
/- The reference of the latent attention's queries, keys and values, read at an index. -/
module

public import proofs.«01_k».proof.Proof.LatentSpec
public import proofs.«01_k».proof.Proof.Gen.Reference5Ideal.Run

@[expose] public section

set_option maxRecDepth 16384

noncomputable section

namespace Cert.Reference5Ideal.Latent

open Cert.Reference5Ideal Cert.Reference5Ideal.Gen Cert.Reference5Ideal.Facts
open Idealize.ShloMosaic Idealize.ShloMosaic.TcCoe
open Cert.Proof.Latent

/-- The angles. -/
def angles (p : IVec S8x2048 32) : FVec Ideal S16384x16 .f32 :=
  mulf (broadcastInDim S16384x16 ![0, 1] bcast_S16384x1_S16384x16_0_1 (shapeCast _ (sitofp .f32 p) shapeCasts_S8x2048_S16384x1)) (broadcastInDim S16384x16 ![0, 1] bcast_S1x16_S16384x16_0_1 (broadcastInDim S1x16 ![1] bcast_S16_S1x16_1 (Host.powf (broadcastInDim S16 ![] bcast_S_S16 (constant S_ .f32 0x48F42400#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32))))))

theorem angles_apply (p : IVec S8x2048 32) (r : Fin 16384) (i : Fin 16) : angles p (ix2 r i) = angle (p (ix2 ⟨r.val / 2048, by omega⟩ ⟨r.val % 2048, by omega⟩)) i := by
  unfold angle
  pointwise [angles]

def cosines (p : IVec S8x2048 32) : FVec Ideal S16384x1x16 .f32 := broadcastInDim S16384x1x16 ![0, 2] bcast_S16384x16_S16384x1x16_0_2 (Host.cos (angles p))
def sines (p : IVec S8x2048 32) : FVec Ideal S16384x1x16 .f32 := broadcastInDim S16384x1x16 ![0, 2] bcast_S16384x16_S16384x1x16_0_2 (Host.sin (angles p))

theorem cosines_apply (p : IVec S8x2048 32) (r : Fin 16384) (i : Fin 16) : cosines p (ix3 r 0 i) = Ideal.cos (angles p (ix2 r i)) := by
  unfold cosines
  generalize angles p = a
  pointwise []

theorem sines_apply (p : IVec S8x2048 32) (r : Fin 16384) (i : Fin 16) : sines p (ix3 r 0 i) = Ideal.sin (angles p (ix2 r i)) := by
  unfold sines
  generalize angles p = a
  pointwise []

/-- The queries' normalised latent, -/
def latentQ (z : FVec Ideal S16384x8704 .bf16) (g : FVec Ideal S768 .f32) : FVec Ideal S16384x768 .f32 :=
  mulf (mulf (extf .f32 (extractStridedSlice S16384x768 ![0, 3072] z slices_S16384x8704_S16384x768_0_3072) bitsLt_bf16_f32) (broadcastInDim S16384x768 ![0, 1] bcast_S16384x1_S16384x768_0_1 (Host.rsqrt (addf (Host.divf (broadcastInDim S16384x1 ![0] bcast_S16384_S16384x1_0 (Host.reduceAdd (mulf (extf .f32 (extractStridedSlice S16384x768 ![0, 3072] z slices_S16384x8704_S16384x768_0_3072) bitsLt_bf16_f32) (extf .f32 (extractStridedSlice S16384x768 ![0, 3072] z slices_S16384x8704_S16384x768_0_3072) bitsLt_bf16_f32)) (constant S_ .f32 0x00000000#32) reducesTo_S16384x768_S16384_d1 h_S_)) (broadcastInDim S16384x1 ![] bcast_S_S16384x1 (constant S_ .f32 0x44400000#32))) (broadcastInDim S16384x1 ![] bcast_S_S16384x1 (constant S_ .f32 0x358637BD#32)))))) (broadcastInDim S16384x768 ![0, 1] bcast_S1x768_S16384x768_0_1 (broadcastInDim S1x768 ![1] bcast_S768_S1x768_1 g))

theorem latentQ_apply (z : FVec Ideal S16384x8704 .bf16) (g : FVec Ideal S768 .f32) (r : Fin 16384) (k : Fin 768) :
    latentQ z g (ix2 r k) = normed (Ideal.ofBits .f32 0x44400000#32) (fun k : Fin 768 => z (ix2 r ⟨3072 + k.val, by omega⟩)) (fun k => g (ix1 k)) k := by
  unfold normed
  pointwise [latentQ]

/-- the keys' and values', -/
def latentKV (z : FVec Ideal S16384x8704 .bf16) (g : FVec Ideal S256 .f32) : FVec Ideal S16384x256 .f32 :=
  mulf (mulf (extf .f32 (extractStridedSlice S16384x256 ![0, 3840] z slices_S16384x8704_S16384x256_0_3840) bitsLt_bf16_f32) (broadcastInDim S16384x256 ![0, 1] bcast_S16384x1_S16384x256_0_1 (Host.rsqrt (addf (Host.divf (broadcastInDim S16384x1 ![0] bcast_S16384_S16384x1_0 (Host.reduceAdd (mulf (extf .f32 (extractStridedSlice S16384x256 ![0, 3840] z slices_S16384x8704_S16384x256_0_3840) bitsLt_bf16_f32) (extf .f32 (extractStridedSlice S16384x256 ![0, 3840] z slices_S16384x8704_S16384x256_0_3840) bitsLt_bf16_f32)) (constant S_ .f32 0x00000000#32) reducesTo_S16384x256_S16384_d1 h_S_)) (broadcastInDim S16384x1 ![] bcast_S_S16384x1 (constant S_ .f32 0x43800000#32))) (broadcastInDim S16384x1 ![] bcast_S_S16384x1 (constant S_ .f32 0x358637BD#32)))))) (broadcastInDim S16384x256 ![0, 1] bcast_S1x256_S16384x256_0_1 (broadcastInDim S1x256 ![1] bcast_S256_S1x256_1 g))

theorem latentKV_apply (z : FVec Ideal S16384x8704 .bf16) (g : FVec Ideal S256 .f32) (r : Fin 16384) (k : Fin 256) :
    latentKV z g (ix2 r k) = normed (Ideal.ofBits .f32 0x43800000#32) (fun k : Fin 256 => z (ix2 r ⟨3840 + k.val, by omega⟩)) (fun k => g (ix1 k)) k := by
  unfold normed
  pointwise [latentKV]

/-- and what they project to. -/
def upQ (x : FVec Ideal S16384x768 .f32) (w : FVec Ideal S768x768 .f32) : FVec Ideal S16384x8x96 .f32 :=
  shapeCast _ (Host.dotGeneral dot_S16384x768_S768x768_S16384x768_1_0_0_1_n_n none x w) shapeCasts_S16384x768_S16384x8x96

theorem upQ_apply (x : FVec Ideal S16384x768 .f32) (w : FVec Ideal S768x768 .f32) (r : Fin 16384) (h : Fin 8) (d : Fin 96) :
    upQ x w (ix3 r h d) = ∑ k : Fin 768, x (ix2 r k) * w (ix2 k ⟨h.val * 96 + d.val, by omega⟩) := by
  pointwise [upQ]

def upKV (x : FVec Ideal S16384x256 .f32) (w : FVec Ideal S256x1024 .f32) : FVec Ideal S16384x8x128 .f32 :=
  shapeCast _ (Host.dotGeneral dot_S16384x256_S256x1024_S16384x1024_1_0_0_1_n_n none x w) shapeCasts_S16384x1024_S16384x8x128

theorem upKV_apply (x : FVec Ideal S16384x256 .f32) (w : FVec Ideal S256x1024 .f32) (r : Fin 16384) (h : Fin 8) (d : Fin 128) :
    upKV x w (ix3 r h d) = ∑ k : Fin 256, x (ix2 r k) * w (ix2 k ⟨h.val * 128 + d.val, by omega⟩) := by
  pointwise [upKV]

/-- 96 entries a head in slabs of 128. -/
def padded (x : FVec Ideal S16384x8x96 .f32) : FVec Ideal S16384x1024 .bf16 :=
  truncf .bf16 (shapeCast _ (concatenate S16384x8x128 2 [⟨S16384x8x96, x⟩, ⟨S16384x8x32, (broadcastInDim S16384x8x32 ![] bcast_S_S16384x8x32 (constant S_ .f32 0x00000000#32))⟩] concatenates_S16384x8x96_S16384x8x32_S16384x8x128_d2) shapeCasts_S16384x8x128_S16384x1024) bitsLt_bf16_f32

theorem padded_apply (x : FVec Ideal S16384x8x96 .f32) (r : Fin 16384) (h : Fin 8) (l : Fin 128) :
    padded x (ix2 r ⟨h.val * 128 + l.val, by omega⟩) = if hl : l.val < 96 then x (ix3 r h ⟨l.val, hl⟩) else 0 := by
  pointwise [padded]

/-- The queries with their last 32 entries a head rotated, scaled. -/
def rotQ (y : FVec Ideal S16384x8x96 .f32) (C S : FVec Ideal S16384x1x16 .f32) : FVec Ideal S16384x8x96 .f32 :=
  have t : FVec Ideal S16384x8x32 .f32 := extractStridedSlice S16384x8x32 ![0, 0, 64] y slices_S16384x8x96_S16384x8x32_0_0_64
  have a : FVec Ideal S16384x8x16 .f32 := extractStridedSlice S16384x8x16 ![0, 0, 0] t slices_S16384x8x32_S16384x8x16_0_0_0
  have b : FVec Ideal S16384x8x16 .f32 := extractStridedSlice S16384x8x16 ![0, 0, 16] t slices_S16384x8x32_S16384x8x16_0_0_16
  have c : FVec Ideal S16384x8x16 .f32 := broadcastInDim S16384x8x16 ![0, 1, 2] bcast_S16384x1x16_S16384x8x16_0_1_2 C
  have s : FVec Ideal S16384x8x16 .f32 := broadcastInDim S16384x8x16 ![0, 1, 2] bcast_S16384x1x16_S16384x8x16_0_1_2 S
  mulf (concatenate S16384x8x96 2 [⟨S16384x8x64, (extractStridedSlice S16384x8x64 ![0, 0, 0] y slices_S16384x8x96_S16384x8x64_0_0_0)⟩, ⟨S16384x8x32, (concatenate S16384x8x32 2 [⟨S16384x8x16, (subf (mulf a c) (mulf b s))⟩, ⟨S16384x8x16, (addf (mulf b c) (mulf a s))⟩] concatenates_S16384x8x16_S16384x8x16_S16384x8x32_d2)⟩] concatenates_S16384x8x64_S16384x8x32_S16384x8x96_d2) (broadcastInDim S16384x8x96 ![] bcast_S_S16384x8x96 (constant S_ .f32 0x3E16C740#32))

theorem rotQ_apply (y : FVec Ideal S16384x8x96 .f32) (C S : FVec Ideal S16384x1x16 .f32) (r : Fin 16384) (h : Fin 8) (l : Fin 96) :
    rotQ y C S (ix3 r h l) = rotated (fun d => y (ix3 r h d)) (fun i => C (ix3 r 0 i)) (fun i => S (ix3 r 0 i)) ⟨l.val, by omega⟩ * scale := by
  unfold rotated scale
  pointwise [rotQ]
  by_cases h1 : l.val < 64
  · simp only [dif_pos h1]
  · by_cases h2 : l.val < 80
    · simp (disch := omega) only [dif_pos, dif_neg, show 64 + (l.val - 64) = l.val by omega, show 64 + (16 + (l.val - 64)) = l.val + 16 by omega]
    · simp (disch := omega) only [dif_neg, show l.val - 64 - 16 = l.val - 80 by omega, show 64 + (16 + (l.val - 80)) = l.val by omega, show 64 + (l.val - 80) = l.val - 16 by omega]

/-- The keys: each head's first 64 entries and the one rotary key, rotated. -/
def rotK (y : FVec Ideal S16384x8x128 .f32) (x : FVec Ideal S16384x32 .f32) (C S : FVec Ideal S16384x1x16 .f32) : FVec Ideal S16384x8x96 .f32 :=
  have t : FVec Ideal S16384x1x32 .f32 := broadcastInDim S16384x1x32 ![0, 2] bcast_S16384x32_S16384x1x32_0_2 x
  have a : FVec Ideal S16384x1x16 .f32 := extractStridedSlice S16384x1x16 ![0, 0, 0] t slices_S16384x1x32_S16384x1x16_0_0_0
  have b : FVec Ideal S16384x1x16 .f32 := extractStridedSlice S16384x1x16 ![0, 0, 16] t slices_S16384x1x32_S16384x1x16_0_0_16
  concatenate S16384x8x96 2 [⟨S16384x8x64, (extractStridedSlice S16384x8x64 ![0, 0, 0] y slices_S16384x8x128_S16384x8x64_0_0_0)⟩, ⟨S16384x8x32, (broadcastInDim S16384x8x32 ![0, 1, 2] bcast_S16384x1x32_S16384x8x32_0_1_2 (concatenate S16384x1x32 2 [⟨S16384x1x16, (subf (mulf a C) (mulf b S))⟩, ⟨S16384x1x16, (addf (mulf b C) (mulf a S))⟩] concatenates_S16384x1x16_S16384x1x16_S16384x1x32_d2))⟩] concatenates_S16384x8x64_S16384x8x32_S16384x8x96_d2

/-- One head's 96 entries before the rotation. -/
def keyEntries (n : Fin 64 → EReal) (x : Fin 32 → EReal) (d : Fin 96) : EReal := if hd : d.val < 64 then n ⟨d.val, hd⟩ else x ⟨d.val - 64, by omega⟩

theorem rotK_apply (y : FVec Ideal S16384x8x128 .f32) (x : FVec Ideal S16384x32 .f32) (C S : FVec Ideal S16384x1x16 .f32) (r : Fin 16384) (h : Fin 8) (l : Fin 96) :
    rotK y x C S (ix3 r h l) = rotated (keyEntries (fun d => y (ix3 r h ⟨d.val, by omega⟩)) (fun d => x (ix2 r d))) (fun i => C (ix3 r 0 i)) (fun i => S (ix3 r 0 i)) ⟨l.val, by omega⟩ := by
  unfold rotated keyEntries
  pointwise [rotK]
  by_cases h1 : l.val < 64
  · simp only [dif_pos h1]
  · by_cases h2 : l.val < 80
    · simp (disch := omega) only [dif_pos, dif_neg, show 16 + (l.val - 64) = l.val + 16 - 64 by omega]
    · simp (disch := omega) only [dif_neg, show l.val - 64 - 16 = l.val - 80 by omega, show 16 + (l.val - 80) = l.val - 64 by omega, show l.val - 16 - 64 = l.val - 80 by omega]

/-- The reference's three results. -/
def outQ (z : FVec Ideal S16384x8704 .bf16) (p : IVec S8x2048 32) (g : FVec Ideal S768 .f32) (w : FVec Ideal S768x768 .f32) : FVec Ideal S16384x1024 .bf16 :=
  padded (rotQ (upQ (latentQ z g) w) (cosines p) (sines p))

def outK (z : FVec Ideal S16384x8704 .bf16) (x : FVec Ideal S16384x32 .f32) (p : IVec S8x2048 32) (g : FVec Ideal S256 .f32) (w : FVec Ideal S256x1024 .f32) : FVec Ideal S16384x1024 .bf16 :=
  padded (rotK (upKV (latentKV z g) w) x (cosines p) (sines p))

def outV (z : FVec Ideal S16384x8704 .bf16) (g : FVec Ideal S256 .f32) (w : FVec Ideal S256x1024 .f32) : FVec Ideal S16384x512 .bf16 :=
  truncf .bf16 (shapeCast _ (extractStridedSlice S16384x8x64 ![0, 0, 64] (upKV (latentKV z g) w) slices_S16384x8x128_S16384x8x64_0_0_64) shapeCasts_S16384x8x64_S16384x512) bitsLt_bf16_f32

theorem outV_apply (z : FVec Ideal S16384x8704 .bf16) (g : FVec Ideal S256 .f32) (w : FVec Ideal S256x1024 .f32) (r : Fin 16384) (h : Fin 8) (d : Fin 64) :
    outV z g w (ix2 r ⟨h.val * 64 + d.val, by omega⟩) = upKV (latentKV z g) w (ix3 r h ⟨64 + d.val, by omega⟩) := by
  unfold outV
  generalize upKV (latentKV z g) w = y
  pointwise []

/-- One token's cosines and sines. -/
def cosAt (p : IVec S8x2048 32) (r : Fin 16384) (i : Fin 16) : EReal := Ideal.cos (angle (p (ix2 ⟨r.val / 2048, by omega⟩ ⟨r.val % 2048, by omega⟩)) i)
def sinAt (p : IVec S8x2048 32) (r : Fin 16384) (i : Fin 16) : EReal := Ideal.sin (angle (p (ix2 ⟨r.val / 2048, by omega⟩ ⟨r.val % 2048, by omega⟩)) i)

/-- The queries, one entry of a head: -/
theorem outQ_apply (z : FVec Ideal S16384x8704 .bf16) (p : IVec S8x2048 32) (g : FVec Ideal S768 .f32) (w : FVec Ideal S768x768 .f32) (r : Fin 16384) (h : Fin 8) (l : Fin 128) :
    outQ z p g w (ix2 r ⟨h.val * 128 + l.val, by omega⟩)
      = rotated (fun d => ∑ k : Fin 768, normed (Ideal.ofBits .f32 0x44400000#32) (fun k : Fin 768 => z (ix2 r ⟨3072 + k.val, by omega⟩)) (fun k => g (ix1 k)) k * w (ix2 k ⟨h.val * 96 + d.val, by omega⟩))
          (cosAt p r) (sinAt p r) l * scale := by
  unfold outQ
  rw [padded_apply]
  by_cases hl : l.val < 96
  · rw [dif_pos hl, rotQ_apply]
    refine congrArg (· * scale) ?_
    congr 1
    · funext d
      rw [upQ_apply]
      exact Finset.sum_congr rfl fun k _ => congrArg (· * _) (latentQ_apply z g r k)
    · funext i
      rw [cosines_apply, angles_apply]
      rfl
    · funext i
      rw [sines_apply, angles_apply]
      rfl
  · rw [dif_neg hl, rotated_past _ _ _ _ hl, zero_mul]

/-- the other latent's up-projection, -/
theorem upKV_latentKV_apply (z : FVec Ideal S16384x8704 .bf16) (g : FVec Ideal S256 .f32) (w : FVec Ideal S256x1024 .f32) (r : Fin 16384) (h : Fin 8) (d : Fin 128) :
    upKV (latentKV z g) w (ix3 r h d)
      = ∑ k : Fin 256, normed (Ideal.ofBits .f32 0x43800000#32) (fun k : Fin 256 => z (ix2 r ⟨3840 + k.val, by omega⟩)) (fun k => g (ix1 k)) k * w (ix2 k ⟨h.val * 128 + d.val, by omega⟩) := by
  rw [upKV_apply]
  exact Finset.sum_congr rfl fun k _ => congrArg (· * _) (latentKV_apply z g r k)

/-- and the keys. -/
theorem outK_apply (z : FVec Ideal S16384x8704 .bf16) (x : FVec Ideal S16384x32 .f32) (p : IVec S8x2048 32) (g : FVec Ideal S256 .f32) (w : FVec Ideal S256x1024 .f32) (r : Fin 16384) (h : Fin 8) (l : Fin 128) :
    outK z x p g w (ix2 r ⟨h.val * 128 + l.val, by omega⟩)
      = rotated (keyEntries (fun d => upKV (latentKV z g) w (ix3 r h ⟨d.val, by omega⟩)) (fun d => x (ix2 r d))) (cosAt p r) (sinAt p r) l := by
  unfold outK
  rw [padded_apply]
  by_cases hl : l.val < 96
  · rw [dif_pos hl, rotK_apply]
    congr 1
    · funext i
      rw [cosines_apply, angles_apply]
      rfl
    · funext i
      rw [sines_apply, angles_apply]
      rfl
  · rw [dif_neg hl, rotated_past _ _ _ _ hl]

theorem res_out0_eq (m : (ℓ : Loc nD τ sig) → Buf (Elt Ideal) ℓ) (c : Dev nD) :
    Value.res_main_v88 (F := Ideal) m c = outQ (m ((c.tc : Thread nD τ).loc main_arg0)) (m ((c.tc : Thread nD τ).loc main_arg2)) (m ((c.tc : Thread nD τ).loc main_arg3)) (m ((c.tc : Thread nD τ).loc main_arg5)) := by
  unfold Value.res_main_v88
  rfl

theorem res_out1_eq (m : (ℓ : Loc nD τ sig) → Buf (Elt Ideal) ℓ) (c : Dev nD) :
    Value.res_main_v92 (F := Ideal) m c = outK (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6)) := by
  unfold Value.res_main_v92
  rfl

end Cert.Reference5Ideal.Latent

end
-- ==== Proof.LatentResult.lean ====
/- The latent attention's kernel: the blocks a grid point leaves are the reference's results there. -/
module

public import proofs.«01_k».proof.Proof.LatentArray
public import proofs.«01_k».proof.Proof.LatentReal
public import proofs.«01_k».proof.Proof.LatentReference

@[expose] public section

set_option maxRecDepth 16384

noncomputable section

namespace Cert.Kernel5Ideal.Latent

open Cert.Kernel5Ideal Cert.Kernel5Ideal.Gen Cert.Kernel5Ideal.Facts
open Idealize.ShloMosaic Idealize.ShloMosaic.TcCoe Idealize.SL.Sem
open Cert.Proof.Latent

variable (m : (ℓ : Loc nD τ sig) → Buf (Elt Ideal) ℓ)

/-- The memory's arguments. -/
abbrev argZ (c : Dev nD) : FVec Ideal S16384x8704 .bf16 := m ((c : Thread nD τ).loc main_arg0)
abbrev argR (c : Dev nD) : FVec Ideal S16384x32 .f32 := m ((c : Thread nD τ).loc main_arg1)
abbrev argP (c : Dev nD) : IVec S8x2048 32 := m ((c : Thread nD τ).loc main_arg2)
abbrev argG (c : Dev nD) : FVec Ideal S768 .f32 := m ((c : Thread nD τ).loc main_arg3)
abbrev argH (c : Dev nD) : FVec Ideal S256 .f32 := m ((c : Thread nD τ).loc main_arg4)
abbrev argW (c : Dev nD) : FVec Ideal S768x768 .f32 := m ((c : Thread nD τ).loc main_arg5)
abbrev argU (c : Dev nD) : FVec Ideal S256x1024 .f32 := m ((c : Thread nD τ).loc main_arg6)

/-- The reference's results of them. -/
def resultQ (c : Dev nD) : FVec Ideal S16384x1024 .bf16 := Cert.Reference5Ideal.Latent.outQ (argZ m c) (argP m c) (argG m c) (argW m c)
def resultK (c : Dev nD) : FVec Ideal S16384x1024 .bf16 := Cert.Reference5Ideal.Latent.outK (argZ m c) (argR m c) (argP m c) (argH m c) (argU m c)
def resultV (c : Dev nD) : FVec Ideal S16384x512 .bf16 := Cert.Reference5Ideal.Latent.outV (argZ m c) (argH m c) (argU m c)

/-- One token's normalised latents. -/
def latQ (c : Dev nD) (n : Fin 16384) (k : Fin 768) : EReal :=
  normed (Ideal.ofBits .f32 0x44400000#32) (fun k : Fin 768 => argZ m c (ix2 n ⟨3072 + k.val, by omega⟩)) (fun k => argG m c (ix1 k)) k
def latKV (c : Dev nD) (n : Fin 16384) (k : Fin 256) : EReal :=
  normed (Ideal.ofBits .f32 0x43800000#32) (fun k : Fin 256 => argZ m c (ix2 n ⟨3840 + k.val, by omega⟩)) (fun k => argH m c (ix1 k)) k

theorem Q_apply (c : Dev nD) (t : Fin cfg0.N) (r : Fin 512) (j : Fin 1024) :
    Q m c t (ix2 r j) = ∑ k : Fin 768, latQ m c (rowAt t r) k * weightsQ (argW m c) (ix2 k j) := by
  unfold Q
  rw [pay1_apply]
  refine Finset.sum_congr rfl fun k _ => congrArg₂ (· * ·) ?_ (weights4 m c t k j)
  unfold latQ
  rw [show (fun k => X0_0 m c t (ix2 r k)) = _ from funext (latent0 m c t r), show (fun k => iblk m c 2 t (ix2 0 k)) = _ from funext (scale2 m c t)]

theorem KV_apply (c : Dev nD) (t : Fin cfg0.N) (r : Fin 512) (j : Fin 1536) :
    KV m c t (ix2 r j) = ∑ k : Fin 256, latKV m c (rowAt t r) k * weightsKV (argU m c) (ix2 k j) := by
  unfold KV
  rw [pay4_apply]
  refine Finset.sum_congr rfl fun k _ => congrArg₂ (· * ·) ?_ ((pay2_apply _ k j).trans (weights5 m c t k j))
  rw [pay3_apply]
  unfold latKV
  rw [show (fun k => iblk m c 1 t (ix2 r k)) = _ from funext (latent1 m c t r), show (fun k => iblk m c 3 t (ix2 0 k)) = _ from funext (scale3 m c t)]

/-- The queries' block, when the scale and the weights are reals. -/
theorem block9 (c : Dev nD) (hg : ∀ i, ∃ v : ℝ, argG m c i = (v : EReal)) (hw : ∀ i, ∃ v : ℝ, argW m c i = (v : EReal)) (t : Fin cfg0.N) (r : Fin 512) (h : Fin 8) (l : Fin 128) :
    turnedSum (Q m c t) (k0_pay8 (F := Ideal) (iblk m c 7 t)) (k0_pay9 (F := Ideal) (iblk m c 8 t)) h r l
      = resultQ m c (ix2 (rowAt t r) ⟨h.val * 128 + l.val, by omega⟩) := by
  have hl : ∀ k, ∃ v : ℝ, latQ m c (rowAt t r) k = (v : EReal) := fun k => by
    unfold latQ
    rw [count_real]
    exact normed_real 768 (by norm_num) _ _ (fun k => hg (ix1 k)) k
  unfold resultQ
  rw [Cert.Reference5Ideal.Latent.outQ_apply]
  unfold turnedSum
  rw [pay8_apply, pay9_apply, table7 m c t r l, table8 m c t r l]
  refine scaled_eq (fun d => ∑ k : Fin 768, latQ m c (rowAt t r) k * argW m c (ix2 k ⟨h.val * 96 + d.val, by omega⟩))
    (fun l => Q m c t (ix2 r ⟨h.val * 128 + l.val, by omega⟩)) (cosines (argP m c) (rowAt t r)) (sines (argP m c) (rowAt t r)) ?_ ?_ ?_ l
  · intro l
    rw [Q_apply]
    exact Finset.sum_congr rfl fun k _ => congrArg (_ * ·) (weightsQ_head _ k h l)
  · intro i
    rw [Q_apply]
    refine Eq.trans (Finset.sum_congr rfl fun k _ => (congrArg (_ * ·) (weightsQ_minus _ k h i)).trans (mul_neg _ _)) (sum_neg_real _ fun k => ?_)
    obtain ⟨a, ha⟩ := hl k
    obtain ⟨b, hb⟩ := hw (ix2 k ⟨h.val * 96 + (80 + i.val), by omega⟩)
    exact ⟨a * b, by rw [ha, hb, EReal.coe_mul]⟩
  · intro i
    rw [Q_apply]
    exact Finset.sum_congr rfl fun k _ => congrArg (_ * ·) (weightsQ_plus _ k h i)

/-- The keys' block. -/
theorem block10 (c : Dev nD) (t : Fin cfg0.N) (r : Fin 512) (h : Fin 8) (l : Fin 128) :
    KV m c t (ix2 r ⟨h.val * 128 + l.val, by omega⟩) + k0_pay10 (F := Ideal) (iblk m c 7 t) (iblk m c 8 t) (iblk m c 6 t) (ix2 r l)
      = resultK m c (ix2 (rowAt t r) ⟨h.val * 128 + l.val, by omega⟩) := by
  unfold resultK
  rw [Cert.Reference5Ideal.Latent.outK_apply, pay10_apply, table7 m c t r l, table8 m c t r l, key6 m c t r l, key6 m c t r (turned l)]
  refine keys_eq _ (fun l => KV m c t (ix2 r ⟨h.val * 128 + l.val, by omega⟩)) (fun l => small (argR m c) (ix2 (rowAt t r) l))
    (cosines (argP m c) (rowAt t r)) (sines (argP m c) (rowAt t r)) ?_ ?_ ?_ ?_ ?_ l
  · intro l
    unfold Cert.Reference5Ideal.Latent.keyEntries
    rw [dif_pos l.isLt, KV_apply]
    refine Eq.trans ?_ (Cert.Reference5Ideal.Latent.upKV_latentKV_apply _ _ _ (rowAt t r) h ⟨l.val, by omega⟩).symm
    exact Finset.sum_congr rfl fun k _ => congrArg (_ * ·) (weightsKV_key _ k h l)
  · intro l
    rw [KV_apply]
    exact Finset.sum_eq_zero fun k _ => (congrArg (_ * ·) (weightsKV_zero _ k h l)).trans (mul_zero _)
  · intro i
    unfold Cert.Reference5Ideal.Latent.keyEntries
    rw [dif_neg (by simp)]
    exact (small_key _ _ i).trans (congrArg (fun i => argR m c (ix2 _ i)) (Fin.ext (by simp)))
  · intro i
    unfold Cert.Reference5Ideal.Latent.keyEntries
    rw [dif_neg (by simp only []; omega)]
    exact (small_minus _ _ i).trans (congrArg (fun i => - argR m c (ix2 _ i)) (Fin.ext (by simp only []; omega)))
  · intro i
    unfold Cert.Reference5Ideal.Latent.keyEntries
    rw [dif_neg (by simp)]
    exact (small_plus _ _ i).trans (congrArg (fun i => argR m c (ix2 _ i)) (Fin.ext (by simp)))

/-- The values' block. -/
theorem block11 (c : Dev nD) (t : Fin cfg0.N) (r : Fin 512) (h : Fin 8) (d : Fin 64) :
    KV m c t (ix2 r ⟨1024 + (h.val * 64 + d.val), by omega⟩) = resultV m c (ix2 (rowAt t r) ⟨h.val * 64 + d.val, by omega⟩) := by
  unfold resultV
  rw [Cert.Reference5Ideal.Latent.outV_apply, Cert.Reference5Ideal.Latent.upKV_latentKV_apply, KV_apply]
  exact Finset.sum_congr rfl fun k _ => congrArg (_ * ·) (weightsKV_value _ k h d)

end Cert.Kernel5Ideal.Latent

end
-- ==== Proof.LatentFinite.lean ====
/- What the latent attention's precondition says: the queries' scale and up-projection are reals. -/
module

public import proofs.«01_k».proof.Proof.Finite
public import proofs.«01_k».proof.Proof.Gen.Pre_finite5

@[expose] public section

set_option maxRecDepth 16384

noncomputable section

namespace Cert.Proof.Latent

open Idealize.ShloMosaic
open Cert.Pre_finite5 Cert.Pre_finite5.Facts

attribute [local instance] Cert.Pre_finite5.Gen.facts

theorem reals_of_finite (z : FVec Ideal S16384x8704 .bf16) (x : FVec Ideal S16384x32 .f32) (p : IVec S8x2048 32) (g : FVec Ideal S768 .f32) (g' : FVec Ideal S256 .f32)
    (w : FVec Ideal S768x768 .f32) (w' : FVec Ideal S256x1024 .f32) (h : Cert.Pre_finite5.fn (F := Ideal) z x p g g' w w' = fun _ => 1#1) :
    (∀ i, ∃ r : ℝ, g i = (r : EReal)) ∧ ∀ i, ∃ r : ℝ, w i = (r : EReal) := by
  haveI : Subsingleton S_.Idx := ⟨fun a b => funext fun i => i.elim0⟩
  obtain ⟨h1, h2⟩ := IntOp.andi_eq_one.1 (congrFun h ix0)
  refine ⟨fun i => Cert.Attn.real_of_abs _ ?_, fun i => Cert.Attn.real_of_abs _ ?_⟩
  · have := Host.reduce_andi_all _ _ _ _ _ h1 i
    rw [← Cert.Attn.ofBits_inf]
    exact this
  · have := Host.reduce_andi_all _ _ _ _ _ h2 i
    rw [← Cert.Attn.ofBits_inf]
    exact this

end Cert.Proof.Latent

end
-- ==== Proof.LatentFrames.lean ====
/- The latent attention's queries, keys and values: the program as printed and its idealization are the same text, so one run gives both frames. -/
module

public import proofs.«01_k».proof.Defs
public import proofs.«01_k».proof.Proof.Gen.Kernel5
public import proofs.«01_k».proof.Proof.Gen.Kernel5Ideal.Frame
public import Idealize.ShloMosaic.Lib.Quiescent

@[expose] public section

set_option maxRecDepth 100000
set_option maxHeartbeats 2000000

noncomputable section

namespace Cert.Proof.Latent

open Idealize.ShloMosaic Idealize.ShloMosaic.TcCoe Idealize.SL.Sem

attribute [local instance] Cert.Kernel5.Gen.facts Cert.Kernel5Ideal.Gen.facts

/-- The two programs' bodies are the same, -/
theorem defs₀_eq : Cert.Kernel5.defs₀ (F := Bits) = Cert.Kernel5Ideal.defs₀ (F := Bits) := by
  unfold Cert.Kernel5.defs₀ Cert.Kernel5Ideal.defs₀
  refine congrArg Defs.onTc ?_
  funext p x
  match p, x with
  | 0, (t, s) => rfl

/-- and so are their tables. -/
theorem defs_eq : Cert.Kernel5.defs (F := Bits) = Cert.Kernel5Ideal.defs (F := Bits) := by
  unfold Cert.Kernel5.defs Cert.Kernel5Ideal.defs
  exact congrArg (Pipeline.defs _) defs₀_eq

/-- The kernel's frame. -/
theorem frame_p : Cert.quiescent_Kernel5 := fun m ρ _ => by
  have h := Cert.Kernel5Ideal.Gen.frame (F := Bits) m ρ
  rw [← defs_eq] at h
  exact h

/-- The idealized kernel's frame. -/
theorem frame_pi : Cert.quiescent_Kernel5Ideal := fun m ρ _ => Cert.Kernel5Ideal.Gen.frame (F := Ideal) m ρ

end Cert.Proof.Latent

end
-- ==== Proof.LatentClaim.lean ====
/- The claims of the latent attention's queries, keys and values: the three arrays the kernel leaves, its reference's frame,
   and that the three results are the same. -/
module

public import proofs.«01_k».proof.Proof.LatentResult
public import proofs.«01_k».proof.Proof.LatentFinite
public import proofs.«01_k».proof.Proof.LatentFrames
public import proofs.«01_k».proof.Proof.Gen.Reference5Ideal
public import Idealize.ShloMosaic.Lib.Pipeline.Covers

@[expose] public section

set_option maxRecDepth 16384

noncomputable section

namespace Cert.Kernel5Ideal.Latent

open Cert.Kernel5Ideal Cert.Kernel5Ideal.Gen Cert.Kernel5Ideal.Facts
open Idealize.ShloMosaic Idealize.ShloMosaic.TcCoe Idealize.SL.Sem
open Idealize.ShloMosaic.Pipeline (Dat Cfg Window)

variable (m : (ℓ : Loc nD τ sig) → Buf (Elt Ideal) ℓ)

theorem covers9 : (cfg0.win 9).Covers := by decide +kernel
theorem covers10 : (cfg0.win 10).Covers := by decide +kernel
theorem covers11 : (cfg0.win 11).Covers := by decide +kernel

theorem index9 : ∀ t : Fin cfg0.N, win0_9.index t 0 = t.val ∧ win0_9.index t 1 = 0 := by decide +kernel
theorem index10 : ∀ t : Fin cfg0.N, win0_10.index t 0 = t.val ∧ win0_10.index t 1 = 0 := by decide +kernel
theorem index11 : ∀ t : Fin cfg0.N, win0_11.index t 0 = t.val ∧ win0_11.index t 1 = 0 := by decide +kernel

/-- Where a result's block lies. -/
theorem emb9 (t : Fin cfg0.N) (r : Fin 512) (j : Fin 1024) : (win0_9.blk t).view.emb (ix2 r j) = ix2 (n0 := 16384) (n1 := 1024) (rowAt t r) j := by
  funext a
  refine Fin.ext ?_
  fin_cases a
  · blk_simp [(index9 t).1]
    show t.val * 512 + r.val = 512 * t.val + r.val
    omega
  · blk_simp [(index9 t).2]
    rfl

theorem emb10 (t : Fin cfg0.N) (r : Fin 512) (j : Fin 1024) : (win0_10.blk t).view.emb (ix2 r j) = ix2 (n0 := 16384) (n1 := 1024) (rowAt t r) j := by
  funext a
  refine Fin.ext ?_
  fin_cases a
  · blk_simp [(index10 t).1]
    show t.val * 512 + r.val = 512 * t.val + r.val
    omega
  · blk_simp [(index10 t).2]
    rfl

theorem emb11 (t : Fin cfg0.N) (r j : Fin 512) : (win0_11.blk t).view.emb (ix2 r j) = ix2 (n0 := 16384) (n1 := 512) (rowAt t r) j := by
  funext a
  refine Fin.ext ?_
  fin_cases a
  · blk_simp [(index11 t).1]
    show t.val * 512 + r.val = 512 * t.val + r.val
    omega
  · blk_simp [(index11 t).2]
    rfl

/-- A column is its head's lane. -/
theorem column (j : Fin 1024) : (⟨j.val / 128 * 128 + j.val % 128, by omega⟩ : Fin 1024) = j := Fin.ext (by show j.val / 128 * 128 + j.val % 128 = j.val; omega)

/-- The three arrays the kernel leaves are the reference's three results. -/
theorem array9 (c : Dev nD) (hg : ∀ i, ∃ v : ℝ, argG m c i = (v : EReal)) (hw : ∀ i, ∃ v : ℝ, argW m c i = (v : EReal)) :
    (dats (F := Ideal) m 0 c).arrAt 9 cfg0.N = resultQ m c := by
  refine (dats m 0 c).arrAt_eq_of_covers 9 _ covers9 fun t hf y => ?_
  blk_simp
  rw [after0_9]
  obtain ⟨r, j, rfl⟩ : ∃ (r : Fin 512) (j : Fin 1024), y = ix2 r j := ⟨y 0, y 1, eq_ix2 y⟩
  refine (left9 m c t r j).trans ((block9 m c hg hw t r ⟨j.val / 128, by omega⟩ ⟨j.val % 128, by omega⟩).trans ?_)
  exact (congrArg (fun j => resultQ m c (ix2 (rowAt t r) j)) (column j)).trans (congrArg (resultQ m c) (emb9 t r j).symm)

theorem array10 (c : Dev nD) : (dats (F := Ideal) m 0 c).arrAt 10 cfg0.N = resultK m c := by
  refine (dats m 0 c).arrAt_eq_of_covers 10 _ covers10 fun t hf y => ?_
  blk_simp
  rw [after0_10]
  obtain ⟨r, j, rfl⟩ : ∃ (r : Fin 512) (j : Fin 1024), y = ix2 r j := ⟨y 0, y 1, eq_ix2 y⟩
  have e : (⟨j.val, by omega⟩ : Fin 1536) = ⟨j.val / 128 * 128 + j.val % 128, by omega⟩ := Fin.ext (by show j.val = j.val / 128 * 128 + j.val % 128; omega)
  refine (left10 m c t r j).trans ?_
  rw [e]
  refine (block10 m c t r ⟨j.val / 128, by omega⟩ ⟨j.val % 128, by omega⟩).trans ?_
  exact (congrArg (fun j => resultK m c (ix2 (rowAt t r) j)) (column j)).trans (congrArg (resultK m c) (emb10 t r j).symm)

theorem array11 (c : Dev nD) : (dats (F := Ideal) m 0 c).arrAt 11 cfg0.N = resultV m c := by
  refine (dats m 0 c).arrAt_eq_of_covers 11 _ covers11 fun t hf y => ?_
  blk_simp
  rw [after0_11]
  obtain ⟨r, j, rfl⟩ : ∃ r j : Fin 512, y = ix2 r j := ⟨y 0, y 1, eq_ix2 y⟩
  have e : (⟨j.val / 64 * 64 + j.val % 64, by omega⟩ : Fin 512) = j := Fin.ext (by show j.val / 64 * 64 + j.val % 64 = j.val; omega)
  have e' : (⟨1024 + j.val, by omega⟩ : Fin 1536) = ⟨1024 + (j.val / 64 * 64 + j.val % 64), by omega⟩ := Fin.ext (by show 1024 + j.val = 1024 + (j.val / 64 * 64 + j.val % 64); omega)
  refine (left11 m c t r j).trans ?_
  rw [e']
  refine (block11 m c t r ⟨j.val / 64, by omega⟩ ⟨j.val % 64, by omega⟩).trans ?_
  exact (congrArg (fun j => resultV m c (ix2 (rowAt t r) j)) e).trans (congrArg (resultV m c) (emb11 t r j).symm)

end Cert.Kernel5Ideal.Latent

namespace Cert.Proof.Latent

open Idealize.ShloMosaic Idealize.ShloMosaic.TcCoe Idealize.SL.Sem

attribute [local instance] Cert.Kernel5Ideal.Gen.facts Cert.Reference5Ideal.Gen.facts Cert.Pre_finite5.Gen.facts

/-- The reference's frame. -/
theorem frame_ri : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

/-- The kernel and the reference end with the same three results. -/
theorem algebraic : Cert.algebraic_Kernel5Ideal_Reference5Ideal_pre_finite5 := by
  intro m ρ m' ρ' hpre hagree
  refine ⟨_, _, _, (θ_run Cert.Kernel5Ideal.defs _ _).mono
    (fun _ h c => ⟨(h c).1.trans (Cert.Kernel5Ideal.Latent.array9 m c (reals_of_finite _ _ _ _ _ _ _ (hpre c)).1 (reals_of_finite _ _ _ _ _ _ _ (hpre c)).2),
      (h c).2.1.trans (Cert.Kernel5Ideal.Latent.array10 m c), (h c).2.2.1.trans (Cert.Kernel5Ideal.Latent.array11 m c), (h c).2.2.2⟩)
    (Cert.Kernel5Ideal.Value.run_blocks (F := Ideal) m ρ), ?_⟩
  refine (θ_run Cert.Reference5Ideal.defs _ _).mono (fun _ h c => ?_) (Cert.Reference5Ideal.Value.run (F := Ideal) m' ρ')
  obtain ⟨h0, h1, h2, h3⟩ := h c
  obtain ⟨e0, e1, e2, e3, e4, e5, e6⟩ := hagree c
  replace h2 := h2.trans (show _ = Cert.Reference5Ideal.Latent.outV _ _ _ from rfl)
  rw [Cert.Reference5Ideal.Latent.res_out0_eq] at h0
  rw [Cert.Reference5Ideal.Latent.res_out1_eq] at h1
  rw [e0, e2, e3, e5] at h0
  rw [e0, e1, e2, e4, e6] at h1
  rw [e0, e4, e6] at h2
  exact ⟨h0, h1, h2, h3⟩

end Cert.Proof.Latent

end
-- ==== Proof.lean ====
module

public import proofs.«01_k».proof.Defs
public import proofs.«01_k».proof.Proof.Patterns
public import proofs.«01_k».proof.Proof.Array
public import proofs.«01_k».proof.Proof.Finite
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.InClaim
public import proofs.«01_k».proof.Proof.QueryClaim
public import proofs.«01_k».proof.Proof.Gen.Kernel2
public import proofs.«01_k».proof.Proof.Gen.Kernel2Ideal.Frame
public import proofs.«01_k».proof.Proof.Gen.Reference2Ideal.Run
public import proofs.«01_k».proof.Proof.Gen.Kernel3
public import proofs.«01_k».proof.Proof.Gen.Kernel3Ideal.Value
public import proofs.«01_k».proof.Proof.Gen.Reference3Ideal.Run
public import proofs.«01_k».proof.Proof.MergeClaim
public import proofs.«01_k».proof.Proof.Gen.Kernel4
public import proofs.«01_k».proof.Proof.Gen.Kernel4Ideal.Value
public import proofs.«01_k».proof.Proof.Gen.Reference4Ideal.Run
public import proofs.«01_k».proof.Proof.LatentClaim
public import proofs.«01_k».proof.Proof.Gen.Pre_finite5
public import proofs.«01_k».proof.Proof.Gen.Kernel5
public import proofs.«01_k».proof.Proof.Gen.Kernel5Ideal.Value
public import proofs.«01_k».proof.Proof.Gen.Reference5Ideal.Run
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite.Gen.facts
attribute [local instance] Cert.Kernel2.Gen.facts Cert.Kernel2Ideal.Gen.facts Cert.Reference2Ideal.Gen.facts
attribute [local instance] Cert.Kernel3.Gen.facts Cert.Kernel3Ideal.Gen.facts Cert.Reference3Ideal.Gen.facts
attribute [local instance] Cert.Kernel4.Gen.facts Cert.Kernel4Ideal.Gen.facts Cert.Reference4Ideal.Gen.facts
attribute [local instance] Cert.Kernel5.Gen.facts Cert.Kernel5Ideal.Gen.facts Cert.Reference5Ideal.Gen.facts Cert.Pre_finite5.Gen.facts

/-- The reference's frame. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mask's constant is minus infinity by the table of names. -/
theorem preserves : Cert.preserves_Kernel_KernelIdeal :=
  IdealRules.named_const.statement Cert.KernelIdeal.κ "mask" .f32 0xF149F2CA#32 ⊥ rfl

/-- The kernel ends with the reference's result of its arrays, when the queries and keys are reals, and its arrays unchanged. -/
theorem kernel_value (m : (ℓ : Loc Cert.KernelIdeal.nD Cert.KernelIdeal.τ Cert.KernelIdeal.sig) → Buf (Elt Ideal) ℓ) (ρ : Dev Cert.KernelIdeal.nD → PrngReg)
    (hpre : Cert.Pre_KernelIdeal_finite m) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v0)
        = Cert.ReferenceIdeal.Attn.out (F := Ideal) (m ((c.tc : Thread Cert.KernelIdeal.nD Cert.KernelIdeal.τ).loc Cert.KernelIdeal.main_arg0))
            (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) := by
  have hf := Cert.KernelIdeal.Gen.frame_of m ρ (Cert.KernelIdeal.Attn.dats m) (Cert.KernelIdeal.Attn.A_eq m) (Cert.KernelIdeal.Attn.run_main m ρ)
  refine (θ_run Cert.KernelIdeal.defs _ _).mono (fun r h c => ⟨?_, h.2 c⟩) (θ_run_and (Cert.KernelIdeal.Attn.run_main m ρ) hf)
  obtain ⟨⟨Q, hQ⟩, K, hK⟩ := Cert.Attn.reals_of_finite _ _ _ (hpre c)
  exact ((h.1 c).1 3).trans (Cert.KernelIdeal.Attn.array_value m c Q K hQ hK)

/-- The idealized kernel and the reference end with the same result. -/
theorem algebraic : Cert.algebraic_KernelIdeal_ReferenceIdeal_pre_finite := by
  intro m ρ m' ρ' hpre hagree
  refine ⟨_, kernel_value m ρ hpre, ?_⟩
  refine (θ_run Cert.ReferenceIdeal.defs _ _).mono (fun _ h c => ⟨(h c).1.trans ?_, (h c).2⟩) (Cert.ReferenceIdeal.Value.run (F := Ideal) m' ρ')
  refine (Cert.ReferenceIdeal.Attn.res_eq (F := Ideal) m' c).trans ?_
  rw [(hagree c).1, (hagree c).2.1, (hagree c).2.2]

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_finite.Gen.facts, Cert.Pre_finite5.Gen.facts,
    Attn.frame_p, Attn.frame_pi, fun m ρ _ => Attn.frame_pi m ρ trivial, frame_ri, fun m ρ _ => frame_ri m ρ trivial,
    InProj.frame_p, InProj.frame_pi, InProj.frame_ri, Query.frame_p, Query.frame_pi, Query.frame_ri,
    Merge.frame_p, Merge.frame_pi, Merge.frame_ri,
    Latent.frame_p, Latent.frame_pi, fun m ρ _ => Latent.frame_pi m ρ trivial, Latent.frame_ri, fun m ρ _ => Latent.frame_ri m ρ trivial,
    preserves, algebraic, trivial, InProj.algebraic, trivial, Query.algebraic, trivial, Merge.algebraic, trivial, Latent.algebraic⟩

end Cert.Proof

end
